-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v464) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S8x2048 : Shape := ⟨2, ![8, 2048]⟩
abbrev S256x128 : Shape := ⟨2, ![256, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x768 : Shape := ⟨2, ![256, 768]⟩
abbrev S768 : Shape := ⟨1, ![768]⟩
abbrev S_ : Shape := ⟨0, ![]⟩

class Facts : Prop where
  bcast_S_S8x2048 : S_.BroadcastsInDim S8x2048 (![] : Fin 0 → Fin S8x2048.rank)
  reducesTo_S8x2048_S_d0_1 : S8x2048.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg9 : FVec F S256 .f32) (main_v30 : IVec S_ 1) (main_v33 : IVec S256 1) : IVec S_ 1 :=
  let main_c_12 : IVec S_ 1 := constantI S_ 1 1#1
  let main_v34 : IVec S_ 1 := (fun x v => Host.reduce IntOp.andi x v reducesTo_S256_S_d0 h_S_) main_v33 main_c_12
  let main_v35 : IVec S_ 1 := andi main_v30 main_v34
  let main_v36 : FVec F S256 .f32 := Host.absf main_arg9
  let main_cst_13 : FVec F S_ .f32 := constant S_ .f32 0x7F800000#32
  let main_v37 : FVec F S256 .f32 := broadcastInDim S256 ![] bcast_S_S256 main_cst_13
  let main_v38 : IVec S256 1 := cmpf .olt main_v36 main_v37
  let main_c_14 : IVec S_ 1 := constantI S_ 1 1#1
  let main_v39 : IVec S_ 1 := (fun x v => Host.reduce IntOp.andi x v reducesTo_S256_S_d0 h_S_) main_v38 main_c_14
  let main_v40 : IVec S_ 1 := andi main_v35 main_v39
  main_v40

def fn_part1 {F : FTy → Type} [FloatOps F] (main_arg5 : FVec F S256 .f32) (main_arg7 : FVec F S256x256 .f32) (main_arg8 : FVec F S256 .f32) (main_arg9 : FVec F S256 .f32) (main_v15 : IVec S_ 1) (main_v16 : FVec F S256 .f32) : IVec S_ 1 :=
  let main_cst_5 : FVec F S_ .f32 := constant S_ .f32 0x7F800000#32
  let main_v17 : FVec F S256 .f32 := broadcastInDim S256 ![] bcast_S_S256 main_cst_5
  let main_v18 : IVec S256 1 := cmpf .olt main_v16 main_v17
  let main_c_6 : IVec S_ 1 := constantI S_ 1 1#1
  let main_v19 : IVec S_ 1 := (fun x v => Host.reduce IntOp.andi x v reducesTo_S256_S_d0 h_S_) main_v18 main_c_6
  let main_v20 : IVec S_ 1 := andi main_v15 main_v19
  let main_v21 : FVec F S256 .f32 := Host.absf main_arg5
  let main_cst_7 : FVec F S_ .f32 := constant S_ .f32 0x7F800000#32
  let main_v22 : FVec F S256 .f32 := broadcastInDim S256 ![] bcast_S_S256 main_cst_7
  let main_v23 : IVec S256 1 := cmpf .olt main_v21 main_v22
  let main_c_8 : IVec S_ 1 := constantI S_ 1 1#1
  let main_v24 : IVec S_ 1 := (fun x v => Host.reduce IntOp.andi x v reducesTo_S256_S_d0 h_S_) main_v23 main_c_8
  let main_v25 : IVec S_ 1 := andi main_v20 main_v24
  let main_v26 : FVec F S256x256 .f32 := Host.absf main_arg7
  let main_cst_9 : FVec F S_ .f32 := constant S_ .f32 0x7F800000#32
  let main_v27 : FVec F S256x256 .f32 := broadcastInDim S256x256 ![] bcast_S_S256x256 main_cst_9
  let main_v28 : IVec S256x256 1 := cmpf .olt main_v26 main_v27
  let main_c_10 : IVec S_ 1 := constantI S_ 1 1#1
  let main_v29 : IVec S_ 1 := (fun x v => Host.reduce IntOp.andi x v reducesTo_S256x256_S_d0_1 h_S_) main_v28 main_c_10
  let main_v30 : IVec S_ 1 := andi main_v25 main_v29
  let main_v31 : FVec F S256 .f32 := Host.absf main_arg8
  let main_cst_11 : FVec F S_ .f32 := constant S_ .f32 0x7F800000#32
  let main_v32 : FVec F S256 .f32 := broadcastInDim S256 ![] bcast_S_S256 main_cst_11
  let main_v33 : IVec S256 1 := cmpf .olt main_v31 main_v32
  fn_part2 (F := F) main_arg9 main_v30 main_v33

def fn {F : FTy → Type} [FloatOps F] (main_arg0 : IVec S8x2048 32) (main_arg1 : IVec S8x2048 32) (main_arg2 : FVec F S256x128 .f32) (main_arg3 : FVec F S128x256 .f32) (main_arg4 : FVec F S256 .f32) (main_arg5 : FVec F S256 .f32) (main_arg6 : FVec F S256 .f32) (main_arg7 : FVec F S256x256 .f32) (main_arg8 : FVec F S256 .f32) (main_arg9 : FVec F S256 .f32) (main_arg10 : FVec F S256 .f32) (main_arg11 : FVec F S256x1 .f32) (main_arg12 : FVec F S1 .f32) (main_arg13 : FVec F S256x1 .f32) (main_arg14 : FVec F S1 .f32) (main_arg15 : FVec F S256x768 .f32) (main_arg16 : FVec F S768 .f32) (main_arg17 : FVec F S768 .f32) (main_arg18 : FVec F S768 .f32) : IVec S_ 1 :=
  let main_c : IVec S_ 32 := constantI S_ 32 0#32
  let main_v0 : IVec S8x2048 32 := broadcastInDim S8x2048 ![] bcast_S_S8x2048 main_c
  let main_v1 : IVec S8x2048 1 := cmpi .sge main_arg0 main_v0
  let main_c_0 : IVec S_ 32 := constantI S_ 32 256#32
  let main_v2 : IVec S8x2048 32 := broadcastInDim S8x2048 ![] bcast_S_S8x2048 main_c_0
  let main_v3 : IVec S8x2048 1 := cmpi .slt main_arg0 main_v2
  let main_v4 : IVec S8x2048 1 := andi main_v1 main_v3
  let main_c_1 : IVec S_ 1 := constantI S_ 1 1#1
  let main_v5 : IVec S_ 1 := (fun x v => Host.reduce IntOp.andi x v reducesTo_S8x2048_S_d0_1 h_S_) main_v4 main_c_1
  let main_v6 : FVec F S256x128 .f32 := Host.absf main_arg2
  let main_cst : FVec F S_ .f32 := constant S_ .f32 0x7F800000#32
  let main_v7 : FVec F S256x128 .f32 := broadcastInDim S256x128 ![] bcast_S_S256x128 main_cst
  let main_v8 : IVec S256x128 1 := cmpf .olt main_v6 main_v7
  let main_c_2 : IVec S_ 1 := constantI S_ 1 1#1
  let main_v9 : IVec S_ 1 := (fun x v => Host.reduce IntOp.andi x v reducesTo_S256x128_S_d0_1 h_S_) main_v8 main_c_2
  let main_v10 : IVec S_ 1 := andi main_v5 main_v9
  let main_v11 : FVec F S128x256 .f32 := Host.absf main_arg3
  let main_cst_3 : FVec F S_ .f32 := constant S_ .f32 0x7F800000#32
  let main_v12 : FVec F S128x256 .f32 := broadcastInDim S128x256 ![] bcast_S_S128x256 main_cst_3
  let main_v13 : IVec S128x256 1 := cmpf .olt main_v11 main_v12
  let main_c_4 : IVec S_ 1 := constantI S_ 1 1#1
  let main_v14 : IVec S_ 1 := (fun x v => Host.reduce IntOp.andi x v reducesTo_S128x256_S_d0_1 h_S_) main_v13 main_c_4
  let main_v15 : IVec S_ 1 := andi main_v10 main_v14
  let main_v16 : FVec F S256 .f32 := Host.absf main_arg4
  fn_part1 (F := F) main_arg5 main_arg7 main_arg8 main_arg9 main_v15 main_v16
-- ==== Kernel.lean ====
abbrev S8x2048 : Shape := ⟨2, ![8, 2048]⟩
abbrev S256x128 : Shape := ⟨2, ![256, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x768 : Shape := ⟨2, ![256, 768]⟩
abbrev S768 : Shape := ⟨1, ![768]⟩
abbrev S8x1x2048 : Shape := ⟨3, ![8, 1, 2048]⟩
abbrev S1x256 : Shape := ⟨2, ![1, 256]⟩
abbrev S1x1 : Shape := ⟨2, ![1, 1]⟩
abbrev S1x768 : Shape := ⟨2, ![1, 768]⟩
abbrev S8x2048x256 : Shape := ⟨3, ![8, 2048, 256]⟩
abbrev S8x256 : Shape := ⟨2, ![8, 256]⟩
abbrev S1x1x2048 : Shape := ⟨3, ![1, 1, 2048]⟩
abbrev S1x2048x256 : Shape := ⟨3, ![1, 2048, 256]⟩
abbrev S1x2048 : Shape := ⟨2, ![1, 2048]⟩
abbrev S256x2048 : Shape := ⟨2, ![256, 2048]⟩
abbrev S2048x128 : Shape := ⟨2, ![2048, 128]⟩
abbrev S2048x256 : Shape := ⟨2, ![2048, 256]⟩
abbrev S8x2048x1 : Shape := ⟨3, ![8, 2048, 1]⟩
abbrev S1x2048x1 : Shape := ⟨3, ![1, 2048, 1]⟩
abbrev S2048x1 : Shape := ⟨2, ![2048, 1]⟩
abbrev S8x1 : Shape := ⟨2, ![8, 1]⟩
abbrev S8x2047 : Shape := ⟨2, ![8, 2047]⟩
abbrev S8x2 : Shape := ⟨2, ![8, 2]⟩
abbrev S8x2046 : Shape := ⟨2, ![8, 2046]⟩
abbrev S8x4 : Shape := ⟨2, ![8, 4]⟩
abbrev S8x2044 : Shape := ⟨2, ![8, 2044]⟩
abbrev S8x8 : Shape := ⟨2, ![8, 8]⟩
abbrev S8x2040 : Shape := ⟨2, ![8, 2040]⟩
abbrev S8x16 : Shape := ⟨2, ![8, 16]⟩
abbrev S8x2032 : Shape := ⟨2, ![8, 2032]⟩
abbrev S8x32 : Shape := ⟨2, ![8, 32]⟩
abbrev S8x2016 : Shape := ⟨2, ![8, 2016]⟩
abbrev S8x64 : Shape := ⟨2, ![8, 64]⟩
abbrev S8x1984 : Shape := ⟨2, ![8, 1984]⟩
abbrev S8x128 : Shape := ⟨2, ![8, 128]⟩
abbrev S8x1920 : Shape := ⟨2, ![8, 1920]⟩
abbrev S8x1792 : Shape := ⟨2, ![8, 1792]⟩
abbrev S8x512 : Shape := ⟨2, ![8, 512]⟩
abbrev S8x1536 : Shape := ⟨2, ![8, 1536]⟩
abbrev S8x1024 : Shape := ⟨2, ![8, 1024]⟩
abbrev S8x2048x768 : Shape := ⟨3, ![8, 2048, 768]⟩
abbrev S1x256x768 : Shape := ⟨3, ![1, 256, 768]⟩

abbrev nBuf : Space → Nat
  | .hbm => 40
  | .vmem => 46
  | .smem => 0
  | _ => 0

abbrev bufTy : (tb : Table) → Fin (tcTables nBuf tb) → BufTy
  | .hbm, ⟨0, _⟩ => ⟨S8x2048, .i32⟩
  | .hbm, ⟨1, _⟩ => ⟨S8x2048, .i32⟩
  | .hbm, ⟨2, _⟩ => ⟨S256x128, .f32⟩
  | .hbm, ⟨3, _⟩ => ⟨S128x256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256, .f32⟩
  | .hbm, ⟨10, _⟩ => ⟨S256, .f32⟩
  | .hbm, ⟨11, _⟩ => ⟨S256x1, .f32⟩
  | .hbm, ⟨12, _⟩ => ⟨S1, .f32⟩
  | .hbm, ⟨13, _⟩ => ⟨S256x1, .f32⟩
  | .hbm, ⟨14, _⟩ => ⟨S1, .f32⟩
  | .hbm, ⟨15, _⟩ => ⟨S256x768, .f32⟩
  | .hbm, ⟨16, _⟩ => ⟨S768, .f32⟩
  | .hbm, ⟨17, _⟩ => ⟨S768, .f32⟩
  | .hbm, ⟨18, _⟩ => ⟨S768, .f32⟩
  | .hbm, ⟨19, _⟩ => ⟨S8x1x2048, .i32⟩
  | .hbm, ⟨20, _⟩ => ⟨S1x256, .f32⟩
  | .hbm, ⟨21, _⟩ => ⟨S1x256, .f32⟩
  | .hbm, ⟨22, _⟩ => ⟨S1x256, .f32⟩
  | .hbm, ⟨23, _⟩ => ⟨S1x256, .f32⟩
  | .hbm, ⟨24, _⟩ => ⟨S1x256, .f32⟩
  | .hbm, ⟨25, _⟩ => ⟨S1x256, .f32⟩
  | .hbm, ⟨26, _⟩ => ⟨S1x1, .f32⟩
  | .hbm, ⟨27, _⟩ => ⟨S1x768, .f32⟩
  | .hbm, ⟨28, _⟩ => ⟨S1x768, .f32⟩
  | .hbm, ⟨29, _⟩ => ⟨S1x768, .f32⟩
  | .hbm, ⟨30, _⟩ => ⟨S8x2048x256, .f32⟩
  | .hbm, ⟨31, _⟩ => ⟨S8x256, .f32⟩
  | .hbm, ⟨32, _⟩ => ⟨S8x2048x256, .f32⟩
  | .hbm, ⟨33, _⟩ => ⟨S8x256, .f32⟩
  | .hbm, ⟨34, _⟩ => ⟨S8x2048x256, .f32⟩
  | .hbm, ⟨35, _⟩ => ⟨S8x2048x1, .f32⟩
  | .hbm, ⟨36, _⟩ => ⟨S8x2048, .f32⟩
  | .hbm, ⟨37, _⟩ => ⟨S8x2048, .i32⟩
  | .hbm, ⟨38, _⟩ => ⟨S8x1x2048, .i32⟩
  | .hbm, ⟨39, _⟩ => ⟨S8x2048x768, .f32⟩
  | .local _ .vmem, ⟨0, _⟩ => ⟨S1x1x2048, .i32⟩
  | .local _ .vmem, ⟨1, _⟩ => ⟨S1x1x2048, .i32⟩
  | .local _ .vmem, ⟨2, _⟩ => ⟨S256x128, .f32⟩
  | .local _ .vmem, ⟨3, _⟩ => ⟨S128x256, .f32⟩
  | .local _ .vmem, ⟨4, _⟩ => ⟨S1x256, .f32⟩
  | .local _ .vmem, ⟨5, _⟩ => ⟨S1x2048x256, .f32⟩
  | .local _ .vmem, ⟨6, _⟩ => ⟨S1x2048x256, .f32⟩
  | .local _ .vmem, ⟨7, _⟩ => ⟨S8x256, .f32⟩
  | .local _ .vmem, ⟨8, _⟩ => ⟨S8x256, .f32⟩
  | .local _ .vmem, ⟨9, _⟩ => ⟨S1x2048x256, .f32⟩
  | .local _ .vmem, ⟨10, _⟩ => ⟨S1x2048x256, .f32⟩
  | .local _ .vmem, ⟨11, _⟩ => ⟨S8x256, .f32⟩
  | .local _ .vmem, ⟨12, _⟩ => ⟨S1x256, .f32⟩
  | .local _ .vmem, ⟨13, _⟩ => ⟨S1x256, .f32⟩
  | .local _ .vmem, ⟨14, _⟩ => ⟨S256x256, .f32⟩
  | .local _ .vmem, ⟨15, _⟩ => ⟨S1x256, .f32⟩
  | .local _ .vmem, ⟨16, _⟩ => ⟨S1x2048x256, .f32⟩
  | .local _ .vmem, ⟨17, _⟩ => ⟨S1x2048x256, .f32⟩
  | .local _ .vmem, ⟨18, _⟩ => ⟨S8x256, .f32⟩
  | .local _ .vmem, ⟨19, _⟩ => ⟨S2048x256, .f32⟩
  | .local _ .vmem, ⟨20, _⟩ => ⟨S8x256, .f32⟩
  | .local _ .vmem, ⟨21, _⟩ => ⟨S1x2048x256, .f32⟩
  | .local _ .vmem, ⟨22, _⟩ => ⟨S1x2048x256, .f32⟩
  | .local _ .vmem, ⟨23, _⟩ => ⟨S8x256, .f32⟩
  | .local _ .vmem, ⟨24, _⟩ => ⟨S1x256, .f32⟩
  | .local _ .vmem, ⟨25, _⟩ => ⟨S1x256, .f32⟩
  | .local _ .vmem, ⟨26, _⟩ => ⟨S256x1, .f32⟩
  | .local _ .vmem, ⟨27, _⟩ => ⟨S1x1, .f32⟩
  | .local _ .vmem, ⟨28, _⟩ => ⟨S1x2048x256, .f32⟩
  | .local _ .vmem, ⟨29, _⟩ => ⟨S1x2048x256, .f32⟩
  | .local _ .vmem, ⟨30, _⟩ => ⟨S1x2048x1, .f32⟩
  | .local _ .vmem, ⟨31, _⟩ => ⟨S1x2048x1, .f32⟩
  | .local _ .vmem, ⟨32, _⟩ => ⟨S2048x256, .f32⟩
  | .local _ .vmem, ⟨33, _⟩ => ⟨S8x2048, .f32⟩
  | .local _ .vmem, ⟨34, _⟩ => ⟨S8x2048, .i32⟩
  | .local _ .vmem, ⟨35, _⟩ => ⟨S8x2048, .i32⟩
  | .local _ .vmem, ⟨36, _⟩ => ⟨S1x2048x256, .f32⟩
  | .local _ .vmem, ⟨37, _⟩ => ⟨S1x2048x256, .f32⟩
  | .local _ .vmem, ⟨38, _⟩ => ⟨S1x1x2048, .i32⟩
  | .local _ .vmem, ⟨39, _⟩ => ⟨S1x1x2048, .i32⟩
  | .local _ .vmem, ⟨40, _⟩ => ⟨S256x768, .f32⟩
  | .local _ .vmem, ⟨41, _⟩ => ⟨S1x768, .f32⟩
  | .local _ .vmem, ⟨42, _⟩ => ⟨S1x768, .f32⟩
  | .local _ .vmem, ⟨43, _⟩ => ⟨S1x768, .f32⟩
  | .local _ .vmem, ⟨44, _⟩ => ⟨S1x256x768, .f32⟩
  | .local _ .vmem, ⟨45, _⟩ => ⟨S1x256x768, .f32⟩
  | _, _ => ⟨S8x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev main_v12_0 : Ref sig .tc := ⟨.hbm, 32, rfl⟩
abbrev main_v12_1 : Ref sig .tc := ⟨.hbm, 33, rfl⟩
abbrev main_v13_0 : Ref sig .tc := ⟨.hbm, 34, rfl⟩
abbrev main_v13_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_scratch0 : Ref sig .tc := ⟨.vmem, 19, rfl⟩
abbrev cc1_scratch1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc2_scratch0 : Ref sig .tc := ⟨.vmem, 32, rfl⟩
abbrev cc3_stg0_0 : Ref sig .tc := ⟨.vmem, 33, rfl⟩
abbrev cc3_stg1_0 : Ref sig .tc := ⟨.vmem, 34, rfl⟩
abbrev cc3_stg2_0 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg6_1 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem6_1 : DmaSem sig := 16
abbrev cc1_sem7_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem6_1 : DmaSem sig := 26
abbrev cc2_sem7_0 : DmaSem sig := 27
abbrev cc2_sem7_1 : DmaSem sig := 28
abbrev cc3_sem0_0 : DmaSem sig := 29
abbrev cc3_sem1_0 : DmaSem sig := 30
abbrev cc3_sem2_0 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem5_0 : DmaSem sig := 39
abbrev cc4_sem6_0 : DmaSem sig := 40
abbrev cc4_sem6_1 : DmaSem sig := 41

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v36 : BitVec 1 := Scalar.cmpi .eq arg0 c7_i32
  let v37 : BitVec 32 := Scalar.extui v36
  let c0_i32_22 : BitVec 32 := 0#32
  let v38 : BitVec 1 := Scalar.cmpi .ne v37 c0_i32_22
  v38

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨1, ![8], ![false]⟩

def k1_cond2 (i : grid1.Coords) : BitVec 1 :=
  let arg0 : BitVec 32 := BitVec.ofNat 32 (i 0).val
  let c7_i32 : BitVec 32 := 7#32
  let v65 : BitVec 1 := Scalar.cmpi .eq arg0 c7_i32
  let v66 : BitVec 32 := Scalar.extui v65
  let c0_i32_36 : BitVec 32 := 0#32
  let v67 : BitVec 1 := Scalar.cmpi .ne v66 c0_i32_36
  v67

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x2048x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x2048x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S8x256 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![8], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x2048x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S256x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S1x2048x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S1x2048x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := .none

abbrev stage3_0 : Fin 1 → Memref sig .tc .vmem S8x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S8x2048 .i32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev stage3_2 : Fin 1 → Memref sig .tc .vmem S8x2048 .i32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))

abbrev grid4 : Pipeline.Grid := ⟨2, ![8, 8], ![false, false]⟩

def cc4_transform_0 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage4_0 : Fin 2 → Memref sig .tc .vmem S1x2048x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S1x1x2048 .i32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 1 → Memref sig .tc .vmem S256x768 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false, false]

abbrev stage4_3 : Fin 1 → Memref sig .tc .vmem S1x768 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false, false]

abbrev stage4_4 : Fin 1 → Memref sig .tc .vmem S1x768 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false, false]

abbrev stage4_5 : Fin 1 → Memref sig .tc .vmem S1x768 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false, false]

abbrev stage4_6 : Fin 2 → Memref sig .tc .vmem S1x256x768 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]
-- ==== ReferenceIdeal.lean ====
abbrev S8x2048 : Shape := ⟨2, ![8, 2048]⟩
abbrev S256x128 : Shape := ⟨2, ![256, 128]⟩
abbrev S128x256 : Shape := ⟨2, ![128, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x768 : Shape := ⟨2, ![256, 768]⟩
abbrev S768 : Shape := ⟨1, ![768]⟩
abbrev S_ : Shape := ⟨0, ![]⟩
abbrev S8x2048x1 : Shape := ⟨3, ![8, 2048, 1]⟩
abbrev S1x1x1 : Shape := ⟨3, ![1, 1, 1]⟩
abbrev S8x2048x128 : Shape := ⟨3, ![8, 2048, 128]⟩
abbrev S8x2048x256 : Shape := ⟨3, ![8, 2048, 256]⟩
abbrev S1x1x256 : Shape := ⟨3, ![1, 1, 256]⟩
abbrev S2048x256 : Shape := ⟨2, ![2048, 256]⟩
abbrev S0x2048x256 : Shape := ⟨3, ![0, 2048, 256]⟩
abbrev S1x2048x256 : Shape := ⟨3, ![1, 2048, 256]⟩
abbrev S8 : Shape := ⟨1, ![8]⟩
abbrev S1x1x2048 : Shape := ⟨3, ![1, 1, 2048]⟩
abbrev S8x2048x2048 : Shape := ⟨3, ![8, 2048, 2048]⟩
abbrev S8x1x2048 : Shape := ⟨3, ![8, 1, 2048]⟩
abbrev S8x2048x768 : Shape := ⟨3, ![8, 2048, 768]⟩
abbrev S1x1x768 : Shape := ⟨3, ![1, 1, 768]⟩

abbrev nBuf : Space → Nat
  | .hbm => 707
  | .vmem => 0
  | .smem => 0
  | _ => 0

abbrev hbmTy0_0 (i : Nat) : BufTy := match i % 128 with
  | 0 => ⟨S8x2048, .i32⟩
  | 1 => ⟨S8x2048, .i32⟩
  | 2 => ⟨S256x128, .f32⟩
  | 3 => ⟨S128x256, .f32⟩
  | 4 => ⟨S256, .f32⟩
  | 5 => ⟨S256, .f32⟩
  | 6 => ⟨S256, .f32⟩
  | 7 => ⟨S256x256, .f32⟩
  | 8 => ⟨S256, .f32⟩
  | 9 => ⟨S256, .f32⟩
  | 10 => ⟨S256, .f32⟩
  | 11 => ⟨S256x1, .f32⟩
  | 12 => ⟨S1, .f32⟩
  | 13 => ⟨S256x1, .f32⟩
  | 14 => ⟨S1, .f32⟩
  | 15 => ⟨S256x768, .f32⟩
  | 16 => ⟨S768, .f32⟩
  | 17 => ⟨S768, .f32⟩
  | 18 => ⟨S768, .f32⟩
  | 19 => ⟨S_, .i32⟩
  | 20 => ⟨S8x2048, .i32⟩
  | 21 => ⟨S8x2048, .i1⟩
  | 22 => ⟨S_, .i32⟩
  | 23 => ⟨S8x2048, .i32⟩
  | 24 => ⟨S8x2048, .i32⟩
  | 25 => ⟨S8x2048, .i32⟩
  | 26 => ⟨S8x2048x1, .i32⟩
  | 27 => ⟨S1, .i32⟩
  | 28 => ⟨S_, .i32⟩
  | 29 => ⟨S8x2048x1, .i32⟩
  | 30 => ⟨S8x2048x1, .i1⟩
  | 31 => ⟨S1x1x1, .i32⟩
  | 32 => ⟨S8x2048x1, .i32⟩
  | 33 => ⟨S8x2048x1, .i1⟩
  | 34 => ⟨S8x2048x1, .i1⟩
  | 35 => ⟨S_, .i1⟩
  | 36 => ⟨S8x2048, .i1⟩
  | 37 => ⟨S8x2048x128, .f32⟩
  | 38 => ⟨S8x2048x128, .i1⟩
  | 39 => ⟨S_, .f32⟩
  | 40 => ⟨S8x2048x128, .f32⟩
  | 41 => ⟨S8x2048x128, .f32⟩
  | 42 => ⟨S8x2048x256, .f32⟩
  | 43 => ⟨S1x1x256, .f32⟩
  | 44 => ⟨S8x2048x256, .f32⟩
  | 45 => ⟨S8x2048x256, .f32⟩
  | 46 => ⟨S_, .f32⟩
  | 47 => ⟨S256, .f32⟩
  | 48 => ⟨S1x1x256, .f32⟩
  | 49 => ⟨S_, .f32⟩
  | 50 => ⟨S1x1x256, .f32⟩
  | 51 => ⟨S1x1x256, .f32⟩
  | 52 => ⟨S_, .i32⟩
  | 53 => ⟨S_, .f32⟩
  | 54 => ⟨S256, .f32⟩
  | 55 => ⟨S1x1x256, .f32⟩
  | 56 => ⟨S_, .f32⟩
  | 57 => ⟨S1x1x256, .f32⟩
  | 58 => ⟨S1x1x256, .f32⟩
  | 59 => ⟨S8x2048x256, .f32⟩
  | 60 => ⟨S8x2048x256, .f32⟩
  | 61 => ⟨S8x2048x256, .f32⟩
  | 62 => ⟨S_, .f32⟩
  | 63 => ⟨S_, .f32⟩
  | 64 => ⟨S_, .f32⟩
  | 65 => ⟨S_, .f32⟩
  | 66 => ⟨S256, .f32⟩
  | 67 => ⟨S1x1x256, .f32⟩
  | 68 => ⟨S1x1x256, .f32⟩
  | 69 => ⟨S1x1x256, .f32⟩
  | 70 => ⟨S_, .f32⟩
  | 71 => ⟨S_, .i1⟩
  | 72 => ⟨S_, .f32⟩
  | 73 => ⟨S_, .f32⟩
  | 74 => ⟨S1x1x256, .f32⟩
  | 75 => ⟨S1x1x256, .f32⟩
  | 76 => ⟨S8x2048x256, .f32⟩
  | 77 => ⟨S8x2048x256, .f32⟩
  | 78 => ⟨S_, .f32⟩
  | 79 => ⟨S1x1x256, .f32⟩
  | 80 => ⟨S1x1x256, .f32⟩
  | 81 => ⟨S1x1x256, .f32⟩
  | 82 => ⟨S8x2048x256, .f32⟩
  | 83 => ⟨S8x2048x256, .f32⟩
  | 84 => ⟨S1x1x256, .f32⟩
  | 85 => ⟨S8x2048x256, .f32⟩
  | 86 => ⟨S8x2048x256, .f32⟩
  | 87 => ⟨S1x1x256, .f32⟩
  | 88 => ⟨S8x2048x256, .f32⟩
  | 89 => ⟨S8x2048x256, .f32⟩
  | 90 => ⟨S_, .f32⟩
  | 91 => ⟨S2048x256, .f32⟩
  | 92 => ⟨S0x2048x256, .f32⟩
  | 93 => ⟨S8x2048x256, .f32⟩
  | 94 => ⟨S_, .f32⟩
  | 95 => ⟨S0x2048x256, .f32⟩
  | 96 => ⟨S1x2048x256, .f32⟩
  | 97 => ⟨S2048x256, .f32⟩
  | 98 => ⟨S2048x256, .f32⟩
  | 99 => ⟨S_, .f32⟩
  | 100 => ⟨S2048x256, .f32⟩
  | 101 => ⟨S2048x256, .f32⟩
  | 102 => ⟨S_, .f32⟩
  | 103 => ⟨S2048x256, .f32⟩
  | 104 => ⟨S2048x256, .f32⟩
  | 105 => ⟨S2048x256, .f32⟩
  | 106 => ⟨S2048x256, .f32⟩
  | 107 => ⟨S_, .f32⟩
  | 108 => ⟨S2048x256, .f32⟩
  | 109 => ⟨S2048x256, .f32⟩
  | 110 => ⟨S_, .f32⟩
  | 111 => ⟨S2048x256, .f32⟩
  | 112 => ⟨S2048x256, .f32⟩
  | 113 => ⟨S_, .f32⟩
  | 114 => ⟨S2048x256, .f32⟩
  | 115 => ⟨S2048x256, .i1⟩
  | 116 => ⟨S2048x256, .f32⟩
  | 117 => ⟨S2048x256, .f32⟩
  | 118 => ⟨S2048x256, .f32⟩
  | 119 => ⟨S_, .f32⟩
  | 120 => ⟨S2048x256, .f32⟩
  | 121 => ⟨S2048x256, .f32⟩
  | 122 => ⟨S2048x256, .f32⟩
  | 123 => ⟨S1x2048x256, .f32⟩
  | 124 => ⟨S2048x256, .f32⟩
  | 125 => ⟨S2048x256, .f32⟩
  | 126 => ⟨S_, .f32⟩
  | 127 => ⟨S2048x256, .f32⟩
  | _ => ⟨S8x2048, .i32⟩

abbrev hbmTy0_1 (i : Nat) : BufTy := match i % 128 with
  | 0 => ⟨S2048x256, .f32⟩
  | 1 => ⟨S_, .f32⟩
  | 2 => ⟨S2048x256, .f32⟩
  | 3 => ⟨S2048x256, .f32⟩
  | 4 => ⟨S2048x256, .f32⟩
  | 5 => ⟨S2048x256, .f32⟩
  | 6 => ⟨S_, .f32⟩
  | 7 => ⟨S2048x256, .f32⟩
  | 8 => ⟨S2048x256, .f32⟩
  | 9 => ⟨S_, .f32⟩
  | 10 => ⟨S2048x256, .f32⟩
  | 11 => ⟨S2048x256, .f32⟩
  | 12 => ⟨S_, .f32⟩
  | 13 => ⟨S2048x256, .f32⟩
  | 14 => ⟨S2048x256, .i1⟩
  | 15 => ⟨S2048x256, .f32⟩
  | 16 => ⟨S2048x256, .f32⟩
  | 17 => ⟨S2048x256, .f32⟩
  | 18 => ⟨S_, .f32⟩
  | 19 => ⟨S2048x256, .f32⟩
  | 20 => ⟨S2048x256, .f32⟩
  | 21 => ⟨S2048x256, .f32⟩
  | 22 => ⟨S1x2048x256, .f32⟩
  | 23 => ⟨S2048x256, .f32⟩
  | 24 => ⟨S2048x256, .f32⟩
  | 25 => ⟨S_, .f32⟩
  | 26 => ⟨S2048x256, .f32⟩
  | 27 => ⟨S2048x256, .f32⟩
  | 28 => ⟨S_, .f32⟩
  | 29 => ⟨S2048x256, .f32⟩
  | 30 => ⟨S2048x256, .f32⟩
  | 31 => ⟨S2048x256, .f32⟩
  | 32 => ⟨S2048x256, .f32⟩
  | 33 => ⟨S_, .f32⟩
  | 34 => ⟨S2048x256, .f32⟩
  | 35 => ⟨S2048x256, .f32⟩
  | 36 => ⟨S_, .f32⟩
  | 37 => ⟨S2048x256, .f32⟩
  | 38 => ⟨S2048x256, .f32⟩
  | 39 => ⟨S_, .f32⟩
  | 40 => ⟨S2048x256, .f32⟩
  | 41 => ⟨S2048x256, .i1⟩
  | 42 => ⟨S2048x256, .f32⟩
  | 43 => ⟨S2048x256, .f32⟩
  | 44 => ⟨S2048x256, .f32⟩
  | 45 => ⟨S_, .f32⟩
  | 46 => ⟨S2048x256, .f32⟩
  | 47 => ⟨S2048x256, .f32⟩
  | 48 => ⟨S2048x256, .f32⟩
  | 49 => ⟨S1x2048x256, .f32⟩
  | 50 => ⟨S2048x256, .f32⟩
  | 51 => ⟨S2048x256, .f32⟩
  | 52 => ⟨S_, .f32⟩
  | 53 => ⟨S2048x256, .f32⟩
  | 54 => ⟨S2048x256, .f32⟩
  | 55 => ⟨S_, .f32⟩
  | 56 => ⟨S2048x256, .f32⟩
  | 57 => ⟨S2048x256, .f32⟩
  | 58 => ⟨S2048x256, .f32⟩
  | 59 => ⟨S2048x256, .f32⟩
  | 60 => ⟨S_, .f32⟩
  | 61 => ⟨S2048x256, .f32⟩
  | 62 => ⟨S2048x256, .f32⟩
  | 63 => ⟨S_, .f32⟩
  | 64 => ⟨S2048x256, .f32⟩
  | 65 => ⟨S2048x256, .f32⟩
  | 66 => ⟨S_, .f32⟩
  | 67 => ⟨S2048x256, .f32⟩
  | 68 => ⟨S2048x256, .i1⟩
  | 69 => ⟨S2048x256, .f32⟩
  | 70 => ⟨S2048x256, .f32⟩
  | 71 => ⟨S2048x256, .f32⟩
  | 72 => ⟨S_, .f32⟩
  | 73 => ⟨S2048x256, .f32⟩
  | 74 => ⟨S2048x256, .f32⟩
  | 75 => ⟨S2048x256, .f32⟩
  | 76 => ⟨S1x2048x256, .f32⟩
  | 77 => ⟨S2048x256, .f32⟩
  | 78 => ⟨S2048x256, .f32⟩
  | 79 => ⟨S_, .f32⟩
  | 80 => ⟨S2048x256, .f32⟩
  | 81 => ⟨S2048x256, .f32⟩
  | 82 => ⟨S_, .f32⟩
  | 83 => ⟨S2048x256, .f32⟩
  | 84 => ⟨S2048x256, .f32⟩
  | 85 => ⟨S2048x256, .f32⟩
  | 86 => ⟨S2048x256, .f32⟩
  | 87 => ⟨S_, .f32⟩
  | 88 => ⟨S2048x256, .f32⟩
  | 89 => ⟨S2048x256, .f32⟩
  | 90 => ⟨S_, .f32⟩
  | 91 => ⟨S2048x256, .f32⟩
  | 92 => ⟨S2048x256, .f32⟩
  | 93 => ⟨S_, .f32⟩
  | 94 => ⟨S2048x256, .f32⟩
  | 95 => ⟨S2048x256, .i1⟩
  | 96 => ⟨S2048x256, .f32⟩
  | 97 => ⟨S2048x256, .f32⟩
  | 98 => ⟨S2048x256, .f32⟩
  | 99 => ⟨S_, .f32⟩
  | 100 => ⟨S2048x256, .f32⟩
  | 101 => ⟨S2048x256, .f32⟩
  | 102 => ⟨S2048x256, .f32⟩
  | 103 => ⟨S1x2048x256, .f32⟩
  | 104 => ⟨S2048x256, .f32⟩
  | 105 => ⟨S2048x256, .f32⟩
  | 106 => ⟨S_, .f32⟩
  | 107 => ⟨S2048x256, .f32⟩
  | 108 => ⟨S2048x256, .f32⟩
  | 109 => ⟨S_, .f32⟩
  | 110 => ⟨S2048x256, .f32⟩
  | 111 => ⟨S2048x256, .f32⟩
  | 112 => ⟨S2048x256, .f32⟩
  | 113 => ⟨S2048x256, .f32⟩
  | 114 => ⟨S_, .f32⟩
  | 115 => ⟨S2048x256, .f32⟩
  | 116 => ⟨S2048x256, .f32⟩
  | 117 => ⟨S_, .f32⟩
  | 118 => ⟨S2048x256, .f32⟩
  | 119 => ⟨S2048x256, .f32⟩
  | 120 => ⟨S_, .f32⟩
  | 121 => ⟨S2048x256, .f32⟩
  | 122 => ⟨S2048x256, .i1⟩
  | 123 => ⟨S2048x256, .f32⟩
  | 124 => ⟨S2048x256, .f32⟩
  | 125 => ⟨S2048x256, .f32⟩
  | 126 => ⟨S_, .f32⟩
  | 127 => ⟨S2048x256, .f32⟩
  | _ => ⟨S8x2048, .i32⟩

abbrev hbmTy0_2 (i : Nat) : BufTy := match i % 128 with
  | 0 => ⟨S2048x256, .f32⟩
  | 1 => ⟨S2048x256, .f32⟩
  | 2 => ⟨S1x2048x256, .f32⟩
  | 3 => ⟨S2048x256, .f32⟩
  | 4 => ⟨S2048x256, .f32⟩
  | 5 => ⟨S_, .f32⟩
  | 6 => ⟨S2048x256, .f32⟩
  | 7 => ⟨S2048x256, .f32⟩
  | 8 => ⟨S_, .f32⟩
  | 9 => ⟨S2048x256, .f32⟩
  | 10 => ⟨S2048x256, .f32⟩
  | 11 => ⟨S2048x256, .f32⟩
  | 12 => ⟨S2048x256, .f32⟩
  | 13 => ⟨S_, .f32⟩
  | 14 => ⟨S2048x256, .f32⟩
  | 15 => ⟨S2048x256, .f32⟩
  | 16 => ⟨S_, .f32⟩
  | 17 => ⟨S2048x256, .f32⟩
  | 18 => ⟨S2048x256, .f32⟩
  | 19 => ⟨S_, .f32⟩
  | 20 => ⟨S2048x256, .f32⟩
  | 21 => ⟨S2048x256, .i1⟩
  | 22 => ⟨S2048x256, .f32⟩
  | 23 => ⟨S2048x256, .f32⟩
  | 24 => ⟨S2048x256, .f32⟩
  | 25 => ⟨S_, .f32⟩
  | 26 => ⟨S2048x256, .f32⟩
  | 27 => ⟨S2048x256, .f32⟩
  | 28 => ⟨S2048x256, .f32⟩
  | 29 => ⟨S1x2048x256, .f32⟩
  | 30 => ⟨S2048x256, .f32⟩
  | 31 => ⟨S2048x256, .f32⟩
  | 32 => ⟨S_, .f32⟩
  | 33 => ⟨S2048x256, .f32⟩
  | 34 => ⟨S2048x256, .f32⟩
  | 35 => ⟨S_, .f32⟩
  | 36 => ⟨S2048x256, .f32⟩
  | 37 => ⟨S2048x256, .f32⟩
  | 38 => ⟨S2048x256, .f32⟩
  | 39 => ⟨S2048x256, .f32⟩
  | 40 => ⟨S_, .f32⟩
  | 41 => ⟨S2048x256, .f32⟩
  | 42 => ⟨S2048x256, .f32⟩
  | 43 => ⟨S_, .f32⟩
  | 44 => ⟨S2048x256, .f32⟩
  | 45 => ⟨S2048x256, .f32⟩
  | 46 => ⟨S_, .f32⟩
  | 47 => ⟨S2048x256, .f32⟩
  | 48 => ⟨S2048x256, .i1⟩
  | 49 => ⟨S2048x256, .f32⟩
  | 50 => ⟨S2048x256, .f32⟩
  | 51 => ⟨S2048x256, .f32⟩
  | 52 => ⟨S_, .f32⟩
  | 53 => ⟨S2048x256, .f32⟩
  | 54 => ⟨S2048x256, .f32⟩
  | 55 => ⟨S2048x256, .f32⟩
  | 56 => ⟨S1x2048x256, .f32⟩
  | 57 => ⟨S1x2048x256, .f32⟩
  | 58 => ⟨S1x2048x256, .f32⟩
  | 59 => ⟨S1x2048x256, .f32⟩
  | 60 => ⟨S1x2048x256, .f32⟩
  | 61 => ⟨S1x2048x256, .f32⟩
  | 62 => ⟨S1x2048x256, .f32⟩
  | 63 => ⟨S1x2048x256, .f32⟩
  | 64 => ⟨S8x2048x256, .f32⟩
  | 65 => ⟨S8x2048x256, .f32⟩
  | 66 => ⟨S8x2048x256, .f32⟩
  | 67 => ⟨S1x1x256, .f32⟩
  | 68 => ⟨S8x2048x256, .f32⟩
  | 69 => ⟨S8x2048x256, .f32⟩
  | 70 => ⟨S_, .f32⟩
  | 71 => ⟨S256, .f32⟩
  | 72 => ⟨S1x1x256, .f32⟩
  | 73 => ⟨S_, .f32⟩
  | 74 => ⟨S1x1x256, .f32⟩
  | 75 => ⟨S1x1x256, .f32⟩
  | 76 => ⟨S_, .i32⟩
  | 77 => ⟨S_, .f32⟩
  | 78 => ⟨S256, .f32⟩
  | 79 => ⟨S1x1x256, .f32⟩
  | 80 => ⟨S_, .f32⟩
  | 81 => ⟨S1x1x256, .f32⟩
  | 82 => ⟨S1x1x256, .f32⟩
  | 83 => ⟨S8x2048x256, .f32⟩
  | 84 => ⟨S8x2048x256, .f32⟩
  | 85 => ⟨S8x2048x256, .f32⟩
  | 86 => ⟨S_, .f32⟩
  | 87 => ⟨S_, .f32⟩
  | 88 => ⟨S_, .f32⟩
  | 89 => ⟨S_, .f32⟩
  | 90 => ⟨S256, .f32⟩
  | 91 => ⟨S1x1x256, .f32⟩
  | 92 => ⟨S1x1x256, .f32⟩
  | 93 => ⟨S1x1x256, .f32⟩
  | 94 => ⟨S_, .f32⟩
  | 95 => ⟨S_, .i1⟩
  | 96 => ⟨S_, .f32⟩
  | 97 => ⟨S_, .f32⟩
  | 98 => ⟨S1x1x256, .f32⟩
  | 99 => ⟨S1x1x256, .f32⟩
  | 100 => ⟨S8x2048x256, .f32⟩
  | 101 => ⟨S8x2048x256, .f32⟩
  | 102 => ⟨S_, .f32⟩
  | 103 => ⟨S1x1x256, .f32⟩
  | 104 => ⟨S1x1x256, .f32⟩
  | 105 => ⟨S1x1x256, .f32⟩
  | 106 => ⟨S8x2048x256, .f32⟩
  | 107 => ⟨S8x2048x256, .f32⟩
  | 108 => ⟨S1x1x256, .f32⟩
  | 109 => ⟨S8x2048x256, .f32⟩
  | 110 => ⟨S8x2048x256, .f32⟩
  | 111 => ⟨S1x1x256, .f32⟩
  | 112 => ⟨S8x2048x256, .f32⟩
  | 113 => ⟨S8x2048x256, .f32⟩
  | 114 => ⟨S_, .f32⟩
  | 115 => ⟨S2048x256, .f32⟩
  | 116 => ⟨S0x2048x256, .f32⟩
  | 117 => ⟨S8x2048x256, .f32⟩
  | 118 => ⟨S_, .f32⟩
  | 119 => ⟨S0x2048x256, .f32⟩
  | 120 => ⟨S1x2048x256, .f32⟩
  | 121 => ⟨S2048x256, .f32⟩
  | 122 => ⟨S2048x256, .f32⟩
  | 123 => ⟨S_, .f32⟩
  | 124 => ⟨S2048x256, .f32⟩
  | 125 => ⟨S2048x256, .f32⟩
  | 126 => ⟨S_, .f32⟩
  | 127 => ⟨S2048x256, .f32⟩
  | _ => ⟨S8x2048, .i32⟩

abbrev hbmTy0_3 (i : Nat) : BufTy := match i % 128 with
  | 0 => ⟨S2048x256, .f32⟩
  | 1 => ⟨S2048x256, .f32⟩
  | 2 => ⟨S2048x256, .f32⟩
  | 3 => ⟨S_, .f32⟩
  | 4 => ⟨S2048x256, .f32⟩
  | 5 => ⟨S2048x256, .f32⟩
  | 6 => ⟨S_, .f32⟩
  | 7 => ⟨S2048x256, .f32⟩
  | 8 => ⟨S2048x256, .f32⟩
  | 9 => ⟨S_, .f32⟩
  | 10 => ⟨S2048x256, .f32⟩
  | 11 => ⟨S2048x256, .i1⟩
  | 12 => ⟨S2048x256, .f32⟩
  | 13 => ⟨S2048x256, .f32⟩
  | 14 => ⟨S2048x256, .f32⟩
  | 15 => ⟨S_, .f32⟩
  | 16 => ⟨S2048x256, .f32⟩
  | 17 => ⟨S2048x256, .f32⟩
  | 18 => ⟨S2048x256, .f32⟩
  | 19 => ⟨S1x2048x256, .f32⟩
  | 20 => ⟨S2048x256, .f32⟩
  | 21 => ⟨S2048x256, .f32⟩
  | 22 => ⟨S_, .f32⟩
  | 23 => ⟨S2048x256, .f32⟩
  | 24 => ⟨S2048x256, .f32⟩
  | 25 => ⟨S_, .f32⟩
  | 26 => ⟨S2048x256, .f32⟩
  | 27 => ⟨S2048x256, .f32⟩
  | 28 => ⟨S2048x256, .f32⟩
  | 29 => ⟨S2048x256, .f32⟩
  | 30 => ⟨S_, .f32⟩
  | 31 => ⟨S2048x256, .f32⟩
  | 32 => ⟨S2048x256, .f32⟩
  | 33 => ⟨S_, .f32⟩
  | 34 => ⟨S2048x256, .f32⟩
  | 35 => ⟨S2048x256, .f32⟩
  | 36 => ⟨S_, .f32⟩
  | 37 => ⟨S2048x256, .f32⟩
  | 38 => ⟨S2048x256, .i1⟩
  | 39 => ⟨S2048x256, .f32⟩
  | 40 => ⟨S2048x256, .f32⟩
  | 41 => ⟨S2048x256, .f32⟩
  | 42 => ⟨S_, .f32⟩
  | 43 => ⟨S2048x256, .f32⟩
  | 44 => ⟨S2048x256, .f32⟩
  | 45 => ⟨S2048x256, .f32⟩
  | 46 => ⟨S1x2048x256, .f32⟩
  | 47 => ⟨S2048x256, .f32⟩
  | 48 => ⟨S2048x256, .f32⟩
  | 49 => ⟨S_, .f32⟩
  | 50 => ⟨S2048x256, .f32⟩
  | 51 => ⟨S2048x256, .f32⟩
  | 52 => ⟨S_, .f32⟩
  | 53 => ⟨S2048x256, .f32⟩
  | 54 => ⟨S2048x256, .f32⟩
  | 55 => ⟨S2048x256, .f32⟩
  | 56 => ⟨S2048x256, .f32⟩
  | 57 => ⟨S_, .f32⟩
  | 58 => ⟨S2048x256, .f32⟩
  | 59 => ⟨S2048x256, .f32⟩
  | 60 => ⟨S_, .f32⟩
  | 61 => ⟨S2048x256, .f32⟩
  | 62 => ⟨S2048x256, .f32⟩
  | 63 => ⟨S_, .f32⟩
  | 64 => ⟨S2048x256, .f32⟩
  | 65 => ⟨S2048x256, .i1⟩
  | 66 => ⟨S2048x256, .f32⟩
  | 67 => ⟨S2048x256, .f32⟩
  | 68 => ⟨S2048x256, .f32⟩
  | 69 => ⟨S_, .f32⟩
  | 70 => ⟨S2048x256, .f32⟩
  | 71 => ⟨S2048x256, .f32⟩
  | 72 => ⟨S2048x256, .f32⟩
  | 73 => ⟨S1x2048x256, .f32⟩
  | 74 => ⟨S2048x256, .f32⟩
  | 75 => ⟨S2048x256, .f32⟩
  | 76 => ⟨S_, .f32⟩
  | 77 => ⟨S2048x256, .f32⟩
  | 78 => ⟨S2048x256, .f32⟩
  | 79 => ⟨S_, .f32⟩
  | 80 => ⟨S2048x256, .f32⟩
  | 81 => ⟨S2048x256, .f32⟩
  | 82 => ⟨S2048x256, .f32⟩
  | 83 => ⟨S2048x256, .f32⟩
  | 84 => ⟨S_, .f32⟩
  | 85 => ⟨S2048x256, .f32⟩
  | 86 => ⟨S2048x256, .f32⟩
  | 87 => ⟨S_, .f32⟩
  | 88 => ⟨S2048x256, .f32⟩
  | 89 => ⟨S2048x256, .f32⟩
  | 90 => ⟨S_, .f32⟩
  | 91 => ⟨S2048x256, .f32⟩
  | 92 => ⟨S2048x256, .i1⟩
  | 93 => ⟨S2048x256, .f32⟩
  | 94 => ⟨S2048x256, .f32⟩
  | 95 => ⟨S2048x256, .f32⟩
  | 96 => ⟨S_, .f32⟩
  | 97 => ⟨S2048x256, .f32⟩
  | 98 => ⟨S2048x256, .f32⟩
  | 99 => ⟨S2048x256, .f32⟩
  | 100 => ⟨S1x2048x256, .f32⟩
  | 101 => ⟨S2048x256, .f32⟩
  | 102 => ⟨S2048x256, .f32⟩
  | 103 => ⟨S_, .f32⟩
  | 104 => ⟨S2048x256, .f32⟩
  | 105 => ⟨S2048x256, .f32⟩
  | 106 => ⟨S_, .f32⟩
  | 107 => ⟨S2048x256, .f32⟩
  | 108 => ⟨S2048x256, .f32⟩
  | 109 => ⟨S2048x256, .f32⟩
  | 110 => ⟨S2048x256, .f32⟩
  | 111 => ⟨S_, .f32⟩
  | 112 => ⟨S2048x256, .f32⟩
  | 113 => ⟨S2048x256, .f32⟩
  | 114 => ⟨S_, .f32⟩
  | 115 => ⟨S2048x256, .f32⟩
  | 116 => ⟨S2048x256, .f32⟩
  | 117 => ⟨S_, .f32⟩
  | 118 => ⟨S2048x256, .f32⟩
  | 119 => ⟨S2048x256, .i1⟩
  | 120 => ⟨S2048x256, .f32⟩
  | 121 => ⟨S2048x256, .f32⟩
  | 122 => ⟨S2048x256, .f32⟩
  | 123 => ⟨S_, .f32⟩
  | 124 => ⟨S2048x256, .f32⟩
  | 125 => ⟨S2048x256, .f32⟩
  | 126 => ⟨S2048x256, .f32⟩
  | 127 => ⟨S1x2048x256, .f32⟩
  | _ => ⟨S8x2048, .i32⟩

abbrev hbmTy0_4 (i : Nat) : BufTy := match i % 128 with
  | 0 => ⟨S2048x256, .f32⟩
  | 1 => ⟨S2048x256, .f32⟩
  | 2 => ⟨S_, .f32⟩
  | 3 => ⟨S2048x256, .f32⟩
  | 4 => ⟨S2048x256, .f32⟩
  | 5 => ⟨S_, .f32⟩
  | 6 => ⟨S2048x256, .f32⟩
  | 7 => ⟨S2048x256, .f32⟩
  | 8 => ⟨S2048x256, .f32⟩
  | 9 => ⟨S2048x256, .f32⟩
  | 10 => ⟨S_, .f32⟩
  | 11 => ⟨S2048x256, .f32⟩
  | 12 => ⟨S2048x256, .f32⟩
  | 13 => ⟨S_, .f32⟩
  | 14 => ⟨S2048x256, .f32⟩
  | 15 => ⟨S2048x256, .f32⟩
  | 16 => ⟨S_, .f32⟩
  | 17 => ⟨S2048x256, .f32⟩
  | 18 => ⟨S2048x256, .i1⟩
  | 19 => ⟨S2048x256, .f32⟩
  | 20 => ⟨S2048x256, .f32⟩
  | 21 => ⟨S2048x256, .f32⟩
  | 22 => ⟨S_, .f32⟩
  | 23 => ⟨S2048x256, .f32⟩
  | 24 => ⟨S2048x256, .f32⟩
  | 25 => ⟨S2048x256, .f32⟩
  | 26 => ⟨S1x2048x256, .f32⟩
  | 27 => ⟨S2048x256, .f32⟩
  | 28 => ⟨S2048x256, .f32⟩
  | 29 => ⟨S_, .f32⟩
  | 30 => ⟨S2048x256, .f32⟩
  | 31 => ⟨S2048x256, .f32⟩
  | 32 => ⟨S_, .f32⟩
  | 33 => ⟨S2048x256, .f32⟩
  | 34 => ⟨S2048x256, .f32⟩
  | 35 => ⟨S2048x256, .f32⟩
  | 36 => ⟨S2048x256, .f32⟩
  | 37 => ⟨S_, .f32⟩
  | 38 => ⟨S2048x256, .f32⟩
  | 39 => ⟨S2048x256, .f32⟩
  | 40 => ⟨S_, .f32⟩
  | 41 => ⟨S2048x256, .f32⟩
  | 42 => ⟨S2048x256, .f32⟩
  | 43 => ⟨S_, .f32⟩
  | 44 => ⟨S2048x256, .f32⟩
  | 45 => ⟨S2048x256, .i1⟩
  | 46 => ⟨S2048x256, .f32⟩
  | 47 => ⟨S2048x256, .f32⟩
  | 48 => ⟨S2048x256, .f32⟩
  | 49 => ⟨S_, .f32⟩
  | 50 => ⟨S2048x256, .f32⟩
  | 51 => ⟨S2048x256, .f32⟩
  | 52 => ⟨S2048x256, .f32⟩
  | 53 => ⟨S1x2048x256, .f32⟩
  | 54 => ⟨S2048x256, .f32⟩
  | 55 => ⟨S2048x256, .f32⟩
  | 56 => ⟨S_, .f32⟩
  | 57 => ⟨S2048x256, .f32⟩
  | 58 => ⟨S2048x256, .f32⟩
  | 59 => ⟨S_, .f32⟩
  | 60 => ⟨S2048x256, .f32⟩
  | 61 => ⟨S2048x256, .f32⟩
  | 62 => ⟨S2048x256, .f32⟩
  | 63 => ⟨S2048x256, .f32⟩
  | 64 => ⟨S_, .f32⟩
  | 65 => ⟨S2048x256, .f32⟩
  | 66 => ⟨S2048x256, .f32⟩
  | 67 => ⟨S_, .f32⟩
  | 68 => ⟨S2048x256, .f32⟩
  | 69 => ⟨S2048x256, .f32⟩
  | 70 => ⟨S_, .f32⟩
  | 71 => ⟨S2048x256, .f32⟩
  | 72 => ⟨S2048x256, .i1⟩
  | 73 => ⟨S2048x256, .f32⟩
  | 74 => ⟨S2048x256, .f32⟩
  | 75 => ⟨S2048x256, .f32⟩
  | 76 => ⟨S_, .f32⟩
  | 77 => ⟨S2048x256, .f32⟩
  | 78 => ⟨S2048x256, .f32⟩
  | 79 => ⟨S2048x256, .f32⟩
  | 80 => ⟨S1x2048x256, .f32⟩
  | 81 => ⟨S1x2048x256, .f32⟩
  | 82 => ⟨S1x2048x256, .f32⟩
  | 83 => ⟨S1x2048x256, .f32⟩
  | 84 => ⟨S1x2048x256, .f32⟩
  | 85 => ⟨S1x2048x256, .f32⟩
  | 86 => ⟨S1x2048x256, .f32⟩
  | 87 => ⟨S1x2048x256, .f32⟩
  | 88 => ⟨S8x2048x256, .f32⟩
  | 89 => ⟨S8x2048x256, .f32⟩
  | 90 => ⟨S8x2048x1, .f32⟩
  | 91 => ⟨S1x1x1, .f32⟩
  | 92 => ⟨S8x2048x1, .f32⟩
  | 93 => ⟨S8x2048x1, .f32⟩
  | 94 => ⟨S8x2048, .f32⟩
  | 95 => ⟨S8x2048, .f32⟩
  | 96 => ⟨S8x2048, .f32⟩
  | 97 => ⟨S_, .f32⟩
  | 98 => ⟨S8x2048, .f32⟩
  | 99 => ⟨S8x2048, .f32⟩
  | 100 => ⟨S_, .f32⟩
  | 101 => ⟨S8x2048, .f32⟩
  | 102 => ⟨S8x2048, .f32⟩
  | 103 => ⟨S8x2048, .f32⟩
  | 104 => ⟨S8x2048, .f32⟩
  | 105 => ⟨S_, .f32⟩
  | 106 => ⟨S8x2048, .f32⟩
  | 107 => ⟨S8x2048, .f32⟩
  | 108 => ⟨S_, .f32⟩
  | 109 => ⟨S8x2048, .f32⟩
  | 110 => ⟨S8x2048, .f32⟩
  | 111 => ⟨S8x2048, .f32⟩
  | 112 => ⟨S_, .i32⟩
  | 113 => ⟨S1, .i32⟩
  | 114 => ⟨S_, .f32⟩
  | 115 => ⟨S8, .f32⟩
  | 116 => ⟨S8x2048, .f32⟩
  | 117 => ⟨S_, .f32⟩
  | 118 => ⟨S_, .f32⟩
  | 119 => ⟨S8x2048, .f32⟩
  | 120 => ⟨S_, .f32⟩
  | 121 => ⟨S8x2048, .f32⟩
  | 122 => ⟨S8x2048, .f32⟩
  | 123 => ⟨S8x2048, .i32⟩
  | 124 => ⟨S_, .i32⟩
  | 125 => ⟨S_, .i32⟩
  | 126 => ⟨S_, .i32⟩
  | 127 => ⟨S8x2048, .i32⟩
  | _ => ⟨S8x2048, .i32⟩

abbrev hbmTy0_5 (i : Nat) : BufTy := match i % 128 with
  | 0 => ⟨S8x2048, .i32⟩
  | 1 => ⟨S_, .i32⟩
  | 2 => ⟨S8x2048, .i32⟩
  | 3 => ⟨S8x2048, .i32⟩
  | 4 => ⟨S8x2048x1, .i32⟩
  | 5 => ⟨S1x1x2048, .i32⟩
  | 6 => ⟨S8x2048x2048, .i32⟩
  | 7 => ⟨S8x2048x2048, .i32⟩
  | 8 => ⟨S8x2048x2048, .i1⟩
  | 9 => ⟨S8x2048x2048, .f32⟩
  | 10 => ⟨S_, .f32⟩
  | 11 => ⟨S8x2048, .f32⟩
  | 12 => ⟨S8x1x2048, .f32⟩
  | 13 => ⟨S_, .f32⟩
  | 14 => ⟨S8x1x2048, .f32⟩
  | 15 => ⟨S8x1x2048, .f32⟩
  | 16 => ⟨S8x2048x2048, .f32⟩
  | 17 => ⟨S8x2048x2048, .f32⟩
  | 18 => ⟨S8x2048x256, .f32⟩
  | 19 => ⟨S8x2048x768, .f32⟩
  | 20 => ⟨S1x1x768, .f32⟩
  | 21 => ⟨S8x2048x768, .f32⟩
  | 22 => ⟨S8x2048x768, .f32⟩
  | 23 => ⟨S_, .f32⟩
  | 24 => ⟨S8x2048, .f32⟩
  | 25 => ⟨S8x2048x1, .f32⟩
  | 26 => ⟨S_, .f32⟩
  | 27 => ⟨S8x2048x1, .f32⟩
  | 28 => ⟨S8x2048x1, .f32⟩
  | 29 => ⟨S_, .i32⟩
  | 30 => ⟨S_, .f32⟩
  | 31 => ⟨S8x2048, .f32⟩
  | 32 => ⟨S8x2048x1, .f32⟩
  | 33 => ⟨S_, .f32⟩
  | 34 => ⟨S8x2048x1, .f32⟩
  | 35 => ⟨S8x2048x1, .f32⟩
  | 36 => ⟨S8x2048x768, .f32⟩
  | 37 => ⟨S8x2048x768, .f32⟩
  | 38 => ⟨S8x2048x768, .f32⟩
  | 39 => ⟨S_, .f32⟩
  | 40 => ⟨S_, .f32⟩
  | 41 => ⟨S_, .f32⟩
  | 42 => ⟨S_, .f32⟩
  | 43 => ⟨S8x2048, .f32⟩
  | 44 => ⟨S8x2048x1, .f32⟩
  | 45 => ⟨S8x2048x1, .f32⟩
  | 46 => ⟨S8x2048x1, .f32⟩
  | 47 => ⟨S_, .f32⟩
  | 48 => ⟨S_, .i1⟩
  | 49 => ⟨S_, .f32⟩
  | 50 => ⟨S_, .f32⟩
  | 51 => ⟨S8x2048x1, .f32⟩
  | 52 => ⟨S8x2048x1, .f32⟩
  | 53 => ⟨S8x2048x768, .f32⟩
  | 54 => ⟨S8x2048x768, .f32⟩
  | 55 => ⟨S_, .f32⟩
  | 56 => ⟨S8x2048x1, .f32⟩
  | 57 => ⟨S8x2048x1, .f32⟩
  | 58 => ⟨S8x2048x1, .f32⟩
  | 59 => ⟨S8x2048x768, .f32⟩
  | 60 => ⟨S8x2048x768, .f32⟩
  | 61 => ⟨S1x1x768, .f32⟩
  | 62 => ⟨S8x2048x768, .f32⟩
  | 63 => ⟨S8x2048x768, .f32⟩
  | 64 => ⟨S1x1x768, .f32⟩
  | 65 => ⟨S8x2048x768, .f32⟩
  | 66 => ⟨S8x2048x768, .f32⟩
  | _ => ⟨S8x2048, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x2048, .i32⟩

abbrev bufTy : (tb : Table) → Fin (tcTables nBuf tb) → BufTy
  | .hbm, ⟨i, _⟩ => hbmTy i
  | _, _ => ⟨S8x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v0 : Ref sig .tc := ⟨.hbm, 41, rfl⟩
abbrev main_v1 : Ref sig .tc := ⟨.hbm, 42, rfl⟩
abbrev main_v2 : Ref sig .tc := ⟨.hbm, 43, rfl⟩
abbrev main_v3 : Ref sig .tc := ⟨.hbm, 44, rfl⟩
abbrev main_v4 : Ref sig .tc := ⟨.hbm, 45, rfl⟩
abbrev main_cst : Ref sig .tc := ⟨.hbm, 46, rfl⟩
abbrev main_v5 : Ref sig .tc := ⟨.hbm, 47, rfl⟩
abbrev main_v6 : Ref sig .tc := ⟨.hbm, 48, rfl⟩
abbrev main_cst_0 : Ref sig .tc := ⟨.hbm, 49, rfl⟩
abbrev main_v7 : Ref sig .tc := ⟨.hbm, 50, rfl⟩
abbrev main_v8 : Ref sig .tc := ⟨.hbm, 51, rfl⟩
abbrev main_c : Ref sig .tc := ⟨.hbm, 52, rfl⟩
abbrev main_call1_cst : Ref sig .tc := ⟨.hbm, 53, rfl⟩
abbrev main_call1_v0 : Ref sig .tc := ⟨.hbm, 54, rfl⟩
abbrev main_call1_v1 : Ref sig .tc := ⟨.hbm, 55, rfl⟩
abbrev main_call1_cst_0 : Ref sig .tc := ⟨.hbm, 56, rfl⟩
abbrev main_call1_v2 : Ref sig .tc := ⟨.hbm, 57, rfl⟩
abbrev main_call1_v3 : Ref sig .tc := ⟨.hbm, 58, rfl⟩
abbrev main_call1_v4 : Ref sig .tc := ⟨.hbm, 59, rfl⟩
abbrev main_call1_v5 : Ref sig .tc := ⟨.hbm, 60, rfl⟩
abbrev main_call1_v6 : Ref sig .tc := ⟨.hbm, 61, rfl⟩
abbrev main_call1_v7 : Ref sig .tc := ⟨.hbm, 62, rfl⟩
abbrev main_call1_cst_1 : Ref sig .tc := ⟨.hbm, 63, rfl⟩
abbrev main_call1_v8 : Ref sig .tc := ⟨.hbm, 64, rfl⟩
abbrev main_call1_cst_2 : Ref sig .tc := ⟨.hbm, 65, rfl⟩
abbrev main_call1_v9 : Ref sig .tc := ⟨.hbm, 66, rfl⟩
abbrev main_call1_v10 : Ref sig .tc := ⟨.hbm, 67, rfl⟩
abbrev main_call1_v11 : Ref sig .tc := ⟨.hbm, 68, rfl⟩
abbrev main_call1_v12 : Ref sig .tc := ⟨.hbm, 69, rfl⟩
abbrev main_call1_cst_3 : Ref sig .tc := ⟨.hbm, 70, rfl⟩
abbrev main_call1_v13 : Ref sig .tc := ⟨.hbm, 71, rfl⟩
abbrev main_call1_cst_4 : Ref sig .tc := ⟨.hbm, 72, rfl⟩
abbrev main_call1_call0_v0 : Ref sig .tc := ⟨.hbm, 73, rfl⟩
abbrev main_call1_call0_v1 : Ref sig .tc := ⟨.hbm, 74, rfl⟩
abbrev main_v9 : Ref sig .tc := ⟨.hbm, 75, rfl⟩
abbrev main_v10 : Ref sig .tc := ⟨.hbm, 76, rfl⟩
abbrev main_v11 : Ref sig .tc := ⟨.hbm, 77, rfl⟩
abbrev main_cst_1 : Ref sig .tc := ⟨.hbm, 78, rfl⟩
abbrev main_v12 : Ref sig .tc := ⟨.hbm, 79, rfl⟩
abbrev main_v13 : Ref sig .tc := ⟨.hbm, 80, rfl⟩
abbrev main_v14 : Ref sig .tc := ⟨.hbm, 81, rfl⟩
abbrev main_v15 : Ref sig .tc := ⟨.hbm, 82, rfl⟩
abbrev main_v16 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_v22 : Ref sig .tc := ⟨.hbm, 89, rfl⟩
abbrev main_cst_2 : Ref sig .tc := ⟨.hbm, 90, rfl⟩
abbrev main_v23 : Ref sig .tc := ⟨.hbm, 91, rfl⟩
abbrev main_v24 : Ref sig .tc := ⟨.hbm, 92, rfl⟩
abbrev main_v25 : Ref sig .tc := ⟨.hbm, 93, rfl⟩
abbrev main_cst_3 : Ref sig .tc := ⟨.hbm, 94, rfl⟩
abbrev main_v26 : Ref sig .tc := ⟨.hbm, 95, rfl⟩
abbrev main_v27 : Ref sig .tc := ⟨.hbm, 96, rfl⟩
abbrev main_v28 : Ref sig .tc := ⟨.hbm, 97, rfl⟩
abbrev main_v29 : Ref sig .tc := ⟨.hbm, 98, rfl⟩
abbrev main_cst_4 : Ref sig .tc := ⟨.hbm, 99, rfl⟩
abbrev main_v30 : Ref sig .tc := ⟨.hbm, 100, rfl⟩
abbrev main_v31 : Ref sig .tc := ⟨.hbm, 101, rfl⟩
abbrev main_cst_5 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_cst_6 : Ref sig .tc := ⟨.hbm, 107, rfl⟩
abbrev main_v36 : Ref sig .tc := ⟨.hbm, 108, rfl⟩
abbrev main_v37 : Ref sig .tc := ⟨.hbm, 109, rfl⟩
abbrev main_cst_7 : Ref sig .tc := ⟨.hbm, 110, rfl⟩
abbrev main_v38 : Ref sig .tc := ⟨.hbm, 111, rfl⟩
abbrev main_v39 : Ref sig .tc := ⟨.hbm, 112, rfl⟩
abbrev main_cst_8 : Ref sig .tc := ⟨.hbm, 113, rfl⟩
abbrev main_v40 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_v45 : Ref sig .tc := ⟨.hbm, 120, rfl⟩
abbrev main_v46 : Ref sig .tc := ⟨.hbm, 121, rfl⟩
abbrev main_v47 : Ref sig .tc := ⟨.hbm, 122, rfl⟩
abbrev main_v48 : Ref sig .tc := ⟨.hbm, 123, rfl⟩
abbrev main_v49 : Ref sig .tc := ⟨.hbm, 124, rfl⟩
abbrev main_v50 : Ref sig .tc := ⟨.hbm, 125, rfl⟩
abbrev main_cst_10 : Ref sig .tc := ⟨.hbm, 126, rfl⟩
abbrev main_v51 : Ref sig .tc := ⟨.hbm, 127, rfl⟩
abbrev main_v52 : Ref sig .tc := ⟨.hbm, 128, rfl⟩
abbrev main_cst_11 : Ref sig .tc := ⟨.hbm, 129, rfl⟩
abbrev main_v53 : Ref sig .tc := ⟨.hbm, 130, rfl⟩
abbrev main_v54 : Ref sig .tc := ⟨.hbm, 131, rfl⟩
abbrev main_v55 : Ref sig .tc := ⟨.hbm, 132, rfl⟩
abbrev main_v56 : Ref sig .tc := ⟨.hbm, 133, rfl⟩
abbrev main_cst_12 : Ref sig .tc := ⟨.hbm, 134, rfl⟩
abbrev main_v57 : Ref sig .tc := ⟨.hbm, 135, rfl⟩
abbrev main_v58 : Ref sig .tc := ⟨.hbm, 136, rfl⟩
abbrev main_cst_13 : Ref sig .tc := ⟨.hbm, 137, rfl⟩
abbrev main_v59 : Ref sig .tc := ⟨.hbm, 138, rfl⟩
abbrev main_v60 : Ref sig .tc := ⟨.hbm, 139, rfl⟩
abbrev main_cst_14 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_v64 : Ref sig .tc := ⟨.hbm, 144, rfl⟩
abbrev main_v65 : Ref sig .tc := ⟨.hbm, 145, rfl⟩
abbrev main_cst_15 : Ref sig .tc := ⟨.hbm, 146, rfl⟩
abbrev main_v66 : Ref sig .tc := ⟨.hbm, 147, rfl⟩
abbrev main_v67 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_cst_16 : Ref sig .tc := ⟨.hbm, 153, rfl⟩
abbrev main_v72 : Ref sig .tc := ⟨.hbm, 154, rfl⟩
abbrev main_v73 : Ref sig .tc := ⟨.hbm, 155, rfl⟩
abbrev main_cst_17 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_cst_18 : Ref sig .tc := ⟨.hbm, 161, rfl⟩
abbrev main_v78 : Ref sig .tc := ⟨.hbm, 162, rfl⟩
abbrev main_v79 : Ref sig .tc := ⟨.hbm, 163, rfl⟩
abbrev main_cst_19 : Ref sig .tc := ⟨.hbm, 164, rfl⟩
abbrev main_v80 : Ref sig .tc := ⟨.hbm, 165, rfl⟩
abbrev main_v81 : Ref sig .tc := ⟨.hbm, 166, rfl⟩
abbrev main_cst_20 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_v85 : Ref sig .tc := ⟨.hbm, 171, rfl⟩
abbrev main_v86 : Ref sig .tc := ⟨.hbm, 172, rfl⟩
abbrev main_cst_21 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_cst_22 : Ref sig .tc := ⟨.hbm, 180, rfl⟩
abbrev main_v93 : Ref sig .tc := ⟨.hbm, 181, rfl⟩
abbrev main_v94 : Ref sig .tc := ⟨.hbm, 182, rfl⟩
abbrev main_cst_23 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_cst_24 : Ref sig .tc := ⟨.hbm, 188, rfl⟩
abbrev main_v99 : Ref sig .tc := ⟨.hbm, 189, rfl⟩
abbrev main_v100 : Ref sig .tc := ⟨.hbm, 190, rfl⟩
abbrev main_cst_25 : Ref sig .tc := ⟨.hbm, 191, rfl⟩
abbrev main_v101 : Ref sig .tc := ⟨.hbm, 192, rfl⟩
abbrev main_v102 : Ref sig .tc := ⟨.hbm, 193, rfl⟩
abbrev main_cst_26 : Ref sig .tc := ⟨.hbm, 194, rfl⟩
abbrev main_v103 : Ref sig .tc := ⟨.hbm, 195, rfl⟩
abbrev main_v104 : Ref sig .tc := ⟨.hbm, 196, rfl⟩
abbrev main_v105 : Ref sig .tc := ⟨.hbm, 197, rfl⟩
abbrev main_v106 : Ref sig .tc := ⟨.hbm, 198, rfl⟩
abbrev main_v107 : Ref sig .tc := ⟨.hbm, 199, rfl⟩
abbrev main_cst_27 : Ref sig .tc := ⟨.hbm, 200, rfl⟩
abbrev main_v108 : Ref sig .tc := ⟨.hbm, 201, rfl⟩
abbrev main_v109 : Ref sig .tc := ⟨.hbm, 202, rfl⟩
abbrev main_v110 : Ref sig .tc := ⟨.hbm, 203, rfl⟩
abbrev main_v111 : Ref sig .tc := ⟨.hbm, 204, rfl⟩
abbrev main_v112 : Ref sig .tc := ⟨.hbm, 205, rfl⟩
abbrev main_v113 : Ref sig .tc := ⟨.hbm, 206, rfl⟩
abbrev main_cst_28 : Ref sig .tc := ⟨.hbm, 207, rfl⟩
abbrev main_v114 : Ref sig .tc := ⟨.hbm, 208, rfl⟩
abbrev main_v115 : Ref sig .tc := ⟨.hbm, 209, rfl⟩
abbrev main_cst_29 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_cst_30 : Ref sig .tc := ⟨.hbm, 215, rfl⟩
abbrev main_v120 : Ref sig .tc := ⟨.hbm, 216, rfl⟩
abbrev main_v121 : Ref sig .tc := ⟨.hbm, 217, rfl⟩
abbrev main_cst_31 : Ref sig .tc := ⟨.hbm, 218, rfl⟩
abbrev main_v122 : Ref sig .tc := ⟨.hbm, 219, rfl⟩
abbrev main_v123 : Ref sig .tc := ⟨.hbm, 220, rfl⟩
abbrev main_cst_32 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_cst_33 : Ref sig .tc := ⟨.hbm, 227, rfl⟩
abbrev main_v129 : Ref sig .tc := ⟨.hbm, 228, rfl⟩
abbrev main_v130 : Ref sig .tc := ⟨.hbm, 229, rfl⟩
abbrev main_v131 : Ref sig .tc := ⟨.hbm, 230, rfl⟩
abbrev main_v132 : Ref sig .tc := ⟨.hbm, 231, rfl⟩
abbrev main_v133 : Ref sig .tc := ⟨.hbm, 232, rfl⟩
abbrev main_v134 : Ref sig .tc := ⟨.hbm, 233, rfl⟩
abbrev main_cst_34 : Ref sig .tc := ⟨.hbm, 234, rfl⟩
abbrev main_v135 : Ref sig .tc := ⟨.hbm, 235, rfl⟩
abbrev main_v136 : Ref sig .tc := ⟨.hbm, 236, rfl⟩
abbrev main_cst_35 : Ref sig .tc := ⟨.hbm, 237, rfl⟩
abbrev main_v137 : Ref sig .tc := ⟨.hbm, 238, rfl⟩
abbrev main_v138 : Ref sig .tc := ⟨.hbm, 239, rfl⟩
abbrev main_v139 : Ref sig .tc := ⟨.hbm, 240, rfl⟩
abbrev main_v140 : Ref sig .tc := ⟨.hbm, 241, rfl⟩
abbrev main_cst_36 : Ref sig .tc := ⟨.hbm, 242, rfl⟩
abbrev main_v141 : Ref sig .tc := ⟨.hbm, 243, rfl⟩
abbrev main_v142 : Ref sig .tc := ⟨.hbm, 244, rfl⟩
abbrev main_cst_37 : Ref sig .tc := ⟨.hbm, 245, rfl⟩
abbrev main_v143 : Ref sig .tc := ⟨.hbm, 246, rfl⟩
abbrev main_v144 : Ref sig .tc := ⟨.hbm, 247, rfl⟩
abbrev main_cst_38 : Ref sig .tc := ⟨.hbm, 248, rfl⟩
abbrev main_v145 : Ref sig .tc := ⟨.hbm, 249, rfl⟩
abbrev main_v146 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_cst_39 : Ref sig .tc := ⟨.hbm, 254, rfl⟩
abbrev main_v150 : Ref sig .tc := ⟨.hbm, 255, rfl⟩
abbrev main_v151 : Ref sig .tc := ⟨.hbm, 256, rfl⟩
abbrev main_v152 : Ref sig .tc := ⟨.hbm, 257, rfl⟩
abbrev main_v153 : Ref sig .tc := ⟨.hbm, 258, rfl⟩
abbrev main_v154 : Ref sig .tc := ⟨.hbm, 259, rfl⟩
abbrev main_v155 : Ref sig .tc := ⟨.hbm, 260, rfl⟩
abbrev main_cst_40 : Ref sig .tc := ⟨.hbm, 261, rfl⟩
abbrev main_v156 : Ref sig .tc := ⟨.hbm, 262, rfl⟩
abbrev main_v157 : Ref sig .tc := ⟨.hbm, 263, rfl⟩
abbrev main_cst_41 : Ref sig .tc := ⟨.hbm, 264, rfl⟩
abbrev main_v158 : Ref sig .tc := ⟨.hbm, 265, rfl⟩
abbrev main_v159 : Ref sig .tc := ⟨.hbm, 266, rfl⟩
abbrev main_v160 : Ref sig .tc := ⟨.hbm, 267, rfl⟩
abbrev main_v161 : Ref sig .tc := ⟨.hbm, 268, rfl⟩
abbrev main_cst_42 : Ref sig .tc := ⟨.hbm, 269, rfl⟩
abbrev main_v162 : Ref sig .tc := ⟨.hbm, 270, rfl⟩
abbrev main_v163 : Ref sig .tc := ⟨.hbm, 271, rfl⟩
abbrev main_cst_43 : Ref sig .tc := ⟨.hbm, 272, rfl⟩
abbrev main_v164 : Ref sig .tc := ⟨.hbm, 273, rfl⟩
abbrev main_v165 : Ref sig .tc := ⟨.hbm, 274, rfl⟩
abbrev main_cst_44 : Ref sig .tc := ⟨.hbm, 275, rfl⟩
abbrev main_v166 : Ref sig .tc := ⟨.hbm, 276, rfl⟩
abbrev main_v167 : Ref sig .tc := ⟨.hbm, 277, rfl⟩
abbrev main_v168 : Ref sig .tc := ⟨.hbm, 278, rfl⟩
abbrev main_v169 : Ref sig .tc := ⟨.hbm, 279, rfl⟩
abbrev main_v170 : Ref sig .tc := ⟨.hbm, 280, rfl⟩
abbrev main_cst_45 : Ref sig .tc := ⟨.hbm, 281, rfl⟩
abbrev main_v171 : Ref sig .tc := ⟨.hbm, 282, rfl⟩
abbrev main_v172 : Ref sig .tc := ⟨.hbm, 283, rfl⟩
abbrev main_v173 : Ref sig .tc := ⟨.hbm, 284, rfl⟩
abbrev main_v174 : Ref sig .tc := ⟨.hbm, 285, rfl⟩
abbrev main_v175 : Ref sig .tc := ⟨.hbm, 286, rfl⟩
abbrev main_v176 : Ref sig .tc := ⟨.hbm, 287, rfl⟩
abbrev main_cst_46 : Ref sig .tc := ⟨.hbm, 288, rfl⟩
abbrev main_v177 : Ref sig .tc := ⟨.hbm, 289, rfl⟩
abbrev main_v178 : Ref sig .tc := ⟨.hbm, 290, rfl⟩
abbrev main_cst_47 : Ref sig .tc := ⟨.hbm, 291, rfl⟩
abbrev main_v179 : Ref sig .tc := ⟨.hbm, 292, rfl⟩
abbrev main_v180 : Ref sig .tc := ⟨.hbm, 293, rfl⟩
abbrev main_v181 : Ref sig .tc := ⟨.hbm, 294, rfl⟩
abbrev main_v182 : Ref sig .tc := ⟨.hbm, 295, rfl⟩
abbrev main_cst_48 : Ref sig .tc := ⟨.hbm, 296, rfl⟩
abbrev main_v183 : Ref sig .tc := ⟨.hbm, 297, rfl⟩
abbrev main_v184 : Ref sig .tc := ⟨.hbm, 298, rfl⟩
abbrev main_cst_49 : Ref sig .tc := ⟨.hbm, 299, rfl⟩
abbrev main_v185 : Ref sig .tc := ⟨.hbm, 300, rfl⟩
abbrev main_v186 : Ref sig .tc := ⟨.hbm, 301, rfl⟩
abbrev main_cst_50 : Ref sig .tc := ⟨.hbm, 302, rfl⟩
abbrev main_v187 : Ref sig .tc := ⟨.hbm, 303, rfl⟩
abbrev main_v188 : Ref sig .tc := ⟨.hbm, 304, rfl⟩
abbrev main_v189 : Ref sig .tc := ⟨.hbm, 305, rfl⟩
abbrev main_v190 : Ref sig .tc := ⟨.hbm, 306, rfl⟩
abbrev main_v191 : Ref sig .tc := ⟨.hbm, 307, rfl⟩
abbrev main_cst_51 : Ref sig .tc := ⟨.hbm, 308, rfl⟩
abbrev main_v192 : Ref sig .tc := ⟨.hbm, 309, rfl⟩
abbrev main_v193 : Ref sig .tc := ⟨.hbm, 310, rfl⟩
abbrev main_v194 : Ref sig .tc := ⟨.hbm, 311, rfl⟩
abbrev main_v195 : Ref sig .tc := ⟨.hbm, 312, rfl⟩
abbrev main_v196 : Ref sig .tc := ⟨.hbm, 313, rfl⟩
abbrev main_v197 : Ref sig .tc := ⟨.hbm, 314, rfl⟩
abbrev main_v198 : Ref sig .tc := ⟨.hbm, 315, rfl⟩
abbrev main_v199 : Ref sig .tc := ⟨.hbm, 316, rfl⟩
abbrev main_v200 : Ref sig .tc := ⟨.hbm, 317, rfl⟩
abbrev main_v201 : Ref sig .tc := ⟨.hbm, 318, rfl⟩
abbrev main_v202 : Ref sig .tc := ⟨.hbm, 319, rfl⟩
abbrev main_v203 : Ref sig .tc := ⟨.hbm, 320, rfl⟩
abbrev main_v204 : Ref sig .tc := ⟨.hbm, 321, rfl⟩
abbrev main_v205 : Ref sig .tc := ⟨.hbm, 322, rfl⟩
abbrev main_v206 : Ref sig .tc := ⟨.hbm, 323, rfl⟩
abbrev main_v207 : Ref sig .tc := ⟨.hbm, 324, rfl⟩
abbrev main_v208 : Ref sig .tc := ⟨.hbm, 325, rfl⟩
abbrev main_cst_52 : Ref sig .tc := ⟨.hbm, 326, rfl⟩
abbrev main_v209 : Ref sig .tc := ⟨.hbm, 327, rfl⟩
abbrev main_v210 : Ref sig .tc := ⟨.hbm, 328, rfl⟩
abbrev main_cst_53 : Ref sig .tc := ⟨.hbm, 329, rfl⟩
abbrev main_v211 : Ref sig .tc := ⟨.hbm, 330, rfl⟩
abbrev main_v212 : Ref sig .tc := ⟨.hbm, 331, rfl⟩
abbrev main_c_54 : Ref sig .tc := ⟨.hbm, 332, rfl⟩
abbrev main_call2_cst : Ref sig .tc := ⟨.hbm, 333, rfl⟩
abbrev main_call2_v0 : Ref sig .tc := ⟨.hbm, 334, rfl⟩
abbrev main_call2_v1 : Ref sig .tc := ⟨.hbm, 335, rfl⟩
abbrev main_call2_cst_0 : Ref sig .tc := ⟨.hbm, 336, rfl⟩
abbrev main_call2_v2 : Ref sig .tc := ⟨.hbm, 337, rfl⟩
abbrev main_call2_v3 : Ref sig .tc := ⟨.hbm, 338, rfl⟩
abbrev main_call2_v4 : Ref sig .tc := ⟨.hbm, 339, rfl⟩
abbrev main_call2_v5 : Ref sig .tc := ⟨.hbm, 340, rfl⟩
abbrev main_call2_v6 : Ref sig .tc := ⟨.hbm, 341, rfl⟩
abbrev main_call2_v7 : Ref sig .tc := ⟨.hbm, 342, rfl⟩
abbrev main_call2_cst_1 : Ref sig .tc := ⟨.hbm, 343, rfl⟩
abbrev main_call2_v8 : Ref sig .tc := ⟨.hbm, 344, rfl⟩
abbrev main_call2_cst_2 : Ref sig .tc := ⟨.hbm, 345, rfl⟩
abbrev main_call2_v9 : Ref sig .tc := ⟨.hbm, 346, rfl⟩
abbrev main_call2_v10 : Ref sig .tc := ⟨.hbm, 347, rfl⟩
abbrev main_call2_v11 : Ref sig .tc := ⟨.hbm, 348, rfl⟩
abbrev main_call2_v12 : Ref sig .tc := ⟨.hbm, 349, rfl⟩
abbrev main_call2_cst_3 : Ref sig .tc := ⟨.hbm, 350, rfl⟩
abbrev main_call2_v13 : Ref sig .tc := ⟨.hbm, 351, rfl⟩
abbrev main_call2_cst_4 : Ref sig .tc := ⟨.hbm, 352, rfl⟩
abbrev main_call2_call0_v0 : Ref sig .tc := ⟨.hbm, 353, rfl⟩
abbrev main_call2_call0_v1 : Ref sig .tc := ⟨.hbm, 354, rfl⟩
abbrev main_v213 : Ref sig .tc := ⟨.hbm, 355, rfl⟩
abbrev main_v214 : Ref sig .tc := ⟨.hbm, 356, rfl⟩
abbrev main_v215 : Ref sig .tc := ⟨.hbm, 357, rfl⟩
abbrev main_cst_55 : Ref sig .tc := ⟨.hbm, 358, rfl⟩
abbrev main_v216 : Ref sig .tc := ⟨.hbm, 359, rfl⟩
abbrev main_v217 : Ref sig .tc := ⟨.hbm, 360, rfl⟩
abbrev main_v218 : Ref sig .tc := ⟨.hbm, 361, rfl⟩
abbrev main_v219 : Ref sig .tc := ⟨.hbm, 362, rfl⟩
abbrev main_v220 : Ref sig .tc := ⟨.hbm, 363, rfl⟩
abbrev main_v221 : Ref sig .tc := ⟨.hbm, 364, rfl⟩
abbrev main_v222 : Ref sig .tc := ⟨.hbm, 365, rfl⟩
abbrev main_v223 : Ref sig .tc := ⟨.hbm, 366, rfl⟩
abbrev main_v224 : Ref sig .tc := ⟨.hbm, 367, rfl⟩
abbrev main_v225 : Ref sig .tc := ⟨.hbm, 368, rfl⟩
abbrev main_v226 : Ref sig .tc := ⟨.hbm, 369, rfl⟩
abbrev main_cst_56 : Ref sig .tc := ⟨.hbm, 370, rfl⟩
abbrev main_v227 : Ref sig .tc := ⟨.hbm, 371, rfl⟩
abbrev main_v228 : Ref sig .tc := ⟨.hbm, 372, rfl⟩
abbrev main_v229 : Ref sig .tc := ⟨.hbm, 373, rfl⟩
abbrev main_cst_57 : Ref sig .tc := ⟨.hbm, 374, rfl⟩
abbrev main_v230 : Ref sig .tc := ⟨.hbm, 375, rfl⟩
abbrev main_v231 : Ref sig .tc := ⟨.hbm, 376, rfl⟩
abbrev main_v232 : Ref sig .tc := ⟨.hbm, 377, rfl⟩
abbrev main_v233 : Ref sig .tc := ⟨.hbm, 378, rfl⟩
abbrev main_cst_58 : Ref sig .tc := ⟨.hbm, 379, rfl⟩
abbrev main_v234 : Ref sig .tc := ⟨.hbm, 380, rfl⟩
abbrev main_v235 : Ref sig .tc := ⟨.hbm, 381, rfl⟩
abbrev main_cst_59 : Ref sig .tc := ⟨.hbm, 382, rfl⟩
abbrev main_v236 : Ref sig .tc := ⟨.hbm, 383, rfl⟩
abbrev main_v237 : Ref sig .tc := ⟨.hbm, 384, rfl⟩
abbrev main_v238 : Ref sig .tc := ⟨.hbm, 385, rfl⟩
abbrev main_v239 : Ref sig .tc := ⟨.hbm, 386, rfl⟩
abbrev main_cst_60 : Ref sig .tc := ⟨.hbm, 387, rfl⟩
abbrev main_v240 : Ref sig .tc := ⟨.hbm, 388, rfl⟩
abbrev main_v241 : Ref sig .tc := ⟨.hbm, 389, rfl⟩
abbrev main_cst_61 : Ref sig .tc := ⟨.hbm, 390, rfl⟩
abbrev main_v242 : Ref sig .tc := ⟨.hbm, 391, rfl⟩
abbrev main_v243 : Ref sig .tc := ⟨.hbm, 392, rfl⟩
abbrev main_cst_62 : Ref sig .tc := ⟨.hbm, 393, rfl⟩
abbrev main_v244 : Ref sig .tc := ⟨.hbm, 394, rfl⟩
abbrev main_v245 : Ref sig .tc := ⟨.hbm, 395, rfl⟩
abbrev main_v246 : Ref sig .tc := ⟨.hbm, 396, rfl⟩
abbrev main_v247 : Ref sig .tc := ⟨.hbm, 397, rfl⟩
abbrev main_v248 : Ref sig .tc := ⟨.hbm, 398, rfl⟩
abbrev main_cst_63 : Ref sig .tc := ⟨.hbm, 399, rfl⟩
abbrev main_v249 : Ref sig .tc := ⟨.hbm, 400, rfl⟩
abbrev main_v250 : Ref sig .tc := ⟨.hbm, 401, rfl⟩
abbrev main_v251 : Ref sig .tc := ⟨.hbm, 402, rfl⟩
abbrev main_v252 : Ref sig .tc := ⟨.hbm, 403, rfl⟩
abbrev main_v253 : Ref sig .tc := ⟨.hbm, 404, rfl⟩
abbrev main_v254 : Ref sig .tc := ⟨.hbm, 405, rfl⟩
abbrev main_cst_64 : Ref sig .tc := ⟨.hbm, 406, rfl⟩
abbrev main_v255 : Ref sig .tc := ⟨.hbm, 407, rfl⟩
abbrev main_v256 : Ref sig .tc := ⟨.hbm, 408, rfl⟩
abbrev main_cst_65 : Ref sig .tc := ⟨.hbm, 409, rfl⟩
abbrev main_v257 : Ref sig .tc := ⟨.hbm, 410, rfl⟩
abbrev main_v258 : Ref sig .tc := ⟨.hbm, 411, rfl⟩
abbrev main_v259 : Ref sig .tc := ⟨.hbm, 412, rfl⟩
abbrev main_v260 : Ref sig .tc := ⟨.hbm, 413, rfl⟩
abbrev main_cst_66 : Ref sig .tc := ⟨.hbm, 414, rfl⟩
abbrev main_v261 : Ref sig .tc := ⟨.hbm, 415, rfl⟩
abbrev main_v262 : Ref sig .tc := ⟨.hbm, 416, rfl⟩
abbrev main_cst_67 : Ref sig .tc := ⟨.hbm, 417, rfl⟩
abbrev main_v263 : Ref sig .tc := ⟨.hbm, 418, rfl⟩
abbrev main_v264 : Ref sig .tc := ⟨.hbm, 419, rfl⟩
abbrev main_cst_68 : Ref sig .tc := ⟨.hbm, 420, rfl⟩
abbrev main_v265 : Ref sig .tc := ⟨.hbm, 421, rfl⟩
abbrev main_v266 : Ref sig .tc := ⟨.hbm, 422, rfl⟩
abbrev main_v267 : Ref sig .tc := ⟨.hbm, 423, rfl⟩
abbrev main_v268 : Ref sig .tc := ⟨.hbm, 424, rfl⟩
abbrev main_v269 : Ref sig .tc := ⟨.hbm, 425, rfl⟩
abbrev main_cst_69 : Ref sig .tc := ⟨.hbm, 426, rfl⟩
abbrev main_v270 : Ref sig .tc := ⟨.hbm, 427, rfl⟩
abbrev main_v271 : Ref sig .tc := ⟨.hbm, 428, rfl⟩
abbrev main_v272 : Ref sig .tc := ⟨.hbm, 429, rfl⟩
abbrev main_v273 : Ref sig .tc := ⟨.hbm, 430, rfl⟩
abbrev main_v274 : Ref sig .tc := ⟨.hbm, 431, rfl⟩
abbrev main_v275 : Ref sig .tc := ⟨.hbm, 432, rfl⟩
abbrev main_cst_70 : Ref sig .tc := ⟨.hbm, 433, rfl⟩
abbrev main_v276 : Ref sig .tc := ⟨.hbm, 434, rfl⟩
abbrev main_v277 : Ref sig .tc := ⟨.hbm, 435, rfl⟩
abbrev main_cst_71 : Ref sig .tc := ⟨.hbm, 436, rfl⟩
abbrev main_v278 : Ref sig .tc := ⟨.hbm, 437, rfl⟩
abbrev main_v279 : Ref sig .tc := ⟨.hbm, 438, rfl⟩
abbrev main_v280 : Ref sig .tc := ⟨.hbm, 439, rfl⟩
abbrev main_v281 : Ref sig .tc := ⟨.hbm, 440, rfl⟩
abbrev main_cst_72 : Ref sig .tc := ⟨.hbm, 441, rfl⟩
abbrev main_v282 : Ref sig .tc := ⟨.hbm, 442, rfl⟩
abbrev main_v283 : Ref sig .tc := ⟨.hbm, 443, rfl⟩
abbrev main_cst_73 : Ref sig .tc := ⟨.hbm, 444, rfl⟩
abbrev main_v284 : Ref sig .tc := ⟨.hbm, 445, rfl⟩
abbrev main_v285 : Ref sig .tc := ⟨.hbm, 446, rfl⟩
abbrev main_cst_74 : Ref sig .tc := ⟨.hbm, 447, rfl⟩
abbrev main_v286 : Ref sig .tc := ⟨.hbm, 448, rfl⟩
abbrev main_v287 : Ref sig .tc := ⟨.hbm, 449, rfl⟩
abbrev main_v288 : Ref sig .tc := ⟨.hbm, 450, rfl⟩
abbrev main_v289 : Ref sig .tc := ⟨.hbm, 451, rfl⟩
abbrev main_v290 : Ref sig .tc := ⟨.hbm, 452, rfl⟩
abbrev main_cst_75 : Ref sig .tc := ⟨.hbm, 453, rfl⟩
abbrev main_v291 : Ref sig .tc := ⟨.hbm, 454, rfl⟩
abbrev main_v292 : Ref sig .tc := ⟨.hbm, 455, rfl⟩
abbrev main_v293 : Ref sig .tc := ⟨.hbm, 456, rfl⟩
abbrev main_v294 : Ref sig .tc := ⟨.hbm, 457, rfl⟩
abbrev main_v295 : Ref sig .tc := ⟨.hbm, 458, rfl⟩
abbrev main_v296 : Ref sig .tc := ⟨.hbm, 459, rfl⟩
abbrev main_cst_76 : Ref sig .tc := ⟨.hbm, 460, rfl⟩
abbrev main_v297 : Ref sig .tc := ⟨.hbm, 461, rfl⟩
abbrev main_v298 : Ref sig .tc := ⟨.hbm, 462, rfl⟩
abbrev main_cst_77 : Ref sig .tc := ⟨.hbm, 463, rfl⟩
abbrev main_v299 : Ref sig .tc := ⟨.hbm, 464, rfl⟩
abbrev main_v300 : Ref sig .tc := ⟨.hbm, 465, rfl⟩
abbrev main_v301 : Ref sig .tc := ⟨.hbm, 466, rfl⟩
abbrev main_v302 : Ref sig .tc := ⟨.hbm, 467, rfl⟩
abbrev main_cst_78 : Ref sig .tc := ⟨.hbm, 468, rfl⟩
abbrev main_v303 : Ref sig .tc := ⟨.hbm, 469, rfl⟩
abbrev main_v304 : Ref sig .tc := ⟨.hbm, 470, rfl⟩
abbrev main_cst_79 : Ref sig .tc := ⟨.hbm, 471, rfl⟩
abbrev main_v305 : Ref sig .tc := ⟨.hbm, 472, rfl⟩
abbrev main_v306 : Ref sig .tc := ⟨.hbm, 473, rfl⟩
abbrev main_cst_80 : Ref sig .tc := ⟨.hbm, 474, rfl⟩
abbrev main_v307 : Ref sig .tc := ⟨.hbm, 475, rfl⟩
abbrev main_v308 : Ref sig .tc := ⟨.hbm, 476, rfl⟩
abbrev main_v309 : Ref sig .tc := ⟨.hbm, 477, rfl⟩
abbrev main_v310 : Ref sig .tc := ⟨.hbm, 478, rfl⟩
abbrev main_v311 : Ref sig .tc := ⟨.hbm, 479, rfl⟩
abbrev main_cst_81 : Ref sig .tc := ⟨.hbm, 480, rfl⟩
abbrev main_v312 : Ref sig .tc := ⟨.hbm, 481, rfl⟩
abbrev main_v313 : Ref sig .tc := ⟨.hbm, 482, rfl⟩
abbrev main_v314 : Ref sig .tc := ⟨.hbm, 483, rfl⟩
abbrev main_v315 : Ref sig .tc := ⟨.hbm, 484, rfl⟩
abbrev main_v316 : Ref sig .tc := ⟨.hbm, 485, rfl⟩
abbrev main_v317 : Ref sig .tc := ⟨.hbm, 486, rfl⟩
abbrev main_cst_82 : Ref sig .tc := ⟨.hbm, 487, rfl⟩
abbrev main_v318 : Ref sig .tc := ⟨.hbm, 488, rfl⟩
abbrev main_v319 : Ref sig .tc := ⟨.hbm, 489, rfl⟩
abbrev main_cst_83 : Ref sig .tc := ⟨.hbm, 490, rfl⟩
abbrev main_v320 : Ref sig .tc := ⟨.hbm, 491, rfl⟩
abbrev main_v321 : Ref sig .tc := ⟨.hbm, 492, rfl⟩
abbrev main_v322 : Ref sig .tc := ⟨.hbm, 493, rfl⟩
abbrev main_v323 : Ref sig .tc := ⟨.hbm, 494, rfl⟩
abbrev main_cst_84 : Ref sig .tc := ⟨.hbm, 495, rfl⟩
abbrev main_v324 : Ref sig .tc := ⟨.hbm, 496, rfl⟩
abbrev main_v325 : Ref sig .tc := ⟨.hbm, 497, rfl⟩
abbrev main_cst_85 : Ref sig .tc := ⟨.hbm, 498, rfl⟩
abbrev main_v326 : Ref sig .tc := ⟨.hbm, 499, rfl⟩
abbrev main_v327 : Ref sig .tc := ⟨.hbm, 500, rfl⟩
abbrev main_cst_86 : Ref sig .tc := ⟨.hbm, 501, rfl⟩
abbrev main_v328 : Ref sig .tc := ⟨.hbm, 502, rfl⟩
abbrev main_v329 : Ref sig .tc := ⟨.hbm, 503, rfl⟩
abbrev main_v330 : Ref sig .tc := ⟨.hbm, 504, rfl⟩
abbrev main_v331 : Ref sig .tc := ⟨.hbm, 505, rfl⟩
abbrev main_v332 : Ref sig .tc := ⟨.hbm, 506, rfl⟩
abbrev main_cst_87 : Ref sig .tc := ⟨.hbm, 507, rfl⟩
abbrev main_v333 : Ref sig .tc := ⟨.hbm, 508, rfl⟩
abbrev main_v334 : Ref sig .tc := ⟨.hbm, 509, rfl⟩
abbrev main_v335 : Ref sig .tc := ⟨.hbm, 510, rfl⟩
abbrev main_v336 : Ref sig .tc := ⟨.hbm, 511, rfl⟩
abbrev main_v337 : Ref sig .tc := ⟨.hbm, 512, rfl⟩
abbrev main_v338 : Ref sig .tc := ⟨.hbm, 513, rfl⟩
abbrev main_cst_88 : Ref sig .tc := ⟨.hbm, 514, rfl⟩
abbrev main_v339 : Ref sig .tc := ⟨.hbm, 515, rfl⟩
abbrev main_v340 : Ref sig .tc := ⟨.hbm, 516, rfl⟩
abbrev main_cst_89 : Ref sig .tc := ⟨.hbm, 517, rfl⟩
abbrev main_v341 : Ref sig .tc := ⟨.hbm, 518, rfl⟩
abbrev main_v342 : Ref sig .tc := ⟨.hbm, 519, rfl⟩
abbrev main_v343 : Ref sig .tc := ⟨.hbm, 520, rfl⟩
abbrev main_v344 : Ref sig .tc := ⟨.hbm, 521, rfl⟩
abbrev main_cst_90 : Ref sig .tc := ⟨.hbm, 522, rfl⟩
abbrev main_v345 : Ref sig .tc := ⟨.hbm, 523, rfl⟩
abbrev main_v346 : Ref sig .tc := ⟨.hbm, 524, rfl⟩
abbrev main_cst_91 : Ref sig .tc := ⟨.hbm, 525, rfl⟩
abbrev main_v347 : Ref sig .tc := ⟨.hbm, 526, rfl⟩
abbrev main_v348 : Ref sig .tc := ⟨.hbm, 527, rfl⟩
abbrev main_cst_92 : Ref sig .tc := ⟨.hbm, 528, rfl⟩
abbrev main_v349 : Ref sig .tc := ⟨.hbm, 529, rfl⟩
abbrev main_v350 : Ref sig .tc := ⟨.hbm, 530, rfl⟩
abbrev main_v351 : Ref sig .tc := ⟨.hbm, 531, rfl⟩
abbrev main_v352 : Ref sig .tc := ⟨.hbm, 532, rfl⟩
abbrev main_v353 : Ref sig .tc := ⟨.hbm, 533, rfl⟩
abbrev main_cst_93 : Ref sig .tc := ⟨.hbm, 534, rfl⟩
abbrev main_v354 : Ref sig .tc := ⟨.hbm, 535, rfl⟩
abbrev main_v355 : Ref sig .tc := ⟨.hbm, 536, rfl⟩
abbrev main_v356 : Ref sig .tc := ⟨.hbm, 537, rfl⟩
abbrev main_v357 : Ref sig .tc := ⟨.hbm, 538, rfl⟩
abbrev main_v358 : Ref sig .tc := ⟨.hbm, 539, rfl⟩
abbrev main_v359 : Ref sig .tc := ⟨.hbm, 540, rfl⟩
abbrev main_cst_94 : Ref sig .tc := ⟨.hbm, 541, rfl⟩
abbrev main_v360 : Ref sig .tc := ⟨.hbm, 542, rfl⟩
abbrev main_v361 : Ref sig .tc := ⟨.hbm, 543, rfl⟩
abbrev main_cst_95 : Ref sig .tc := ⟨.hbm, 544, rfl⟩
abbrev main_v362 : Ref sig .tc := ⟨.hbm, 545, rfl⟩
abbrev main_v363 : Ref sig .tc := ⟨.hbm, 546, rfl⟩
abbrev main_v364 : Ref sig .tc := ⟨.hbm, 547, rfl⟩
abbrev main_v365 : Ref sig .tc := ⟨.hbm, 548, rfl⟩
abbrev main_cst_96 : Ref sig .tc := ⟨.hbm, 549, rfl⟩
abbrev main_v366 : Ref sig .tc := ⟨.hbm, 550, rfl⟩
abbrev main_v367 : Ref sig .tc := ⟨.hbm, 551, rfl⟩
abbrev main_cst_97 : Ref sig .tc := ⟨.hbm, 552, rfl⟩
abbrev main_v368 : Ref sig .tc := ⟨.hbm, 553, rfl⟩
abbrev main_v369 : Ref sig .tc := ⟨.hbm, 554, rfl⟩
abbrev main_cst_98 : Ref sig .tc := ⟨.hbm, 555, rfl⟩
abbrev main_v370 : Ref sig .tc := ⟨.hbm, 556, rfl⟩
abbrev main_v371 : Ref sig .tc := ⟨.hbm, 557, rfl⟩
abbrev main_v372 : Ref sig .tc := ⟨.hbm, 558, rfl⟩
abbrev main_v373 : Ref sig .tc := ⟨.hbm, 559, rfl⟩
abbrev main_v374 : Ref sig .tc := ⟨.hbm, 560, rfl⟩
abbrev main_cst_99 : Ref sig .tc := ⟨.hbm, 561, rfl⟩
abbrev main_v375 : Ref sig .tc := ⟨.hbm, 562, rfl⟩
abbrev main_v376 : Ref sig .tc := ⟨.hbm, 563, rfl⟩
abbrev main_v377 : Ref sig .tc := ⟨.hbm, 564, rfl⟩
abbrev main_v378 : Ref sig .tc := ⟨.hbm, 565, rfl⟩
abbrev main_v379 : Ref sig .tc := ⟨.hbm, 566, rfl⟩
abbrev main_v380 : Ref sig .tc := ⟨.hbm, 567, rfl⟩
abbrev main_cst_100 : Ref sig .tc := ⟨.hbm, 568, rfl⟩
abbrev main_v381 : Ref sig .tc := ⟨.hbm, 569, rfl⟩
abbrev main_v382 : Ref sig .tc := ⟨.hbm, 570, rfl⟩
abbrev main_cst_101 : Ref sig .tc := ⟨.hbm, 571, rfl⟩
abbrev main_v383 : Ref sig .tc := ⟨.hbm, 572, rfl⟩
abbrev main_v384 : Ref sig .tc := ⟨.hbm, 573, rfl⟩
abbrev main_v385 : Ref sig .tc := ⟨.hbm, 574, rfl⟩
abbrev main_v386 : Ref sig .tc := ⟨.hbm, 575, rfl⟩
abbrev main_cst_102 : Ref sig .tc := ⟨.hbm, 576, rfl⟩
abbrev main_v387 : Ref sig .tc := ⟨.hbm, 577, rfl⟩
abbrev main_v388 : Ref sig .tc := ⟨.hbm, 578, rfl⟩
abbrev main_cst_103 : Ref sig .tc := ⟨.hbm, 579, rfl⟩
abbrev main_v389 : Ref sig .tc := ⟨.hbm, 580, rfl⟩
abbrev main_v390 : Ref sig .tc := ⟨.hbm, 581, rfl⟩
abbrev main_cst_104 : Ref sig .tc := ⟨.hbm, 582, rfl⟩
abbrev main_v391 : Ref sig .tc := ⟨.hbm, 583, rfl⟩
abbrev main_v392 : Ref sig .tc := ⟨.hbm, 584, rfl⟩
abbrev main_v393 : Ref sig .tc := ⟨.hbm, 585, rfl⟩
abbrev main_v394 : Ref sig .tc := ⟨.hbm, 586, rfl⟩
abbrev main_v395 : Ref sig .tc := ⟨.hbm, 587, rfl⟩
abbrev main_cst_105 : Ref sig .tc := ⟨.hbm, 588, rfl⟩
abbrev main_v396 : Ref sig .tc := ⟨.hbm, 589, rfl⟩
abbrev main_v397 : Ref sig .tc := ⟨.hbm, 590, rfl⟩
abbrev main_v398 : Ref sig .tc := ⟨.hbm, 591, rfl⟩
abbrev main_v399 : Ref sig .tc := ⟨.hbm, 592, rfl⟩
abbrev main_v400 : Ref sig .tc := ⟨.hbm, 593, rfl⟩
abbrev main_v401 : Ref sig .tc := ⟨.hbm, 594, rfl⟩
abbrev main_v402 : Ref sig .tc := ⟨.hbm, 595, rfl⟩
abbrev main_v403 : Ref sig .tc := ⟨.hbm, 596, rfl⟩
abbrev main_v404 : Ref sig .tc := ⟨.hbm, 597, rfl⟩
abbrev main_v405 : Ref sig .tc := ⟨.hbm, 598, rfl⟩
abbrev main_v406 : Ref sig .tc := ⟨.hbm, 599, rfl⟩
abbrev main_v407 : Ref sig .tc := ⟨.hbm, 600, rfl⟩
abbrev main_v408 : Ref sig .tc := ⟨.hbm, 601, rfl⟩
abbrev main_v409 : Ref sig .tc := ⟨.hbm, 602, rfl⟩
abbrev main_v410 : Ref sig .tc := ⟨.hbm, 603, rfl⟩
abbrev main_v411 : Ref sig .tc := ⟨.hbm, 604, rfl⟩
abbrev main_v412 : Ref sig .tc := ⟨.hbm, 605, rfl⟩
abbrev main_v413 : Ref sig .tc := ⟨.hbm, 606, rfl⟩
abbrev main_v414 : Ref sig .tc := ⟨.hbm, 607, rfl⟩
abbrev main_v415 : Ref sig .tc := ⟨.hbm, 608, rfl⟩
abbrev main_cst_106 : Ref sig .tc := ⟨.hbm, 609, rfl⟩
abbrev main_v416 : Ref sig .tc := ⟨.hbm, 610, rfl⟩
abbrev main_v417 : Ref sig .tc := ⟨.hbm, 611, rfl⟩
abbrev main_cst_107 : Ref sig .tc := ⟨.hbm, 612, rfl⟩
abbrev main_v418 : Ref sig .tc := ⟨.hbm, 613, rfl⟩
abbrev main_v419 : Ref sig .tc := ⟨.hbm, 614, rfl⟩
abbrev main_v420 : Ref sig .tc := ⟨.hbm, 615, rfl⟩
abbrev main_v421 : Ref sig .tc := ⟨.hbm, 616, rfl⟩
abbrev main_cst_108 : Ref sig .tc := ⟨.hbm, 617, rfl⟩
abbrev main_v422 : Ref sig .tc := ⟨.hbm, 618, rfl⟩
abbrev main_v423 : Ref sig .tc := ⟨.hbm, 619, rfl⟩
abbrev main_cst_109 : Ref sig .tc := ⟨.hbm, 620, rfl⟩
abbrev main_v424 : Ref sig .tc := ⟨.hbm, 621, rfl⟩
abbrev main_v425 : Ref sig .tc := ⟨.hbm, 622, rfl⟩
abbrev main_v426 : Ref sig .tc := ⟨.hbm, 623, rfl⟩
abbrev main_c_110 : Ref sig .tc := ⟨.hbm, 624, rfl⟩
abbrev main_v427 : Ref sig .tc := ⟨.hbm, 625, rfl⟩
abbrev main_cst_111 : Ref sig .tc := ⟨.hbm, 626, rfl⟩
abbrev main_v428 : Ref sig .tc := ⟨.hbm, 627, rfl⟩
abbrev main_v429 : Ref sig .tc := ⟨.hbm, 628, rfl⟩
abbrev main_call3_call0_cst : Ref sig .tc := ⟨.hbm, 629, rfl⟩
abbrev main_call3_call0_v0 : Ref sig .tc := ⟨.hbm, 630, rfl⟩
abbrev main_v430 : Ref sig .tc := ⟨.hbm, 631, rfl⟩
abbrev main_cst_112 : Ref sig .tc := ⟨.hbm, 632, rfl⟩
abbrev main_v431 : Ref sig .tc := ⟨.hbm, 633, rfl⟩
abbrev main_v432 : Ref sig .tc := ⟨.hbm, 634, rfl⟩
abbrev main_v433 : Ref sig .tc := ⟨.hbm, 635, rfl⟩
abbrev main_c_113 : Ref sig .tc := ⟨.hbm, 636, rfl⟩
abbrev main_c_114 : Ref sig .tc := ⟨.hbm, 637, rfl⟩
abbrev main_call4_v0 : Ref sig .tc := ⟨.hbm, 638, rfl⟩
abbrev main_call4_v1 : Ref sig .tc := ⟨.hbm, 639, rfl⟩
abbrev main_call4_v2 : Ref sig .tc := ⟨.hbm, 640, rfl⟩
abbrev main_call4_v3 : Ref sig .tc := ⟨.hbm, 641, rfl⟩
abbrev main_call4_v4 : Ref sig .tc := ⟨.hbm, 642, rfl⟩
abbrev main_v434 : Ref sig .tc := ⟨.hbm, 643, rfl⟩
abbrev main_call5_v0 : Ref sig .tc := ⟨.hbm, 644, rfl⟩
abbrev main_call5_v1 : Ref sig .tc := ⟨.hbm, 645, rfl⟩
abbrev main_call5_v2 : Ref sig .tc := ⟨.hbm, 646, rfl⟩
abbrev main_call5_v3 : Ref sig .tc := ⟨.hbm, 647, rfl⟩
abbrev main_call5_v4 : Ref sig .tc := ⟨.hbm, 648, rfl⟩
abbrev main_v435 : Ref sig .tc := ⟨.hbm, 649, rfl⟩
abbrev main_cst_115 : Ref sig .tc := ⟨.hbm, 650, rfl⟩
abbrev main_v436 : Ref sig .tc := ⟨.hbm, 651, rfl⟩
abbrev main_v437 : Ref sig .tc := ⟨.hbm, 652, rfl⟩
abbrev main_cst_116 : Ref sig .tc := ⟨.hbm, 653, rfl⟩
abbrev main_v438 : Ref sig .tc := ⟨.hbm, 654, rfl⟩
abbrev main_v439 : Ref sig .tc := ⟨.hbm, 655, rfl⟩
abbrev main_v440 : Ref sig .tc := ⟨.hbm, 656, rfl⟩
abbrev main_v441 : Ref sig .tc := ⟨.hbm, 657, rfl⟩
abbrev main_v442 : Ref sig .tc := ⟨.hbm, 658, rfl⟩
abbrev main_v443 : Ref sig .tc := ⟨.hbm, 659, rfl⟩
abbrev main_v444 : Ref sig .tc := ⟨.hbm, 660, rfl⟩
abbrev main_v445 : Ref sig .tc := ⟨.hbm, 661, rfl⟩
abbrev main_v446 : Ref sig .tc := ⟨.hbm, 662, rfl⟩
abbrev main_cst_117 : Ref sig .tc := ⟨.hbm, 663, rfl⟩
abbrev main_v447 : Ref sig .tc := ⟨.hbm, 664, rfl⟩
abbrev main_v448 : Ref sig .tc := ⟨.hbm, 665, rfl⟩
abbrev main_cst_118 : Ref sig .tc := ⟨.hbm, 666, rfl⟩
abbrev main_v449 : Ref sig .tc := ⟨.hbm, 667, rfl⟩
abbrev main_v450 : Ref sig .tc := ⟨.hbm, 668, rfl⟩
abbrev main_c_119 : Ref sig .tc := ⟨.hbm, 669, rfl⟩
abbrev main_call6_cst : Ref sig .tc := ⟨.hbm, 670, rfl⟩
abbrev main_call6_v0 : Ref sig .tc := ⟨.hbm, 671, rfl⟩
abbrev main_call6_v1 : Ref sig .tc := ⟨.hbm, 672, rfl⟩
abbrev main_call6_cst_0 : Ref sig .tc := ⟨.hbm, 673, rfl⟩
abbrev main_call6_v2 : Ref sig .tc := ⟨.hbm, 674, rfl⟩
abbrev main_call6_v3 : Ref sig .tc := ⟨.hbm, 675, rfl⟩
abbrev main_call6_v4 : Ref sig .tc := ⟨.hbm, 676, rfl⟩
abbrev main_call6_v5 : Ref sig .tc := ⟨.hbm, 677, rfl⟩
abbrev main_call6_v6 : Ref sig .tc := ⟨.hbm, 678, rfl⟩
abbrev main_call6_v7 : Ref sig .tc := ⟨.hbm, 679, rfl⟩
abbrev main_call6_cst_1 : Ref sig .tc := ⟨.hbm, 680, rfl⟩
abbrev main_call6_v8 : Ref sig .tc := ⟨.hbm, 681, rfl⟩
abbrev main_call6_cst_2 : Ref sig .tc := ⟨.hbm, 682, rfl⟩
abbrev main_call6_v9 : Ref sig .tc := ⟨.hbm, 683, rfl⟩
abbrev main_call6_v10 : Ref sig .tc := ⟨.hbm, 684, rfl⟩
abbrev main_call6_v11 : Ref sig .tc := ⟨.hbm, 685, rfl⟩
abbrev main_call6_v12 : Ref sig .tc := ⟨.hbm, 686, rfl⟩
abbrev main_call6_cst_3 : Ref sig .tc := ⟨.hbm, 687, rfl⟩
abbrev main_call6_v13 : Ref sig .tc := ⟨.hbm, 688, rfl⟩
abbrev main_call6_cst_4 : Ref sig .tc := ⟨.hbm, 689, rfl⟩
abbrev main_call6_call0_v0 : Ref sig .tc := ⟨.hbm, 690, rfl⟩
abbrev main_call6_call0_v1 : Ref sig .tc := ⟨.hbm, 691, rfl⟩
abbrev main_v451 : Ref sig .tc := ⟨.hbm, 692, rfl⟩
abbrev main_v452 : Ref sig .tc := ⟨.hbm, 693, rfl⟩
abbrev main_v453 : Ref sig .tc := ⟨.hbm, 694, rfl⟩
abbrev main_cst_120 : Ref sig .tc := ⟨.hbm, 695, rfl⟩
abbrev main_v454 : Ref sig .tc := ⟨.hbm, 696, rfl⟩
abbrev main_v455 : Ref sig .tc := ⟨.hbm, 697, rfl⟩
abbrev main_v456 : Ref sig .tc := ⟨.hbm, 698, rfl⟩
abbrev main_v457 : Ref sig .tc := ⟨.hbm, 699, rfl⟩
abbrev main_v458 : Ref sig .tc := ⟨.hbm, 700, rfl⟩
abbrev main_v459 : Ref sig .tc := ⟨.hbm, 701, rfl⟩
abbrev main_v460 : Ref sig .tc := ⟨.hbm, 702, rfl⟩
abbrev main_v461 : Ref sig .tc := ⟨.hbm, 703, rfl⟩
abbrev main_v462 : Ref sig .tc := ⟨.hbm, 704, rfl⟩
abbrev main_v463 : Ref sig .tc := ⟨.hbm, 705, rfl⟩
abbrev main_v464 : Ref sig .tc := ⟨.hbm, 706, rfl⟩

abbrev nD : Nat := 1
abbrev τ : Topo := Topo.v7x

variable {F : FTy → Type} [FloatOps F]
-- ==== Proof.SI.Tools.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load at a rectangle reads a window. -/
theorem load_window {Val : EltTy → Type} {sg : RefSig} {κ : Kind} {sp : Space} {s : Shape} {e : EltTy} (v : View sg κ sp s e) (f : v.ty.Contents Val)
    {off size : Fin s.rank → ℕ} (inb : ∀ a, off a + size a ≤ s.size a) :
    v.readAt Val (Rect.unit off size inb).toLoadRect f = VecWindow.window (v.read Val f) off size inb := rfl

/-- A store at a rectangle puts the stored block over what was there. -/
theorem store_put {Val : EltTy → Type} {sg : RefSig} {κ : Kind} {sp : Space} {s : Shape} {e : EltTy} (v : View sg κ sp s e) (f : v.ty.Contents Val)
    {off size : Fin s.rank → ℕ} (inb : ∀ a, off a + size a ≤ s.size a) (w : (Rect.unit off size inb).shape.Idx → Val e) (L : List (View.Piece Val s e)) :
    v.read Val (v.writes Val f (⟨Rect.unit off size inb, w⟩ :: L)) = VecWindow.put (v.read Val (v.writes Val f L)) off size w :=
  View.read_writes_cons_put v f inb w L rfl

/-- A store of the whole `8 × 256` table leaves what was stored. -/
theorem put_all {α : Type} (x w : S8x256.Idx → α) : VecWindow.put (s := S8x256) x ![0, 0] S8x256.size w = w := by
  funext y
  have h : ∀ a : Fin 2, (![0, 0] : Fin 2 → ℕ) a ≤ (y a).val ∧ (y a).val < (![0, 0] : Fin 2 → ℕ) a + (S8x256.size : Fin 2 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole `8 × 256` table reads the table. -/
theorem window_all {α : Type} (x : S8x256.Idx → α) (inb) : VecWindow.window (s := S8x256) x ![0, 0] S8x256.size inb = x := by
  funext y
  exact congrArg x (funext fun a => Fin.ext (by
    show (![0, 0] : Fin 2 → ℕ) a + 1 * (y a).val = (y a).val
    fin_cases a <;> simp))

/-- A store to row 0 leaves row 1. -/
theorem row1_put0 {α : Type} (x : S8x256.Idx → α) (a : S1x256.Idx → α) (inb) :
    VecWindow.window (s := S8x256) (VecWindow.put (s := S8x256) x ![0, 0] S1x256.size a) ![1, 0] S1x256.size inb = VecWindow.window (s := S8x256) x ![1, 0] S1x256.size inb :=
  VecWindow.window_put_of_disjoint x _ _ _ _ inb a (0 : Fin 2) (.inr (by decide))

/-- Row 0 of an `8 × 256` table. -/
abbrev rowAt0 (xs : Vec F S8x256 .f32) : Vec F S1x256 .f32 := VecWindow.window (s := S8x256) xs ![0, 0] S1x256.size inb_S8x256_S1x256_0_0
/-- Row 1 of an `8 × 256` table. -/
abbrev rowAt1 (xs : Vec F S8x256 .f32) : Vec F S1x256 .f32 := VecWindow.window (s := S8x256) xs ![1, 0] S1x256.size inb_S8x256_S1x256_1_0
/-- An `8 × 256` table with rows 0 and 1 replaced. -/
def rowsPut (xs : Vec F S8x256 .f32) (a b : Vec F S1x256 .f32) : Vec F S8x256 .f32 :=
  VecWindow.put (s := S8x256) (VecWindow.put (s := S8x256) xs ![0, 0] S1x256.size a) ![1, 0] S1x256.size b

/-- A store of the whole block leaves what was stored. -/
theorem put_all_S1x2048x256 {α : Type} (x w : S1x2048x256.Idx → α) : VecWindow.put (s := S1x2048x256) x ![0, 0, 0] S1x2048x256.size w = w := by
  funext y
  have h : ∀ a : Fin 3, (![0, 0, 0] : Fin 3 → ℕ) a ≤ (y a).val ∧ (y a).val < (![0, 0, 0] : Fin 3 → ℕ) a + (S1x2048x256.size : Fin 3 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S1x2048x256 {α : Type} (x : S1x2048x256.Idx → α) (inb) : VecWindow.window (s := S1x2048x256) x ![0, 0, 0] S1x2048x256.size inb = x := by
  funext y
  exact congrArg x (funext fun a => Fin.ext (by
    show (![0, 0, 0] : Fin 3 → ℕ) a + 1 * (y a).val = (y a).val
    fin_cases a <;> simp))

/-- The same store with its sizes written out. -/
theorem put_lit_S1x2048x256 {α : Type} (x w : S1x2048x256.Idx → α) : VecWindow.put (s := S1x2048x256) x ![0, 0, 0] ![1, 2048, 256] w = w := put_all_S1x2048x256 x w

/-- The same load with its sizes written out. -/
theorem window_lit_S1x2048x256 {α : Type} (x : S1x2048x256.Idx → α) (inb) : VecWindow.window (s := S1x2048x256) x ![0, 0, 0] ![1, 2048, 256] inb = x := window_all_S1x2048x256 x inb

/-- A store of the whole block leaves what was stored. -/
theorem put_all_S1x2048x1 {α : Type} (x w : S1x2048x1.Idx → α) : VecWindow.put (s := S1x2048x1) x ![0, 0, 0] S1x2048x1.size w = w := by
  funext y
  have h : ∀ a : Fin 3, (![0, 0, 0] : Fin 3 → ℕ) a ≤ (y a).val ∧ (y a).val < (![0, 0, 0] : Fin 3 → ℕ) a + (S1x2048x1.size : Fin 3 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S1x2048x1 {α : Type} (x : S1x2048x1.Idx → α) (inb) : VecWindow.window (s := S1x2048x1) x ![0, 0, 0] S1x2048x1.size inb = x := by
  funext y
  exact congrArg x (funext fun a => Fin.ext (by
    show (![0, 0, 0] : Fin 3 → ℕ) a + 1 * (y a).val = (y a).val
    fin_cases a <;> simp))

/-- The same store with its sizes written out. -/
theorem put_lit_S1x2048x1 {α : Type} (x w : S1x2048x1.Idx → α) : VecWindow.put (s := S1x2048x1) x ![0, 0, 0] ![1, 2048, 1] w = w := put_all_S1x2048x1 x w

/-- The same load with its sizes written out. -/
theorem window_lit_S1x2048x1 {α : Type} (x : S1x2048x1.Idx → α) (inb) : VecWindow.window (s := S1x2048x1) x ![0, 0, 0] ![1, 2048, 1] inb = x := window_all_S1x2048x1 x inb

/-- A store of the whole block leaves what was stored. -/
theorem put_all_S2048x256 {α : Type} (x w : S2048x256.Idx → α) : VecWindow.put (s := S2048x256) x ![0, 0] S2048x256.size w = w := by
  funext y
  have h : ∀ a : Fin 2, (![0, 0] : Fin 2 → ℕ) a ≤ (y a).val ∧ (y a).val < (![0, 0] : Fin 2 → ℕ) a + (S2048x256.size : Fin 2 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S2048x256 {α : Type} (x : S2048x256.Idx → α) (inb) : VecWindow.window (s := S2048x256) x ![0, 0] S2048x256.size inb = x := by
  funext y
  exact congrArg x (funext fun a => Fin.ext (by
    show (![0, 0] : Fin 2 → ℕ) a + 1 * (y a).val = (y a).val
    fin_cases a <;> simp))

/-- The same store with its sizes written out. -/
theorem put_lit_S2048x256 {α : Type} (x w : S2048x256.Idx → α) : VecWindow.put (s := S2048x256) x ![0, 0] ![2048, 256] w = w := put_all_S2048x256 x w

/-- The same load with its sizes written out. -/
theorem window_lit_S2048x256 {α : Type} (x : S2048x256.Idx → α) (inb) : VecWindow.window (s := S2048x256) x ![0, 0] ![2048, 256] inb = x := window_all_S2048x256 x inb

/-- A store of the whole block leaves what was stored. -/
theorem put_all_S8x2048 {α : Type} (x w : S8x2048.Idx → α) : VecWindow.put (s := S8x2048) x ![0, 0] S8x2048.size w = w := by
  funext y
  have h : ∀ a : Fin 2, (![0, 0] : Fin 2 → ℕ) a ≤ (y a).val ∧ (y a).val < (![0, 0] : Fin 2 → ℕ) a + (S8x2048.size : Fin 2 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S8x2048 {α : Type} (x : S8x2048.Idx → α) (inb) : VecWindow.window (s := S8x2048) x ![0, 0] S8x2048.size inb = x := by
  funext y
  exact congrArg x (funext fun a => Fin.ext (by
    show (![0, 0] : Fin 2 → ℕ) a + 1 * (y a).val = (y a).val
    fin_cases a <;> simp))

/-- The same store with its sizes written out. -/
theorem put_lit_S8x2048 {α : Type} (x w : S8x2048.Idx → α) : VecWindow.put (s := S8x2048) x ![0, 0] ![8, 2048] w = w := put_all_S8x2048 x w

/-- The same load with its sizes written out. -/
theorem window_lit_S8x2048 {α : Type} (x : S8x2048.Idx → α) (inb) : VecWindow.window (s := S8x2048) x ![0, 0] ![8, 2048] inb = x := window_all_S8x2048 x inb

/-- A store of the whole block leaves what was stored. -/
theorem put_all_S1x256x768 {α : Type} (x w : S1x256x768.Idx → α) : VecWindow.put (s := S1x256x768) x ![0, 0, 0] S1x256x768.size w = w := by
  funext y
  have h : ∀ a : Fin 3, (![0, 0, 0] : Fin 3 → ℕ) a ≤ (y a).val ∧ (y a).val < (![0, 0, 0] : Fin 3 → ℕ) a + (S1x256x768.size : Fin 3 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S1x256x768 {α : Type} (x : S1x256x768.Idx → α) (inb) : VecWindow.window (s := S1x256x768) x ![0, 0, 0] S1x256x768.size inb = x := by
  funext y
  exact congrArg x (funext fun a => Fin.ext (by
    show (![0, 0, 0] : Fin 3 → ℕ) a + 1 * (y a).val = (y a).val
    fin_cases a <;> simp))

/-- The same store with its sizes written out. -/
theorem put_lit_S1x256x768 {α : Type} (x w : S1x256x768.Idx → α) : VecWindow.put (s := S1x256x768) x ![0, 0, 0] ![1, 256, 768] w = w := put_all_S1x256x768 x w

/-- The same load with its sizes written out. -/
theorem window_lit_S1x256x768 {α : Type} (x : S1x256x768.Idx → α) (inb) : VecWindow.window (s := S1x256x768) x ![0, 0, 0] ![1, 256, 768] inb = x := window_all_S1x256x768 x inb

/-- A store of the whole block leaves what was stored. -/
theorem put_all_S256x256 {α : Type} (x w : S256x256.Idx → α) : VecWindow.put (s := S256x256) x ![0, 0] S256x256.size w = w := by
  funext y
  have h : ∀ a : Fin 2, (![0, 0] : Fin 2 → ℕ) a ≤ (y a).val ∧ (y a).val < (![0, 0] : Fin 2 → ℕ) a + (S256x256.size : Fin 2 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S256x256 {α : Type} (x : S256x256.Idx → α) (inb) : VecWindow.window (s := S256x256) x ![0, 0] S256x256.size inb = x := by
  funext y
  exact congrArg x (funext fun a => Fin.ext (by
    show (![0, 0] : Fin 2 → ℕ) a + 1 * (y a).val = (y a).val
    fin_cases a <;> simp))

/-- The same store with its sizes written out. -/
theorem put_lit_S256x256 {α : Type} (x w : S256x256.Idx → α) : VecWindow.put (s := S256x256) x ![0, 0] ![256, 256] w = w := put_all_S256x256 x w

/-- The same load with its sizes written out. -/
theorem window_lit_S256x256 {α : Type} (x : S256x256.Idx → α) (inb) : VecWindow.window (s := S256x256) x ![0, 0] ![256, 256] inb = x := window_all_S256x256 x inb

/-- A store of the whole block leaves what was stored. -/
theorem put_all_S256x1 {α : Type} (x w : S256x1.Idx → α) : VecWindow.put (s := S256x1) x ![0, 0] S256x1.size w = w := by
  funext y
  have h : ∀ a : Fin 2, (![0, 0] : Fin 2 → ℕ) a ≤ (y a).val ∧ (y a).val < (![0, 0] : Fin 2 → ℕ) a + (S256x1.size : Fin 2 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S256x1 {α : Type} (x : S256x1.Idx → α) (inb) : VecWindow.window (s := S256x1) x ![0, 0] S256x1.size inb = x := by
  funext y
  exact congrArg x (funext fun a => Fin.ext (by
    show (![0, 0] : Fin 2 → ℕ) a + 1 * (y a).val = (y a).val
    fin_cases a <;> simp))

/-- The same store with its sizes written out. -/
theorem put_lit_S256x1 {α : Type} (x w : S256x1.Idx → α) : VecWindow.put (s := S256x1) x ![0, 0] ![256, 1] w = w := put_all_S256x1 x w

/-- The same load with its sizes written out. -/
theorem window_lit_S256x1 {α : Type} (x : S256x1.Idx → α) (inb) : VecWindow.window (s := S256x1) x ![0, 0] ![256, 1] inb = x := window_all_S256x1 x inb

/-- A store of the whole block leaves what was stored. -/
theorem put_all_S1x256 {α : Type} (x w : S1x256.Idx → α) : VecWindow.put (s := S1x256) x ![0, 0] S1x256.size w = w := by
  funext y
  have h : ∀ a : Fin 2, (![0, 0] : Fin 2 → ℕ) a ≤ (y a).val ∧ (y a).val < (![0, 0] : Fin 2 → ℕ) a + (S1x256.size : Fin 2 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S1x256 {α : Type} (x : S1x256.Idx → α) (inb) : VecWindow.window (s := S1x256) x ![0, 0] S1x256.size inb = x := by
  funext y
  exact congrArg x (funext fun a => Fin.ext (by
    show (![0, 0] : Fin 2 → ℕ) a + 1 * (y a).val = (y a).val
    fin_cases a <;> simp))

/-- The same store with its sizes written out. -/
theorem put_lit_S1x256 {α : Type} (x w : S1x256.Idx → α) : VecWindow.put (s := S1x256) x ![0, 0] ![1, 256] w = w := put_all_S1x256 x w

/-- The same load with its sizes written out. -/
theorem window_lit_S1x256 {α : Type} (x : S1x256.Idx → α) (inb) : VecWindow.window (s := S1x256) x ![0, 0] ![1, 256] inb = x := window_all_S1x256 x inb

/-- A store of the whole block leaves what was stored. -/
theorem put_all_S1x1 {α : Type} (x w : S1x1.Idx → α) : VecWindow.put (s := S1x1) x ![0, 0] S1x1.size w = w := by
  funext y
  have h : ∀ a : Fin 2, (![0, 0] : Fin 2 → ℕ) a ≤ (y a).val ∧ (y a).val < (![0, 0] : Fin 2 → ℕ) a + (S1x1.size : Fin 2 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S1x1 {α : Type} (x : S1x1.Idx → α) (inb) : VecWindow.window (s := S1x1) x ![0, 0] S1x1.size inb = x := by
  funext y
  exact congrArg x (funext fun a => Fin.ext (by
    show (![0, 0] : Fin 2 → ℕ) a + 1 * (y a).val = (y a).val
    fin_cases a <;> simp))

/-- The same store with its sizes written out. -/
theorem put_lit_S1x1 {α : Type} (x w : S1x1.Idx → α) : VecWindow.put (s := S1x1) x ![0, 0] ![1, 1] w = w := put_all_S1x1 x w

/-- The same load with its sizes written out. -/
theorem window_lit_S1x1 {α : Type} (x : S1x1.Idx → α) (inb) : VecWindow.window (s := S1x1) x ![0, 0] ![1, 1] inb = x := window_all_S1x1 x inb

/-- A store of the whole block leaves what was stored. -/
theorem put_all_S1x768 {α : Type} (x w : S1x768.Idx → α) : VecWindow.put (s := S1x768) x ![0, 0] S1x768.size w = w := by
  funext y
  have h : ∀ a : Fin 2, (![0, 0] : Fin 2 → ℕ) a ≤ (y a).val ∧ (y a).val < (![0, 0] : Fin 2 → ℕ) a + (S1x768.size : Fin 2 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S1x768 {α : Type} (x : S1x768.Idx → α) (inb) : VecWindow.window (s := S1x768) x ![0, 0] S1x768.size inb = x := by
  funext y
  exact congrArg x (funext fun a => Fin.ext (by
    show (![0, 0] : Fin 2 → ℕ) a + 1 * (y a).val = (y a).val
    fin_cases a <;> simp))

/-- The same store with its sizes written out. -/
theorem put_lit_S1x768 {α : Type} (x w : S1x768.Idx → α) : VecWindow.put (s := S1x768) x ![0, 0] ![1, 768] w = w := put_all_S1x768 x w

/-- The same load with its sizes written out. -/
theorem window_lit_S1x768 {α : Type} (x : S1x768.Idx → α) (inb) : VecWindow.window (s := S1x768) x ![0, 0] ![1, 768] inb = x := window_all_S1x768 x inb

/-- A store of the whole block leaves what was stored. -/
theorem put_all_S256x768 {α : Type} (x w : S256x768.Idx → α) : VecWindow.put (s := S256x768) x ![0, 0] S256x768.size w = w := by
  funext y
  have h : ∀ a : Fin 2, (![0, 0] : Fin 2 → ℕ) a ≤ (y a).val ∧ (y a).val < (![0, 0] : Fin 2 → ℕ) a + (S256x768.size : Fin 2 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S256x768 {α : Type} (x : S256x768.Idx → α) (inb) : VecWindow.window (s := S256x768) x ![0, 0] S256x768.size inb = x := by
  funext y
  exact congrArg x (funext fun a => Fin.ext (by
    show (![0, 0] : Fin 2 → ℕ) a + 1 * (y a).val = (y a).val
    fin_cases a <;> simp))

/-- The same store with its sizes written out. -/
theorem put_lit_S256x768 {α : Type} (x w : S256x768.Idx → α) : VecWindow.put (s := S256x768) x ![0, 0] ![256, 768] w = w := put_all_S256x768 x w

/-- The same load with its sizes written out. -/
theorem window_lit_S256x768 {α : Type} (x : S256x768.Idx → α) (inb) : VecWindow.window (s := S256x768) x ![0, 0] ![256, 768] inb = x := window_all_S256x768 x inb

/-- A store of the whole block leaves what was stored. -/
theorem put_all_S1x1x2048 {α : Type} (x w : S1x1x2048.Idx → α) : VecWindow.put (s := S1x1x2048) x ![0, 0, 0] S1x1x2048.size w = w := by
  funext y
  have h : ∀ a : Fin 3, (![0, 0, 0] : Fin 3 → ℕ) a ≤ (y a).val ∧ (y a).val < (![0, 0, 0] : Fin 3 → ℕ) a + (S1x1x2048.size : Fin 3 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S1x1x2048 {α : Type} (x : S1x1x2048.Idx → α) (inb) : VecWindow.window (s := S1x1x2048) x ![0, 0, 0] S1x1x2048.size inb = x := by
  funext y
  exact congrArg x (funext fun a => Fin.ext (by
    show (![0, 0, 0] : Fin 3 → ℕ) a + 1 * (y a).val = (y a).val
    fin_cases a <;> simp))

/-- The same store with its sizes written out. -/
theorem put_lit_S1x1x2048 {α : Type} (x w : S1x1x2048.Idx → α) : VecWindow.put (s := S1x1x2048) x ![0, 0, 0] ![1, 1, 2048] w = w := put_all_S1x1x2048 x w

/-- The same load with its sizes written out. -/
theorem window_lit_S1x1x2048 {α : Type} (x : S1x1x2048.Idx → α) (inb) : VecWindow.window (s := S1x1x2048) x ![0, 0, 0] ![1, 1, 2048] inb = x := window_all_S1x1x2048 x inb

/-- A store of the whole block leaves what was stored. -/
theorem put_all_S128x256 {α : Type} (x w : S128x256.Idx → α) : VecWindow.put (s := S128x256) x ![0, 0] S128x256.size w = w := by
  funext y
  have h : ∀ a : Fin 2, (![0, 0] : Fin 2 → ℕ) a ≤ (y a).val ∧ (y a).val < (![0, 0] : Fin 2 → ℕ) a + (S128x256.size : Fin 2 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S128x256 {α : Type} (x : S128x256.Idx → α) (inb) : VecWindow.window (s := S128x256) x ![0, 0] S128x256.size inb = x := by
  funext y
  exact congrArg x (funext fun a => Fin.ext (by
    show (![0, 0] : Fin 2 → ℕ) a + 1 * (y a).val = (y a).val
    fin_cases a <;> simp))

/-- The same store with its sizes written out. -/
theorem put_lit_S128x256 {α : Type} (x w : S128x256.Idx → α) : VecWindow.put (s := S128x256) x ![0, 0] ![128, 256] w = w := put_all_S128x256 x w

/-- The same load with its sizes written out. -/
theorem window_lit_S128x256 {α : Type} (x : S128x256.Idx → α) (inb) : VecWindow.window (s := S128x256) x ![0, 0] ![128, 256] inb = x := window_all_S128x256 x inb

/-- A store of the whole block leaves what was stored. -/
theorem put_all_S256x128 {α : Type} (x w : S256x128.Idx → α) : VecWindow.put (s := S256x128) x ![0, 0] S256x128.size w = w := by
  funext y
  have h : ∀ a : Fin 2, (![0, 0] : Fin 2 → ℕ) a ≤ (y a).val ∧ (y a).val < (![0, 0] : Fin 2 → ℕ) a + (S256x128.size : Fin 2 → ℕ) a := by
    intro a; have := (y a).isLt; fin_cases a <;> exact ⟨Nat.zero_le _, by simpa using this⟩
  unfold VecWindow.put
  rw [dif_pos h]
  exact congrArg w (funext fun a => Fin.ext (by fin_cases a <;> rfl))

/-- A load of the whole block reads the block. -/
theorem window_all_S256x128 {α : Type} (x : S256x128.Idx → α) (inb) : VecWindow.window (s := S256x128) x ![0, 0] S256x128.size inb = x := by
  funext y
  exact congrArg x (funext fun a => Fin.ext (by
    show (![0, 0] : Fin 2 → ℕ) a + 1 * (y a).val = (y a).val
    fin_cases a <;> simp))

/-- The same store with its sizes written out. -/
theorem put_lit_S256x128 {α : Type} (x w : S256x128.Idx → α) : VecWindow.put (s := S256x128) x ![0, 0] ![256, 128] w = w := put_all_S256x128 x w

/-- The same load with its sizes written out. -/
theorem window_lit_S256x128 {α : Type} (x : S256x128.Idx → α) (inb) : VecWindow.window (s := S256x128) x ![0, 0] ![256, 128] inb = x := window_all_S256x128 x inb

theorem put_lit {α : Type} (x w : S8x256.Idx → α) : VecWindow.put (s := S8x256) x ![0, 0] ![8, 256] w = w := put_all x w
theorem window_lit {α : Type} (x : S8x256.Idx → α) (inb) : VecWindow.window (s := S8x256) x ![0, 0] ![8, 256] inb = x := window_all x inb
theorem row1_put0_lit {α : Type} (x : S8x256.Idx → α) (a : S1x256.Idx → α) (inb) :
    VecWindow.window (s := S8x256) (VecWindow.put (s := S8x256) x ![0, 0] ![1, 256] a) ![1, 0] ![1, 256] inb = VecWindow.window (s := S8x256) x ![1, 0] ![1, 256] inb := row1_put0 x a inb

end Cert.KernelIdeal.Calls
-- ==== Proof.SI.R0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.SI.Tools

@[expose] public section

set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The activations call 0 writes at a point, from the point's input blocks. -/
def act0 (x0 : Vec F S1x1x2048 .i32) (x1 : Vec F S256x128 .f32) (x2 : Vec F S128x256 .f32) (x3 : Vec F S1x256 .f32) : Vec F S1x2048x256 .f32 := k0_pay3 x0 x1 x2 x3
/-- The table of sums after a point of call 0, from the table before it: row 0 gains the sums, row 1 the sums of squares. -/
def nxt0_0 (x0 : Vec F S1x1x2048 .i32) (x1 : Vec F S256x128 .f32) (x2 : Vec F S128x256 .f32) (x3 : Vec F S1x256 .f32) (s0 : Vec F S8x256 .f32) : Vec F S8x256 .f32 :=
  rowsPut s0 (k0_pay5 x0 x1 x2 x3 (rowAt0 s0)) (k0_pay1 (rowAt1 s0) (k0_pay6 x0 x1 x2 x3))

/-- Whether point `i` is the first of call 0. -/
abbrev first0 (i : grid0.Coords) : Prop := (Scalar.cmpi .ne (Scalar.extui (Scalar.cmpi .eq (BitVec.ofNat 32 (i 0).val) 0#32)) 0#32) = 1#1
/-- Whether point `i` is the last of call 0. -/
abbrev last0 (i : grid0.Coords) : Prop := k0_cond2 i = 1#1

set_option maxHeartbeats 4000000 in
/-- The body of call 0 at the first point: from its staging buffers at the given contents it runs to the outputs and scratch at the functions above. -/
theorem run0_first (c : Dev nD) (i : grid0.Coords)
    (arg1 : Memref sig .tc .vmem S1x1x2048 .i32) (harg1 : arg1.IsWhole)
    (arg2 : Memref sig .tc .vmem S256x128 .f32) (harg2 : arg2.IsWhole)
    (arg3 : Memref sig .tc .vmem S128x256 .f32) (harg3 : arg3.IsWhole)
    (arg4 : Memref sig .tc .vmem S1x256 .f32) (harg4 : arg4.IsWhole)
    (arg5 : Memref sig .tc .vmem S1x2048x256 .f32) (harg5 : arg5.IsWhole)
    (arg6 : Memref sig .tc .vmem S8x256 .f32) (harg6 : arg6.IsWhole)
    (arg7 : Memref sig .tc .vmem S8x256 .f32) (harg7 : arg7.IsWhole) (hc0 : first0 i) (hc1 : ¬ last0 i)
    (x0 : Vec F S1x1x2048 .i32) (x1 : Vec F S256x128 .f32) (x2 : Vec F S128x256 .f32) (x3 : Vec F S1x256 .f32) (xi : Vec F S8x256 .f32)
    (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ (∃ d, owns (c : Thread nD τ) arg5 fullShare d)
      ∗ owns (c : Thread nD τ) arg6 fullShare xi
      ∗ (∃ d, owns (c : Thread nD τ) arg7 fullShare d)
      ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare (act0 x0 x1 x2 x3)
        ∗ owns (c : Thread nD τ) arg6 fullShare xi
        ∗ owns (c : Thread nD τ) arg7 fullShare (nxt0_0 x0 x1 x2 x3 k0_pay4)) -∗ K ⟨⟩))
      ⊢ wp frame (wpE (defs₀ (F := F)) Variants.none c none) E (cc0__k1_embed_fc1 i arg1 harg1 arg2 harg2 arg3 harg3 arg4 harg4 arg5 harg5 arg6 harg6 arg7 harg7) K := by
  simp only [cc0__k1_embed_fc1_eq_skeleton]; unfold cc0__k1_embed_fc1_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%d6, %f6, -, H6⟩, Hk⟩
  obtain rfl := harg1.eq_unread hf0; obtain rfl := harg2.eq_unread hf1; obtain rfl := harg3.eq_unread hf2; obtain rfl := harg4.eq_unread hf3; obtain rfl := harg6.eq_unread hf5
  sl_exec (disch := first | sl_exact hc0 | sl_exact hc1)
  sl_step
  iapply Hk
  isplitl [H0]
  · iexists _; isplitr [H0]; swap
    · iexact H0
    ipureintro
    exact harg1.read_unread _
  isplitl [H1]
  · iexists _; isplitr [H1]; swap
    · iexact H1
    ipureintro
    exact harg2.read_unread _
  isplitl [H2]
  · iexists _; isplitr [H2]; swap
    · iexact H2
    ipureintro
    exact harg3.read_unread _
  isplitl [H3]
  · iexists _; isplitr [H3]; swap
    · iexact H3
    ipureintro
    exact harg4.read_unread _
  isplitl [H4]
  · iexists _; isplitr [H4]; swap
    · iexact H4
    ipureintro
    sl_unfold_run_names
    simp -proj only [View.read_writes_full, View.readAt_full, View.readCov, harg1.read_unread, harg2.read_unread, harg3.read_unread, harg4.read_unread, harg5.read_unread, harg6.read_unread, harg7.read_unread]
    try simp -proj only [load_window, store_put, View.writes_nil, View.read_writes_full, View.readAt_full, harg1.read_unread, harg2.read_unread, harg3.read_unread, harg4.read_unread, harg5.read_unread, harg6.read_unread, harg7.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act0, nxt0_0, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  isplitl [H5]
  · iexists _; isplitr [H5]; swap
    · iexact H5
    ipureintro
    exact harg6.read_unread _
  · iexists _; isplitr [H6]; swap
    · iexact H6
    ipureintro
    sl_unfold_run_names
    simp -proj only [View.read_writes_full, View.readAt_full, View.readCov, harg1.read_unread, harg2.read_unread, harg3.read_unread, harg4.read_unread, harg5.read_unread, harg6.read_unread, harg7.read_unread]
    try simp -proj only [load_window, store_put, View.writes_nil, View.read_writes_full, View.readAt_full, harg1.read_unread, harg2.read_unread, harg3.read_unread, harg4.read_unread, harg5.read_unread, harg6.read_unread, harg7.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act0, nxt0_0, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)

set_option maxHeartbeats 4000000 in
/-- The body of call 0 at a middle point: from its staging buffers at the given contents it runs to the outputs and scratch at the functions above. -/
theorem run0_mid (c : Dev nD) (i : grid0.Coords)
    (arg1 : Memref sig .tc .vmem S1x1x2048 .i32) (harg1 : arg1.IsWhole)
    (arg2 : Memref sig .tc .vmem S256x128 .f32) (harg2 : arg2.IsWhole)
    (arg3 : Memref sig .tc .vmem S128x256 .f32) (harg3 : arg3.IsWhole)
    (arg4 : Memref sig .tc .vmem S1x256 .f32) (harg4 : arg4.IsWhole)
    (arg5 : Memref sig .tc .vmem S1x2048x256 .f32) (harg5 : arg5.IsWhole)
    (arg6 : Memref sig .tc .vmem S8x256 .f32) (harg6 : arg6.IsWhole)
    (arg7 : Memref sig .tc .vmem S8x256 .f32) (harg7 : arg7.IsWhole) (hc0 : ¬ first0 i) (hc1 : ¬ last0 i)
    (x0 : Vec F S1x1x2048 .i32) (x1 : Vec F S256x128 .f32) (x2 : Vec F S128x256 .f32) (x3 : Vec F S1x256 .f32) (s0 : Vec F S8x256 .f32) (xi : Vec F S8x256 .f32)
    (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ (∃ d, owns (c : Thread nD τ) arg5 fullShare d)
      ∗ owns (c : Thread nD τ) arg6 fullShare xi
      ∗ owns (c : Thread nD τ) arg7 fullShare s0
      ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare (act0 x0 x1 x2 x3)
        ∗ owns (c : Thread nD τ) arg6 fullShare xi
        ∗ owns (c : Thread nD τ) arg7 fullShare (nxt0_0 x0 x1 x2 x3 s0)) -∗ K ⟨⟩))
      ⊢ wp frame (wpE (defs₀ (F := F)) Variants.none c none) E (cc0__k1_embed_fc1 i arg1 harg1 arg2 harg2 arg3 harg3 arg4 harg4 arg5 harg5 arg6 harg6 arg7 harg7) K := by
  simp only [cc0__k1_embed_fc1_eq_skeleton]; unfold cc0__k1_embed_fc1_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, Hk⟩
  obtain rfl := harg1.eq_unread hf0; obtain rfl := harg2.eq_unread hf1; obtain rfl := harg3.eq_unread hf2; obtain rfl := harg4.eq_unread hf3; obtain rfl := harg6.eq_unread hf5; obtain rfl := harg7.eq_unread hf6
  sl_exec (disch := first | sl_exact hc0 | sl_exact hc1)
  sl_step
  iapply Hk
  isplitl [H0]
  · iexists _; isplitr [H0]; swap
    · iexact H0
    ipureintro
    exact harg1.read_unread _
  isplitl [H1]
  · iexists _; isplitr [H1]; swap
    · iexact H1
    ipureintro
    exact harg2.read_unread _
  isplitl [H2]
  · iexists _; isplitr [H2]; swap
    · iexact H2
    ipureintro
    exact harg3.read_unread _
  isplitl [H3]
  · iexists _; isplitr [H3]; swap
    · iexact H3
    ipureintro
    exact harg4.read_unread _
  isplitl [H4]
  · iexists _; isplitr [H4]; swap
    · iexact H4
    ipureintro
    sl_unfold_run_names
    simp -proj only [View.read_writes_full, View.readAt_full, View.readCov, harg1.read_unread, harg2.read_unread, harg3.read_unread, harg4.read_unread, harg5.read_unread, harg6.read_unread, harg7.read_unread]
    try simp -proj only [load_window, store_put, View.writes_nil, View.read_writes_full, View.readAt_full, harg1.read_unread, harg2.read_unread, harg3.read_unread, harg4.read_unread, harg5.read_unread, harg6.read_unread, harg7.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act0, nxt0_0, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  isplitl [H5]
  · iexists _; isplitr [H5]; swap
    · iexact H5
    ipureintro
    exact harg6.read_unread _
  · iexists _; isplitr [H6]; swap
    · iexact H6
    ipureintro
    sl_unfold_run_names
    simp -proj only [View.read_writes_full, View.readAt_full, View.readCov, harg1.read_unread, harg2.read_unread, harg3.read_unread, harg4.read_unread, harg5.read_unread, harg6.read_unread, harg7.read_unread]
    try simp -proj only [load_window, store_put, View.writes_nil, View.read_writes_full, View.readAt_full, harg1.read_unread, harg2.read_unread, harg3.read_unread, harg4.read_unread, harg5.read_unread, harg6.read_unread, harg7.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act0, nxt0_0, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)

set_option maxHeartbeats 4000000 in
/-- The body of call 0 at the last point: from its staging buffers at the given contents it runs to the outputs and scratch at the functions above. -/
theorem run0_last (c : Dev nD) (i : grid0.Coords)
    (arg1 : Memref sig .tc .vmem S1x1x2048 .i32) (harg1 : arg1.IsWhole)
    (arg2 : Memref sig .tc .vmem S256x128 .f32) (harg2 : arg2.IsWhole)
    (arg3 : Memref sig .tc .vmem S128x256 .f32) (harg3 : arg3.IsWhole)
    (arg4 : Memref sig .tc .vmem S1x256 .f32) (harg4 : arg4.IsWhole)
    (arg5 : Memref sig .tc .vmem S1x2048x256 .f32) (harg5 : arg5.IsWhole)
    (arg6 : Memref sig .tc .vmem S8x256 .f32) (harg6 : arg6.IsWhole)
    (arg7 : Memref sig .tc .vmem S8x256 .f32) (harg7 : arg7.IsWhole) (hc0 : ¬ first0 i) (hc1 : last0 i)
    (x0 : Vec F S1x1x2048 .i32) (x1 : Vec F S256x128 .f32) (x2 : Vec F S128x256 .f32) (x3 : Vec F S1x256 .f32) (s0 : Vec F S8x256 .f32)
    (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ (∃ d, owns (c : Thread nD τ) arg5 fullShare d)
      ∗ (∃ d, owns (c : Thread nD τ) arg6 fullShare d)
      ∗ owns (c : Thread nD τ) arg7 fullShare s0
      ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare (act0 x0 x1 x2 x3)
        ∗ owns (c : Thread nD τ) arg6 fullShare (nxt0_0 x0 x1 x2 x3 s0)
        ∗ owns (c : Thread nD τ) arg7 fullShare (nxt0_0 x0 x1 x2 x3 s0)) -∗ K ⟨⟩))
      ⊢ wp frame (wpE (defs₀ (F := F)) Variants.none c none) E (cc0__k1_embed_fc1 i arg1 harg1 arg2 harg2 arg3 harg3 arg4 harg4 arg5 harg5 arg6 harg6 arg7 harg7) K := by
  simp only [cc0__k1_embed_fc1_eq_skeleton]; unfold cc0__k1_embed_fc1_skel
  simp only [k0_part1_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%f6, %hf6, H6⟩, Hk⟩
  obtain rfl := harg1.eq_unread hf0; obtain rfl := harg2.eq_unread hf1; obtain rfl := harg3.eq_unread hf2; obtain rfl := harg4.eq_unread hf3; obtain rfl := harg7.eq_unread hf6
  sl_exec (disch := first | sl_exact hc0 | sl_exact hc1)
  sl_step
  iapply Hk
  isplitl [H0]
  · iexists _; isplitr [H0]; swap
    · iexact H0
    ipureintro
    exact harg1.read_unread _
  isplitl [H1]
  · iexists _; isplitr [H1]; swap
    · iexact H1
    ipureintro
    exact harg2.read_unread _
  isplitl [H2]
  · iexists _; isplitr [H2]; swap
    · iexact H2
    ipureintro
    exact harg3.read_unread _
  isplitl [H3]
  · iexists _; isplitr [H3]; swap
    · iexact H3
    ipureintro
    exact harg4.read_unread _
  isplitl [H4]
  · iexists _; isplitr [H4]; swap
    · iexact H4
    ipureintro
    sl_unfold_run_names
    simp -proj only [View.read_writes_full, View.readAt_full, View.readCov, harg1.read_unread, harg2.read_unread, harg3.read_unread, harg4.read_unread, harg5.read_unread, harg6.read_unread, harg7.read_unread]
    try simp -proj only [load_window, store_put, View.writes_nil, View.read_writes_full, View.readAt_full, harg1.read_unread, harg2.read_unread, harg3.read_unread, harg4.read_unread, harg5.read_unread, harg6.read_unread, harg7.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act0, nxt0_0, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  isplitl [H5]
  · iexists _; isplitr [H5]; swap
    · iexact H5
    ipureintro
    sl_unfold_run_names
    simp -proj only [View.read_writes_full, View.readAt_full, View.readCov, harg1.read_unread, harg2.read_unread, harg3.read_unread, harg4.read_unread, harg5.read_unread, harg6.read_unread, harg7.read_unread]
    try simp -proj only [load_window, store_put, View.writes_nil, View.read_writes_full, View.readAt_full, harg1.read_unread, harg2.read_unread, harg3.read_unread, harg4.read_unread, harg5.read_unread, harg6.read_unread, harg7.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act0, nxt0_0, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  · iexists _; isplitr [H6]; swap
    · iexact H6
    ipureintro
    sl_unfold_run_names
    simp -proj only [View.read_writes_full, View.readAt_full, View.readCov, harg1.read_unread, harg2.read_unread, harg3.read_unread, harg4.read_unread, harg5.read_unread, harg6.read_unread, harg7.read_unread]
    try simp -proj only [load_window, store_put, View.writes_nil, View.read_writes_full, View.readAt_full, harg1.read_unread, harg2.read_unread, harg3.read_unread, harg4.read_unread, harg5.read_unread, harg6.read_unread, harg7.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act0, nxt0_0, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)

/-! ## Call 0 over the whole grid -/

variable (V : Dev nD → Valuation τ sig (Elt F))

/-- The block of window `w` at point `t`, of the contents the region is entered with. -/
abbrev iblk0 (c : Dev nD) (w : Fin cfg0.W) (t : Fin cfg0.N) :=
  ((cfg0.win w).blk t).view.read (Elt F) (V c (Proc.devRef .tc (Pipeline.arrRef spec0 w)))

/-- The scratch of call 0 after `n` points. -/
def st0 (c : Dev nD) : ℕ → Vec F S8x256 .f32
  | 0 => k0_pay4
  | n + 1 => if h : n < cfg0.N then nxt0_0 (iblk0 V c 0 ⟨n, h⟩) (iblk0 V c 1 ⟨n, h⟩) (iblk0 V c 2 ⟨n, h⟩) (iblk0 V c 3 ⟨n, h⟩) (st0 c n) else st0 c n

theorem st0_succ (c : Dev nD) (t : Fin cfg0.N) : st0 V c (t.val + 1) = nxt0_0 (iblk0 V c 0 t) (iblk0 V c 1 t) (iblk0 V c 2 t) (iblk0 V c 3 t) (st0 V c t.val) :=
  dif_pos t.isLt

theorem st0_zero (c : Dev nD) : st0 V c 0 = k0_pay4 := rfl

abbrev scM0_0 : Memref sig .tc .vmem S8x256 .f32 := Memref.whole cc0_scratch0

/-- What the region keeps besides the windows before position `n`: at first any scratch, later the scratch of the recursion. -/
def Phi0 (c : Dev nD) : ℕ → sProp 𝕄
  | 0 => Pipeline.ΦA spec0 c
  | n + 1 => iprop(owns (c : Thread nD τ) scM0_0 fullShare (st0 V c (n + 1))
      ∗ Pipeline.scopedRestBut (Ix := Unit) (Name := ℕ) (U := UR sig nD τ) (Lvl := ℕ) (Val := Elt F) spec0 c [cc0_scratch0] ∗ ∃ r, prngReg c r)

theorem Phi0_pos (c : Dev nD) (n : ℕ) (hz : n ≠ 0) : Phi0 V c n = iprop(owns (c : Thread nD τ) scM0_0 fullShare (st0 V c n)
      ∗ Pipeline.scopedRestBut (Ix := Unit) (Name := ℕ) (U := UR sig nD τ) (Lvl := ℕ) (Val := Elt F) spec0 c [cc0_scratch0] ∗ ∃ r, prngReg c r) := by
  cases n with
  | zero => exact absurd rfl hz
  | succ n => rfl

theorem PhiA0_eq (c : Dev nD) : (Pipeline.ΦA spec0 c : sProp 𝕄) = iprop((iprop((∃ d, owns (c : Thread nD τ) scM0_0 fullShare d)) ∗ Pipeline.scopedRestBut (Ix := Unit) (Name := ℕ) (U := UR sig nD τ) (Lvl := ℕ) (Val := Elt F) spec0 c [cc0_scratch0]) ∗ ∃ r, prngReg c r) := by
  unfold Pipeline.ΦA; rw [scopedRest0_split]
  simp only [scM0_0, owns_whole]; try rfl

/-- The proof data of call 0: every input at its block, the outputs at the functions above. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => act0 (iblk0 V c 0 t) (iblk0 V c 1 t) (iblk0 V c 2 t) (iblk0 V c 3 t)
    | ⟨5, _⟩ => nxt0_0 (iblk0 V c 0 t) (iblk0 V c 1 t) (iblk0 V c 2 t) (iblk0 V c 3 t) (st0 V c t.val)
  Φ t := Phi0 V c t.val
  q _ := fullShare
  owed _ := 0

theorem A0_eq (c : Dev nD) (w : Fin cfg0.W) : (dat0 V c).A w = V c (Proc.devRef .tc (Pipeline.arrRef spec0 w)) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = act0 (iblk0 V c 0 t) (iblk0 V c 1 t) (iblk0 V c 2 t) (iblk0 V c 3 t) := by dsimp only [dat0]
theorem after0_5 (c : Dev nD) (t : Fin cfg0.N) : (dat0 V c).after 5 t = nxt0_0 (iblk0 V c 0 t) (iblk0 V c 1 t) (iblk0 V c 2 t) (iblk0 V c 3 t) (st0 V c t.val) := by dsimp only [dat0]
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf; rw [A0_eq]; try rfl) t d).trans (by unfold Dat.fetched Dat.blockOf; rw [A0_eq]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf; rw [A0_eq]; try rfl) t d).trans (by unfold Dat.fetched Dat.blockOf; rw [A0_eq]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf; rw [A0_eq]; try rfl) t d).trans (by unfold Dat.fetched Dat.blockOf; rw [A0_eq]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf; rw [A0_eq]; try rfl) t d).trans (by unfold Dat.fetched Dat.blockOf; rw [A0_eq]; try rfl)
theorem live0_0 : ∀ t : Fin cfg0.N, cfg0.idle 0 (grid0.coords t) = false := fun _ => rfl
theorem live0_1 : ∀ t : Fin cfg0.N, cfg0.idle 1 (grid0.coords t) = false := fun _ => rfl
theorem live0_2 : ∀ t : Fin cfg0.N, cfg0.idle 2 (grid0.coords t) = false := fun _ => rfl
theorem live0_3 : ∀ t : Fin cfg0.N, cfg0.idle 3 (grid0.coords t) = false := fun _ => rfl
theorem live0_4 : ∀ t : Fin cfg0.N, cfg0.idle 4 (grid0.coords t) = false := fun _ => rfl
theorem first0_iff : ∀ t : Fin cfg0.N, first0 (grid0.coords t) ↔ t.val = 0 :=
  (fun t => by
    have ht : t.val < 8 := Nat.lt_of_lt_of_eq t.isLt N_0
    have e0 : (grid0.coords t 0).val = t.val / 1 % 8 := Pipeline.Grid.coords_val t 0 (by decide) rfl
    have e : first0 (grid0.coords t) ↔ t.val % 8 = 0 := by
      simp only [first0, e0]
      word_cmp
    rw [e]; omega
   : ∀ t : Fin grid0.N, first0 (grid0.coords t) ↔ t.val = 0)
theorem last0_iff : ∀ t : Fin cfg0.N, last0 (grid0.coords t) ↔ t.val = 7 :=
  (fun t => by
    have ht : t.val < 8 := Nat.lt_of_lt_of_eq t.isLt N_0
    have e0 : (grid0.coords t 0).val = t.val / 1 % 8 := Pipeline.Grid.coords_val t 0 (by decide) rfl
    have e : last0 (grid0.coords t) ↔ t.val % 8 = 7 := by
      simp only [last0, k0_cond2, e0]
      word_cmp
    rw [e]; omega
   : ∀ t : Fin grid0.N, last0 (grid0.coords t) ↔ t.val = 7)
theorem idle0_5 : ∀ t : Fin cfg0.N, ¬ last0 (grid0.coords t) → cfg0.idle 5 (grid0.coords t) = true := by decide +kernel
theorem noFlush0_5 : ∀ t : Fin cfg0.N, ¬ last0 (grid0.coords t) → (cfg0.win 5).flush t = false := by decide +kernel
theorem live0_5 : ∀ t : Fin cfg0.N, last0 (grid0.coords t) → cfg0.idle 5 (grid0.coords t) = false := by decide +kernel

set_option maxHeartbeats 4800000 in
/-- The body of call 0 at any point, between what the pipeline hands it and what it must return. -/
theorem sound0 (c : Dev nD) (t : Fin cfg0.N) :
    iprop((dat0 V c).Φ t.castSucc ∗ (dat0 V c).owesAt () t.castSucc
      ∗ (∃ d, owns (c : Thread nD τ) (win0_0.stage (cfg0.slots t 0)) fullShare ((dat0 V c).before 0 t d))
      ∗ (∃ d, owns (c : Thread nD τ) (win0_1.stage (cfg0.slots t 1)) fullShare ((dat0 V c).before 1 t d))
      ∗ (∃ d, owns (c : Thread nD τ) (win0_2.stage (cfg0.slots t 2)) fullShare ((dat0 V c).before 2 t d))
      ∗ (∃ d, owns (c : Thread nD τ) (win0_3.stage (cfg0.slots t 3)) fullShare ((dat0 V c).before 3 t d))
      ∗ (∃ d, owns (c : Thread nD τ) (win0_4.stage (cfg0.slots t 4)) fullShare ((dat0 V c).before 4 t d))
      ∗ (∃ d, owns (c : Thread nD τ) (win0_5.stage (cfg0.slots t 5)) fullShare ((dat0 V c).before 5 t d)))
    ⊢ wp frame (wpE (defs₀ (F := F)) Variants.none c none) Set.univ (bodyAt0 t) (fun _ =>
      iprop((dat0 V c).Φ t.succ ∗ (dat0 V c).owesAt () t.succ ∗ (dat0 V c).leavesExact 0 t ∗ (dat0 V c).leavesExact 1 t ∗ (dat0 V c).leavesExact 2 t ∗ (dat0 V c).leavesExact 3 t ∗ (dat0 V c).leavesExact 4 t ∗ (dat0 V c).leavesExact 5 t)) := by
  unfold bodyAt0
  simp only [before0_0, before0_1, before0_2, before0_3]
  rw [show (dat0 V c).owesAt () t.succ = (dat0 V c).owesAt () t.castSucc from rfl]
  rw [show (dat0 V c).leavesExact 0 t = owns (c : Thread nD τ) (win0_0.stage (cfg0.slots t 0)) fullShare ((dat0 V c).after 0 t) from by
    unfold Dat.leavesExact; rw [live0_0 t], after0_0]
  rw [show (dat0 V c).leavesExact 1 t = owns (c : Thread nD τ) (win0_1.stage (cfg0.slots t 1)) fullShare ((dat0 V c).after 1 t) from by
    unfold Dat.leavesExact; rw [live0_1 t], after0_1]
  rw [show (dat0 V c).leavesExact 2 t = owns (c : Thread nD τ) (win0_2.stage (cfg0.slots t 2)) fullShare ((dat0 V c).after 2 t) from by
    unfold Dat.leavesExact; rw [live0_2 t], after0_2]
  rw [show (dat0 V c).leavesExact 3 t = owns (c : Thread nD τ) (win0_3.stage (cfg0.slots t 3)) fullShare ((dat0 V c).after 3 t) from by
    unfold Dat.leavesExact; rw [live0_3 t], after0_3]
  rw [show (dat0 V c).leavesExact 4 t = owns (c : Thread nD τ) (win0_4.stage (cfg0.slots t 4)) fullShare ((dat0 V c).after 4 t) from by
    unfold Dat.leavesExact; rw [live0_4 t], after0_4]
  have hN : t.val < 8 := lt_of_lt_of_eq t.isLt (show cfg0.N = 8 from N_0)
  rw [show (dat0 V c).Φ t.succ = Phi0 V c (t.val + 1) from rfl, Phi0_pos V c _ (Nat.succ_ne_zero _), st0_succ,
    show (dat0 V c).Φ t.castSucc = Phi0 V c t.val from rfl]
  by_cases hz : t.val = 0
  · have hl : ¬ t.val = 7 := by omega
    rw [Dat.leavesExact_idle (dat0 V c) 5 t (idle0_5 t (fun h => hl ((last0_iff t).mp h))) (noFlush0_5 t (fun h => hl ((last0_iff t).mp h)))]
    rw [hz, st0_zero, show Phi0 V c 0 = Pipeline.ΦA spec0 c from rfl, PhiA0_eq]
    iintro ⟨⟨⟨HS0, HB⟩, Hg⟩, Ho, ⟨%d0, H0⟩, ⟨%d1, H1⟩, ⟨%d2, H2⟩, ⟨%d3, H3⟩, ⟨%d4, H4⟩, ⟨%d5, H5⟩⟩
    iapply (run0_first c (grid0.coords t) _ _ _ _ _ _ _ _ _ _ _ _ _ _ ((first0_iff t).mpr hz) (fun h => hl ((last0_iff t).mp h)) (iblk0 V c 0 t) (iblk0 V c 1 t) (iblk0 V c 2 t) (iblk0 V c 3 t) _ Set.univ _)
    isplitl [H0]; · iexact H0
    isplitl [H1]; · iexact H1
    isplitl [H2]; · iexact H2
    isplitl [H3]; · iexact H3
    isplitl [H4]; · iexists _; iexact H4
    isplitl [H5]; · iexact H5
    isplitl [HS0]; · iexact HS0
    iintro ⟨H0, H1, H2, H3, H4, H5, HS0⟩
    isplitl [HS0 HB Hg]
    · isplitl [HS0]; · iexact HS0
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    iexists _; iexact H5
  · rw [Phi0_pos V c _ hz]
    by_cases hl : t.val = 7
    · rw [show (dat0 V c).leavesExact 5 t = owns (c : Thread nD τ) (win0_5.stage (cfg0.slots t 5)) fullShare ((dat0 V c).after 5 t) from by
        unfold Dat.leavesExact; rw [live0_5 t ((last0_iff t).mpr hl)], after0_5]
      iintro ⟨⟨HS0, HB, Hg⟩, Ho, ⟨%d0, H0⟩, ⟨%d1, H1⟩, ⟨%d2, H2⟩, ⟨%d3, H3⟩, ⟨%d4, H4⟩, ⟨%d5, H5⟩⟩
      iapply (run0_last c (grid0.coords t) _ _ _ _ _ _ _ _ _ _ _ _ _ _ (fun h => hz ((first0_iff t).mp h)) ((last0_iff t).mpr hl) (iblk0 V c 0 t) (iblk0 V c 1 t) (iblk0 V c 2 t) (iblk0 V c 3 t) (st0 V c t.val) Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [HS0]; · iexact HS0
      iintro ⟨H0, H1, H2, H3, H4, H5, HS0⟩
      isplitl [HS0 HB Hg]
      · isplitl [HS0]; · iexact HS0
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [Dat.leavesExact_idle (dat0 V c) 5 t (idle0_5 t (fun h => hl ((last0_iff t).mp h))) (noFlush0_5 t (fun h => hl ((last0_iff t).mp h)))]
      iintro ⟨⟨HS0, HB, Hg⟩, Ho, ⟨%d0, H0⟩, ⟨%d1, H1⟩, ⟨%d2, H2⟩, ⟨%d3, H3⟩, ⟨%d4, H4⟩, ⟨%d5, H5⟩⟩
      iapply (run0_mid c (grid0.coords t) _ _ _ _ _ _ _ _ _ _ _ _ _ _ (fun h => hz ((first0_iff t).mp h)) (fun h => hl ((last0_iff t).mp h)) (iblk0 V c 0 t) (iblk0 V c 1 t) (iblk0 V c 2 t) (iblk0 V c 3 t) (st0 V c t.val) _ Set.univ _)
      isplitl [H0]; · iexact H0
      isplitl [H1]; · iexact H1
      isplitl [H2]; · iexact H2
      isplitl [H3]; · iexact H3
      isplitl [H4]; · iexists _; iexact H4
      isplitl [H5]; · iexact H5
      isplitl [HS0]; · iexact HS0
      iintro ⟨H0, H1, H2, H3, H4, H5, HS0⟩
      isplitl [HS0 HB Hg]
      · isplitl [HS0]; · iexact HS0
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      iexists _; iexact H5

theorem row_0 (t : Fin cfg0.N) :
    defs₀ (F := F) .tc cfg0.body (cfg0.bodyArgs t (cfg0.slots t)) = bodyAt0 t := by
  unfold defs₀; rw [Defs.onTc_tc]

/-- The pipeline's body obligation of call 0. -/
theorem obligation0 (c : Dev nD) : BodyObligation (dat0 V c) (defs₀ (F := F)) Variants.none () Set.univ := fun t => by
  rw [bigSep_W0, bigSep_W0, row_0]
  exact triple_restated (sound0 V c t) rfl .rfl fun _ => .rfl

theorem enter0 (c : Dev nD) : Pipeline.ΦA spec0 c ⊢ (dat0 V c).Φ 0 := Idealize.SL.BI.Entails.refl _

theorem leave0 (c : Dev nD) : (dat0 V c).Φ (Fin.last cfg0.N) ⊢ Pipeline.ΦA spec0 c := by
  rw [show (dat0 V c).Φ (Fin.last cfg0.N) = Phi0 V c cfg0.N from rfl, Phi0_pos V c _ (by rw [show cfg0.N = 8 from N_0]; decide), PhiA0_eq]
  iintro ⟨HS0, HB, Hg⟩
  isplitl [HS0 HB]
  · isplitl [HS0]
    · iexists _; iexact HS0
    iexact HB
  iexact Hg

end Cert.KernelIdeal.Calls
-- ==== Proof.SI.R1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.SI.Tools

@[expose] public section

set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The spikes of a point of call 1, from its input blocks and the membrane before the point. -/
def spk1 (x0 : Vec F S1x2048x256 .f32) (x1 : Vec F S8x256 .f32) (x2 : Vec F S1x256 .f32) (x3 : Vec F S1x256 .f32) (x4 : Vec F S256x256 .f32) (x5 : Vec F S1x256 .f32) (s0 : Vec F S2048x256 .f32) (s1 : Vec F S8x256 .f32) : Vec F S2048x256 .f32 := k1_pay9 (rowAt0 x1) (rowAt1 x1) x2 x0 x3 s0
/-- The activations call 1 writes at a point. -/
def act1 (x0 : Vec F S1x2048x256 .f32) (x1 : Vec F S8x256 .f32) (x2 : Vec F S1x256 .f32) (x3 : Vec F S1x256 .f32) (x4 : Vec F S256x256 .f32) (x5 : Vec F S1x256 .f32) (s0 : Vec F S2048x256 .f32) (s1 : Vec F S8x256 .f32) : Vec F S1x2048x256 .f32 := k1_pay3 (spk1 x0 x1 x2 x3 x4 x5 s0 s1) x4 x5
/-- The membrane after a point of call 1. -/
def nxt1_0 (x0 : Vec F S1x2048x256 .f32) (x1 : Vec F S8x256 .f32) (x2 : Vec F S1x256 .f32) (x3 : Vec F S1x256 .f32) (x4 : Vec F S256x256 .f32) (x5 : Vec F S1x256 .f32) (s0 : Vec F S2048x256 .f32) (s1 : Vec F S8x256 .f32) : Vec F S2048x256 .f32 := k1_pay1 (k1_pay10 (rowAt0 x1) (rowAt1 x1) x2 x0 x3 s0)
/-- The table of sums after a point of call 1. -/
def nxt1_1 (x0 : Vec F S1x2048x256 .f32) (x1 : Vec F S8x256 .f32) (x2 : Vec F S1x256 .f32) (x3 : Vec F S1x256 .f32) (x4 : Vec F S256x256 .f32) (x5 : Vec F S1x256 .f32) (s0 : Vec F S2048x256 .f32) (s1 : Vec F S8x256 .f32) : Vec F S8x256 .f32 :=
  rowsPut s1 (k1_pay4 (spk1 x0 x1 x2 x3 x4 x5 s0 s1) x4 x5 (rowAt0 s1)) (k1_pay5 (spk1 x0 x1 x2 x3 x4 x5 s0 s1) x4 x5 (rowAt1 s1))

/-- Whether point `i` is the first of call 1. -/
abbrev first1 (i : grid1.Coords) : Prop := (Scalar.cmpi .ne (Scalar.extui (Scalar.cmpi .eq (BitVec.ofNat 32 (i 0).val) 0#32)) 0#32) = 1#1
/-- Whether point `i` is the last of call 1. -/
abbrev last1 (i : grid1.Coords) : Prop := k1_cond2 i = 1#1

set_option maxHeartbeats 4000000 in
/-- The body of call 1 at the first point: from its staging buffers at the given contents it runs to the outputs and scratch at the functions above. -/
theorem run1_first (c : Dev nD) (i : grid1.Coords)
    (arg1 : Memref sig .tc .vmem S1x2048x256 .f32) (harg1 : arg1.IsWhole)
    (arg2 : Memref sig .tc .vmem S8x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S256x256 .f32) (harg5 : arg5.IsWhole)
    (arg6 : Memref sig .tc .vmem S1x256 .f32) (harg6 : arg6.IsWhole)
    (arg7 : Memref sig .tc .vmem S1x2048x256 .f32) (harg7 : arg7.IsWhole)
    (arg8 : Memref sig .tc .vmem S8x256 .f32) (harg8 : arg8.IsWhole)
    (arg9 : Memref sig .tc .vmem S2048x256 .f32) (harg9 : arg9.IsWhole)
    (arg10 : Memref sig .tc .vmem S8x256 .f32) (harg10 : arg10.IsWhole) (hc0 : first1 i) (hc1 : ¬ last1 i)
    (x0 : Vec F S1x2048x256 .f32) (x1 : Vec F S8x256 .f32) (x2 : Vec F S1x256 .f32) (x3 : Vec F S1x256 .f32) (x4 : Vec F S256x256 .f32) (x5 : Vec F S1x256 .f32) (xi : Vec F S8x256 .f32)
    (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ (∃ d, owns (c : Thread nD τ) arg7 fullShare d)
      ∗ owns (c : Thread nD τ) arg8 fullShare xi
      ∗ (∃ d, owns (c : Thread nD τ) arg9 fullShare d)
      ∗ (∃ d, owns (c : Thread nD τ) arg10 fullShare d)
      ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (act1 x0 x1 x2 x3 x4 x5 k1_pay6 k1_pay7)
        ∗ owns (c : Thread nD τ) arg8 fullShare xi
        ∗ owns (c : Thread nD τ) arg9 fullShare (nxt1_0 x0 x1 x2 x3 x4 x5 k1_pay6 k1_pay7)
        ∗ owns (c : Thread nD τ) arg10 fullShare (nxt1_1 x0 x1 x2 x3 x4 x5 k1_pay6 k1_pay7)) -∗ K ⟨⟩))
      ⊢ wp frame (wpE (defs₀ (F := F)) Variants.none c none) E (cc1__k2_bn_if_fc2 i arg1 harg1 arg2 harg2 arg3 harg3 arg4 harg4 arg5 harg5 arg6 harg6 arg7 harg7 arg8 harg8 arg9 harg9 arg10 harg10) K := by
  simp only [cc1__k2_bn_if_fc2_eq_skeleton]; unfold cc1__k2_bn_if_fc2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7
  sl_exec (disch := first | sl_exact hc0 | sl_exact hc1)
  sl_step
  iapply Hk
  isplitl [H0]
  · iexists _; isplitr [H0]; swap
    · iexact H0
    ipureintro
    exact harg1.read_unread _
  isplitl [H1]
  · iexists _; isplitr [H1]; swap
    · iexact H1
    ipureintro
    exact harg2.read_unread _
  isplitl [H2]
  · iexists _; isplitr [H2]; swap
    · iexact H2
    ipureintro
    exact harg3.read_unread _
  isplitl [H3]
  · iexists _; isplitr [H3]; swap
    · iexact H3
    ipureintro
    exact harg4.read_unread _
  isplitl [H4]
  · iexists _; isplitr [H4]; swap
    · iexact H4
    ipureintro
    exact harg5.read_unread _
  isplitl [H5]
  · iexists _; isplitr [H5]; swap
    · iexact H5
    ipureintro
    exact harg6.read_unread _
  isplitl [H6]
  · iexists _; isplitr [H6]; swap
    · iexact H6
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread, harg10.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread, harg10.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act1, nxt1_0, nxt1_1, spk1, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  isplitl [H7]
  · iexists _; isplitr [H7]; swap
    · iexact H7
    ipureintro
    exact harg8.read_unread _
  isplitl [H8]
  · iexists _; isplitr [H8]; swap
    · iexact H8
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread, harg10.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread, harg10.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act1, nxt1_0, nxt1_1, spk1, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  · iexists _; isplitr [H9]; swap
    · iexact H9
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread, harg10.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread, harg10.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act1, nxt1_0, nxt1_1, spk1, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)

set_option maxHeartbeats 4000000 in
/-- The body of call 1 at a middle point: from its staging buffers at the given contents it runs to the outputs and scratch at the functions above. -/
theorem run1_mid (c : Dev nD) (i : grid1.Coords)
    (arg1 : Memref sig .tc .vmem S1x2048x256 .f32) (harg1 : arg1.IsWhole)
    (arg2 : Memref sig .tc .vmem S8x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S256x256 .f32) (harg5 : arg5.IsWhole)
    (arg6 : Memref sig .tc .vmem S1x256 .f32) (harg6 : arg6.IsWhole)
    (arg7 : Memref sig .tc .vmem S1x2048x256 .f32) (harg7 : arg7.IsWhole)
    (arg8 : Memref sig .tc .vmem S8x256 .f32) (harg8 : arg8.IsWhole)
    (arg9 : Memref sig .tc .vmem S2048x256 .f32) (harg9 : arg9.IsWhole)
    (arg10 : Memref sig .tc .vmem S8x256 .f32) (harg10 : arg10.IsWhole) (hc0 : ¬ first1 i) (hc1 : ¬ last1 i)
    (x0 : Vec F S1x2048x256 .f32) (x1 : Vec F S8x256 .f32) (x2 : Vec F S1x256 .f32) (x3 : Vec F S1x256 .f32) (x4 : Vec F S256x256 .f32) (x5 : Vec F S1x256 .f32) (s0 : Vec F S2048x256 .f32) (s1 : Vec F S8x256 .f32) (xi : Vec F S8x256 .f32)
    (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ (∃ d, owns (c : Thread nD τ) arg7 fullShare d)
      ∗ owns (c : Thread nD τ) arg8 fullShare xi
      ∗ owns (c : Thread nD τ) arg9 fullShare s0
      ∗ owns (c : Thread nD τ) arg10 fullShare s1
      ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (act1 x0 x1 x2 x3 x4 x5 s0 s1)
        ∗ owns (c : Thread nD τ) arg8 fullShare xi
        ∗ owns (c : Thread nD τ) arg9 fullShare (nxt1_0 x0 x1 x2 x3 x4 x5 s0 s1)
        ∗ owns (c : Thread nD τ) arg10 fullShare (nxt1_1 x0 x1 x2 x3 x4 x5 s0 s1)) -∗ K ⟨⟩))
      ⊢ wp frame (wpE (defs₀ (F := F)) Variants.none c none) E (cc1__k2_bn_if_fc2 i arg1 harg1 arg2 harg2 arg3 harg3 arg4 harg4 arg5 harg5 arg6 harg6 arg7 harg7 arg8 harg8 arg9 harg9 arg10 harg10) K := by
  simp only [cc1__k2_bn_if_fc2_eq_skeleton]; unfold cc1__k2_bn_if_fc2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%f7, %hf7, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg8.eq_unread hf7; obtain rfl := harg9.eq_unread hf8; obtain rfl := harg10.eq_unread hf9
  sl_exec (disch := first | sl_exact hc0 | sl_exact hc1)
  sl_step
  iapply Hk
  isplitl [H0]
  · iexists _; isplitr [H0]; swap
    · iexact H0
    ipureintro
    exact harg1.read_unread _
  isplitl [H1]
  · iexists _; isplitr [H1]; swap
    · iexact H1
    ipureintro
    exact harg2.read_unread _
  isplitl [H2]
  · iexists _; isplitr [H2]; swap
    · iexact H2
    ipureintro
    exact harg3.read_unread _
  isplitl [H3]
  · iexists _; isplitr [H3]; swap
    · iexact H3
    ipureintro
    exact harg4.read_unread _
  isplitl [H4]
  · iexists _; isplitr [H4]; swap
    · iexact H4
    ipureintro
    exact harg5.read_unread _
  isplitl [H5]
  · iexists _; isplitr [H5]; swap
    · iexact H5
    ipureintro
    exact harg6.read_unread _
  isplitl [H6]
  · iexists _; isplitr [H6]; swap
    · iexact H6
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread, harg10.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread, harg10.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act1, nxt1_0, nxt1_1, spk1, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  isplitl [H7]
  · iexists _; isplitr [H7]; swap
    · iexact H7
    ipureintro
    exact harg8.read_unread _
  isplitl [H8]
  · iexists _; isplitr [H8]; swap
    · iexact H8
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread, harg10.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread, harg10.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act1, nxt1_0, nxt1_1, spk1, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  · iexists _; isplitr [H9]; swap
    · iexact H9
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread, harg10.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread, harg10.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act1, nxt1_0, nxt1_1, spk1, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)

set_option maxHeartbeats 4000000 in
/-- The body of call 1 at the last point: from its staging buffers at the given contents it runs to the outputs and scratch at the functions above. -/
theorem run1_last (c : Dev nD) (i : grid1.Coords)
    (arg1 : Memref sig .tc .vmem S1x2048x256 .f32) (harg1 : arg1.IsWhole)
    (arg2 : Memref sig .tc .vmem S8x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S256x256 .f32) (harg5 : arg5.IsWhole)
    (arg6 : Memref sig .tc .vmem S1x256 .f32) (harg6 : arg6.IsWhole)
    (arg7 : Memref sig .tc .vmem S1x2048x256 .f32) (harg7 : arg7.IsWhole)
    (arg8 : Memref sig .tc .vmem S8x256 .f32) (harg8 : arg8.IsWhole)
    (arg9 : Memref sig .tc .vmem S2048x256 .f32) (harg9 : arg9.IsWhole)
    (arg10 : Memref sig .tc .vmem S8x256 .f32) (harg10 : arg10.IsWhole) (hc0 : ¬ first1 i) (hc1 : last1 i)
    (x0 : Vec F S1x2048x256 .f32) (x1 : Vec F S8x256 .f32) (x2 : Vec F S1x256 .f32) (x3 : Vec F S1x256 .f32) (x4 : Vec F S256x256 .f32) (x5 : Vec F S1x256 .f32) (s0 : Vec F S2048x256 .f32) (s1 : Vec F S8x256 .f32)
    (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ (∃ d, owns (c : Thread nD τ) arg7 fullShare d)
      ∗ (∃ d, owns (c : Thread nD τ) arg8 fullShare d)
      ∗ owns (c : Thread nD τ) arg9 fullShare s0
      ∗ owns (c : Thread nD τ) arg10 fullShare s1
      ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (act1 x0 x1 x2 x3 x4 x5 s0 s1)
        ∗ owns (c : Thread nD τ) arg8 fullShare (nxt1_1 x0 x1 x2 x3 x4 x5 s0 s1)
        ∗ owns (c : Thread nD τ) arg9 fullShare (nxt1_0 x0 x1 x2 x3 x4 x5 s0 s1)
        ∗ owns (c : Thread nD τ) arg10 fullShare (nxt1_1 x0 x1 x2 x3 x4 x5 s0 s1)) -∗ K ⟨⟩))
      ⊢ wp frame (wpE (defs₀ (F := F)) Variants.none c none) E (cc1__k2_bn_if_fc2 i arg1 harg1 arg2 harg2 arg3 harg3 arg4 harg4 arg5 harg5 arg6 harg6 arg7 harg7 arg8 harg8 arg9 harg9 arg10 harg10) K := by
  simp only [cc1__k2_bn_if_fc2_eq_skeleton]; unfold cc1__k2_bn_if_fc2_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8; obtain rfl := harg10.eq_unread hf9
  sl_exec (disch := first | sl_exact hc0 | sl_exact hc1)
  sl_step
  iapply Hk
  isplitl [H0]
  · iexists _; isplitr [H0]; swap
    · iexact H0
    ipureintro
    exact harg1.read_unread _
  isplitl [H1]
  · iexists _; isplitr [H1]; swap
    · iexact H1
    ipureintro
    exact harg2.read_unread _
  isplitl [H2]
  · iexists _; isplitr [H2]; swap
    · iexact H2
    ipureintro
    exact harg3.read_unread _
  isplitl [H3]
  · iexists _; isplitr [H3]; swap
    · iexact H3
    ipureintro
    exact harg4.read_unread _
  isplitl [H4]
  · iexists _; isplitr [H4]; swap
    · iexact H4
    ipureintro
    exact harg5.read_unread _
  isplitl [H5]
  · iexists _; isplitr [H5]; swap
    · iexact H5
    ipureintro
    exact harg6.read_unread _
  isplitl [H6]
  · iexists _; isplitr [H6]; swap
    · iexact H6
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread, harg10.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread, harg10.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act1, nxt1_0, nxt1_1, spk1, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  isplitl [H7]
  · iexists _; isplitr [H7]; swap
    · iexact H7
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread, harg10.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread, harg10.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act1, nxt1_0, nxt1_1, spk1, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  isplitl [H8]
  · iexists _; isplitr [H8]; swap
    · iexact H8
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread, harg10.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread, harg10.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act1, nxt1_0, nxt1_1, spk1, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  · iexists _; isplitr [H9]; swap
    · iexact H9
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread, harg10.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread, harg10.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [act1, nxt1_0, nxt1_1, spk1, rowsPut]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)

/-! ## Call 1 over the whole grid -/

variable (V : Dev nD → Valuation τ sig (Elt F))

/-- The block of window `w` at point `t`, of the contents the region is entered with. -/
abbrev iblk1 (c : Dev nD) (w : Fin cfg1.W) (t : Fin cfg1.N) :=
  ((cfg1.win w).blk t).view.read (Elt F) (V c (Proc.devRef .tc (Pipeline.arrRef spec1 w)))

/-- The scratch of call 1 after `n` points. -/
def st1 (c : Dev nD) : ℕ → Vec F S2048x256 .f32 × Vec F S8x256 .f32
  | 0 => (k1_pay6, k1_pay7)
  | n + 1 => if h : n < cfg1.N then (nxt1_0 (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (st1 c n).1 (st1 c n).2, nxt1_1 (iblk1 V c 0 ⟨n, h⟩) (iblk1 V c 1 ⟨n, h⟩) (iblk1 V c 2 ⟨n, h⟩) (iblk1 V c 3 ⟨n, h⟩) (iblk1 V c 4 ⟨n, h⟩) (iblk1 V c 5 ⟨n, h⟩) (st1 c n).1 (st1 c n).2) else st1 c n

theorem st1_succ (c : Dev nD) (t : Fin cfg1.N) : st1 V c (t.val + 1) = (nxt1_0 (iblk1 V c 0 t) (iblk1 V c 1 t) (iblk1 V c 2 t) (iblk1 V c 3 t) (iblk1 V c 4 t) (iblk1 V c 5 t) (st1 V c t.val).1 (st1 V c t.val).2, nxt1_1 (iblk1 V c 0 t) (iblk1 V c 1 t) (iblk1 V c 2 t) (iblk1 V c 3 t) (iblk1 V c 4 t) (iblk1 V c 5 t) (st1 V c t.val).1 (st1 V c t.val).2) :=
  dif_pos t.isLt

theorem st1_zero (c : Dev nD) : st1 V c 0 = (k1_pay6, k1_pay7) := rfl

abbrev scM1_0 : Memref sig .tc .vmem S2048x256 .f32 := Memref.whole cc1_scratch0

abbrev scM1_1 : Memref sig .tc .vmem S8x256 .f32 := Memref.whole cc1_scratch1

/-- What the region keeps besides the windows before position `n`: at first any scratch, later the scratch of the recursion. -/
def Phi1 (c : Dev nD) : ℕ → sProp 𝕄
  | 0 => Pipeline.ΦA spec1 c
  | n + 1 => iprop(owns (c : Thread nD τ) scM1_0 fullShare (st1 V c (n + 1)).1 ∗ owns (c : Thread nD τ) scM1_1 fullShare (st1 V c (n + 1)).2
      ∗ Pipeline.scopedRestBut (Ix := Unit) (Name := ℕ) (U := UR sig nD τ) (Lvl := ℕ) (Val := Elt F) spec1 c [cc1_scratch0, cc1_scratch1] ∗ ∃ r, prngReg c r)

theorem Phi1_pos (c : Dev nD) (n : ℕ) (hz : n ≠ 0) : Phi1 V c n = iprop(owns (c : Thread nD τ) scM1_0 fullShare (st1 V c n).1 ∗ owns (c : Thread nD τ) scM1_1 fullShare (st1 V c n).2
      ∗ Pipeline.scopedRestBut (Ix := Unit) (Name := ℕ) (U := UR sig nD τ) (Lvl := ℕ) (Val := Elt F) spec1 c [cc1_scratch0, cc1_scratch1] ∗ ∃ r, prngReg c r) := by
  cases n with
  | zero => exact absurd rfl hz
  | succ n => rfl

theorem PhiA1_eq (c : Dev nD) : (Pipeline.ΦA spec1 c : sProp 𝕄) = iprop((iprop((∃ d, owns (c : Thread nD τ) scM1_0 fullShare d) ∗ (∃ d, owns (c : Thread nD τ) scM1_1 fullShare d)) ∗ Pipeline.scopedRestBut (Ix := Unit) (Name := ℕ) (U := UR sig nD τ) (Lvl := ℕ) (Val := Elt F) spec1 c [cc1_scratch0, cc1_scratch1]) ∗ ∃ r, prngReg c r) := by
  unfold Pipeline.ΦA; rw [scopedRest1_split]
  simp only [scM1_0, scM1_1, owns_whole]; try rfl

/-- The proof data of call 1: every input at its block, the outputs at the functions above. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => act1 (iblk1 V c 0 t) (iblk1 V c 1 t) (iblk1 V c 2 t) (iblk1 V c 3 t) (iblk1 V c 4 t) (iblk1 V c 5 t) (st1 V c t.val).1 (st1 V c t.val).2
    | ⟨7, _⟩ => nxt1_1 (iblk1 V c 0 t) (iblk1 V c 1 t) (iblk1 V c 2 t) (iblk1 V c 3 t) (iblk1 V c 4 t) (iblk1 V c 5 t) (st1 V c t.val).1 (st1 V c t.val).2
  Φ t := Phi1 V c t.val
  q _ := fullShare
  owed _ := 0

theorem A1_eq (c : Dev nD) (w : Fin cfg1.W) : (dat1 V c).A w = V c (Proc.devRef .tc (Pipeline.arrRef spec1 w)) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = act1 (iblk1 V c 0 t) (iblk1 V c 1 t) (iblk1 V c 2 t) (iblk1 V c 3 t) (iblk1 V c 4 t) (iblk1 V c 5 t) (st1 V c t.val).1 (st1 V c t.val).2 := by dsimp only [dat1]
theorem after1_7 (c : Dev nD) (t : Fin cfg1.N) : (dat1 V c).after 7 t = nxt1_1 (iblk1 V c 0 t) (iblk1 V c 1 t) (iblk1 V c 2 t) (iblk1 V c 3 t) (iblk1 V c 4 t) (iblk1 V c 5 t) (st1 V c t.val).1 (st1 V c t.val).2 := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf; rw [A1_eq]; try rfl) t d).trans (by unfold Dat.fetched Dat.blockOf; rw [A1_eq]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf; rw [A1_eq]; try rfl) t d).trans (by unfold Dat.fetched Dat.blockOf; rw [A1_eq]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf; rw [A1_eq]; try rfl) t d).trans (by unfold Dat.fetched Dat.blockOf; rw [A1_eq]; try rfl)
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf; rw [A1_eq]; try rfl) t d).trans (by unfold Dat.fetched Dat.blockOf; rw [A1_eq]; try rfl)
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf; rw [A1_eq]; try rfl) t d).trans (by unfold Dat.fetched Dat.blockOf; rw [A1_eq]; try rfl)
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf; rw [A1_eq]; try rfl) t d).trans (by unfold Dat.fetched Dat.blockOf; rw [A1_eq]; try rfl)
theorem live1_0 : ∀ t : Fin cfg1.N, cfg1.idle 0 (grid1.coords t) = false := fun _ => rfl
theorem live1_1 : ∀ t : Fin cfg1.N, cfg1.idle 1 (grid1.coords t) = false := fun _ => rfl
theorem live1_2 : ∀ t : Fin cfg1.N, cfg1.idle 2 (grid1.coords t) = false := fun _ => rfl
theorem live1_3 : ∀ t : Fin cfg1.N, cfg1.idle 3 (grid1.coords t) = false := fun _ => rfl
theorem live1_4 : ∀ t : Fin cfg1.N, cfg1.idle 4 (grid1.coords t) = false := fun _ => rfl
theorem live1_5 : ∀ t : Fin cfg1.N, cfg1.idle 5 (grid1.coords t) = false := fun _ => rfl
theorem live1_6 : ∀ t : Fin cfg1.N, cfg1.idle 6 (grid1.coords t) = false := fun _ => rfl
theorem first1_iff : ∀ t : Fin cfg1.N, first1 (grid1.coords t) ↔ t.val = 0 :=
  (fun t => by
    have ht : t.val < 8 := Nat.lt_of_lt_of_eq t.isLt N_1
    have e0 : (grid1.coords t 0).val = t.val / 1 % 8 := Pipeline.Grid.coords_val t 0 (by decide) rfl
    have e : first1 (grid1.coords t) ↔ t.val % 8 = 0 := by
      simp only [first1, e0]
      word_cmp
    rw [e]; omega
   : ∀ t : Fin grid1.N, first1 (grid1.coords t) ↔ t.val = 0)
theorem last1_iff : ∀ t : Fin cfg1.N, last1 (grid1.coords t) ↔ t.val = 7 :=
  (fun t => by
    have ht : t.val < 8 := Nat.lt_of_lt_of_eq t.isLt N_1
    have e0 : (grid1.coords t 0).val = t.val / 1 % 8 := Pipeline.Grid.coords_val t 0 (by decide) rfl
    have e : last1 (grid1.coords t) ↔ t.val % 8 = 7 := by
      simp only [last1, k1_cond2, e0]
      word_cmp
    rw [e]; omega
   : ∀ t : Fin grid1.N, last1 (grid1.coords t) ↔ t.val = 7)
theorem idle1_7 : ∀ t : Fin cfg1.N, ¬ last1 (grid1.coords t) → cfg1.idle 7 (grid1.coords t) = true := by decide +kernel
theorem noFlush1_7 : ∀ t : Fin cfg1.N, ¬ last1 (grid1.coords t) → (cfg1.win 7).flush t = false := by decide +kernel
theorem live1_7 : ∀ t : Fin cfg1.N, last1 (grid1.coords t) → cfg1.idle 7 (grid1.coords t) = false := by decide +kernel

set_option maxHeartbeats 4800000 in
/-- The body of call 1 at any point, between what the pipeline hands it and what it must return. -/
theorem sound1 (c : Dev nD) (t : Fin cfg1.N) :
    iprop((dat1 V c).Φ t.castSucc ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d))
      ∗ (∃ d, owns (c : Thread nD τ) (win1_2.stage (cfg1.slots t 2)) fullShare ((dat1 V c).before 2 t d))
      ∗ (∃ d, owns (c : Thread nD τ) (win1_3.stage (cfg1.slots t 3)) fullShare ((dat1 V c).before 3 t d))
      ∗ (∃ d, owns (c : Thread nD τ) (win1_4.stage (cfg1.slots t 4)) fullShare ((dat1 V c).before 4 t d))
      ∗ (∃ d, owns (c : Thread nD τ) (win1_5.stage (cfg1.slots t 5)) fullShare ((dat1 V c).before 5 t d))
      ∗ (∃ d, owns (c : Thread nD τ) (win1_6.stage (cfg1.slots t 6)) fullShare ((dat1 V c).before 6 t d))
      ∗ (∃ d, owns (c : Thread nD τ) (win1_7.stage (cfg1.slots t 7)) fullShare ((dat1 V c).before 7 t d)))
    ⊢ wp frame (wpE (defs₀ (F := F)) Variants.none c none) Set.univ (bodyAt1 t) (fun _ =>
      iprop((dat1 V c).Φ t.succ ∗ (dat1 V c).owesAt () t.succ ∗ (dat1 V c).leavesExact 0 t ∗ (dat1 V c).leavesExact 1 t ∗ (dat1 V c).leavesExact 2 t ∗ (dat1 V c).leavesExact 3 t ∗ (dat1 V c).leavesExact 4 t ∗ (dat1 V c).leavesExact 5 t ∗ (dat1 V c).leavesExact 6 t ∗ (dat1 V c).leavesExact 7 t)) := by
  unfold bodyAt1
  simp only [before1_0, before1_1, before1_2, before1_3, before1_4, before1_5]
  rw [show (dat1 V c).owesAt () t.succ = (dat1 V c).owesAt () t.castSucc from rfl]
  rw [show (dat1 V c).leavesExact 0 t = owns (c : Thread nD τ) (win1_0.stage (cfg1.slots t 0)) fullShare ((dat1 V c).after 0 t) from by
    unfold Dat.leavesExact; rw [live1_0 t], after1_0]
  rw [show (dat1 V c).leavesExact 1 t = owns (c : Thread nD τ) (win1_1.stage (cfg1.slots t 1)) fullShare ((dat1 V c).after 1 t) from by
    unfold Dat.leavesExact; rw [live1_1 t], after1_1]
  rw [show (dat1 V c).leavesExact 2 t = owns (c : Thread nD τ) (win1_2.stage (cfg1.slots t 2)) fullShare ((dat1 V c).after 2 t) from by
    unfold Dat.leavesExact; rw [live1_2 t], after1_2]
  rw [show (dat1 V c).leavesExact 3 t = owns (c : Thread nD τ) (win1_3.stage (cfg1.slots t 3)) fullShare ((dat1 V c).after 3 t) from by
    unfold Dat.leavesExact; rw [live1_3 t], after1_3]
  rw [show (dat1 V c).leavesExact 4 t = owns (c : Thread nD τ) (win1_4.stage (cfg1.slots t 4)) fullShare ((dat1 V c).after 4 t) from by
    unfold Dat.leavesExact; rw [live1_4 t], after1_4]
  rw [show (dat1 V c).leavesExact 5 t = owns (c : Thread nD τ) (win1_5.stage (cfg1.slots t 5)) fullShare ((dat1 V c).after 5 t) from by
    unfold Dat.leavesExact; rw [live1_5 t], after1_5]
  rw [show (dat1 V c).leavesExact 6 t = owns (c : Thread nD τ) (win1_6.stage (cfg1.slots t 6)) fullShare ((dat1 V c).after 6 t) from by
    unfold Dat.leavesExact; rw [live1_6 t], after1_6]
  have hN : t.val < 8 := lt_of_lt_of_eq t.isLt (show cfg1.N = 8 from N_1)
  rw [show (dat1 V c).Φ t.succ = Phi1 V c (t.val + 1) from rfl, Phi1_pos V c _ (Nat.succ_ne_zero _), st1_succ,
    show (dat1 V c).Φ t.castSucc = Phi1 V c t.val from rfl]
  by_cases hz : t.val = 0
  · have hl : ¬ t.val = 7 := by omega
    rw [Dat.leavesExact_idle (dat1 V c) 7 t (idle1_7 t (fun h => hl ((last1_iff t).mp h))) (noFlush1_7 t (fun h => hl ((last1_iff t).mp h)))]
    rw [hz, st1_zero, show Phi1 V c 0 = Pipeline.ΦA spec1 c from rfl, PhiA1_eq]
    iintro ⟨⟨⟨⟨HS0, HS1⟩, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run1_first c (grid1.coords t) _ _ _ _ _ _ _ _ _ _ _ _ _ _ _ _ _ _ _ _ ((first1_iff t).mpr hz) (fun h => hl ((last1_iff t).mp h)) (iblk1 V c 0 t) (iblk1 V c 1 t) (iblk1 V c 2 t) (iblk1 V c 3 t) (iblk1 V c 4 t) (iblk1 V c 5 t) _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexact H7
    isplitl [HS0]; · iexact HS0
    isplitl [HS1]; · iexact HS1
    iintro ⟨H0, H1, H2, H3, H4, H5, H6, H7, HS0, HS1⟩
    isplitl [HS0 HS1 HB Hg]
    · isplitl [HS0]; · iexact HS0
      isplitl [HS1]; · iexact HS1
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · rw [Phi1_pos V c _ hz]
    by_cases hl : t.val = 7
    · rw [show (dat1 V c).leavesExact 7 t = owns (c : Thread nD τ) (win1_7.stage (cfg1.slots t 7)) fullShare ((dat1 V c).after 7 t) from by
        unfold Dat.leavesExact; rw [live1_7 t ((last1_iff t).mpr hl)], after1_7]
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_last c (grid1.coords t) _ _ _ _ _ _ _ _ _ _ _ _ _ _ _ _ _ _ _ _ (fun h => hz ((first1_iff t).mp h)) ((last1_iff t).mpr hl) (iblk1 V c 0 t) (iblk1 V c 1 t) (iblk1 V c 2 t) (iblk1 V c 3 t) (iblk1 V c 4 t) (iblk1 V c 5 t) (st1 V c t.val).1 (st1 V c t.val).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · rw [Dat.leavesExact_idle (dat1 V c) 7 t (idle1_7 t (fun h => hl ((last1_iff t).mp h))) (noFlush1_7 t (fun h => hl ((last1_iff t).mp h)))]
      iintro ⟨⟨HS0, HS1, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run1_mid c (grid1.coords t) _ _ _ _ _ _ _ _ _ _ _ _ _ _ _ _ _ _ _ _ (fun h => hz ((first1_iff t).mp h)) (fun h => hl ((last1_iff t).mp h)) (iblk1 V c 0 t) (iblk1 V c 1 t) (iblk1 V c 2 t) (iblk1 V c 3 t) (iblk1 V c 4 t) (iblk1 V c 5 t) (st1 V c t.val).1 (st1 V c t.val).2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexact H7
      isplitl [HS0]; · iexact HS0
      isplitl [HS1]; · iexact HS1
      iintro ⟨H0, H1, H2, H3, H4, H5, H6, H7, HS0, HS1⟩
      isplitl [HS0 HS1 HB Hg]
      · isplitl [HS0]; · iexact HS0
        isplitl [HS1]; · iexact HS1
        isplitl [HB]; · iexact HB
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

theorem row_1 (t : Fin cfg1.N) :
    defs₀ (F := F) .tc cfg1.body (cfg1.bodyArgs t (cfg1.slots t)) = bodyAt1 t := by
  unfold defs₀; rw [Defs.onTc_tc]

/-- The pipeline's body obligation of call 1. -/
theorem obligation1 (c : Dev nD) : BodyObligation (dat1 V c) (defs₀ (F := F)) Variants.none () Set.univ := fun t => by
  rw [bigSep_W1, bigSep_W1, row_1]
  exact triple_restated (sound1 V c t) rfl .rfl fun _ => .rfl

theorem enter1 (c : Dev nD) : Pipeline.ΦA spec1 c ⊢ (dat1 V c).Φ 0 := Idealize.SL.BI.Entails.refl _

theorem leave1 (c : Dev nD) : (dat1 V c).Φ (Fin.last cfg1.N) ⊢ Pipeline.ΦA spec1 c := by
  rw [show (dat1 V c).Φ (Fin.last cfg1.N) = Phi1 V c cfg1.N from rfl, Phi1_pos V c _ (by rw [show cfg1.N = 8 from N_1]; decide), PhiA1_eq]
  iintro ⟨HS0, HS1, HB, Hg⟩
  isplitl [HS0 HS1 HB]
  · isplitl [HS0 HS1]
    · isplitl [HS0]; · iexists _; iexact HS0
      iexists _; iexact HS1
    iexact HB
  iexact Hg

end Cert.KernelIdeal.Calls
-- ==== Proof.SI.R2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.SI.Tools

@[expose] public section

set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The spikes of a point of call 2, from its input blocks and the membrane before the point. -/
def spk2 (x0 : Vec F S1x2048x256 .f32) (x1 : Vec F S8x256 .f32) (x2 : Vec F S1x256 .f32) (x3 : Vec F S1x256 .f32) (x4 : Vec F S256x1 .f32) (x5 : Vec F S1x1 .f32) (s0 : Vec F S2048x256 .f32) : Vec F S2048x256 .f32 := k2_pay6 (rowAt0 x1) (rowAt1 x1) x2 x0 x3 s0
/-- The spikes call 2 writes at a point. -/
def hid2 (x0 : Vec F S1x2048x256 .f32) (x1 : Vec F S8x256 .f32) (x2 : Vec F S1x256 .f32) (x3 : Vec F S1x256 .f32) (x4 : Vec F S256x1 .f32) (x5 : Vec F S1x1 .f32) (s0 : Vec F S2048x256 .f32) : Vec F S1x2048x256 .f32 := k2_pay2 (spk2 x0 x1 x2 x3 x4 x5 s0)
/-- The boundary logits call 2 writes at a point. -/
def log2 (x0 : Vec F S1x2048x256 .f32) (x1 : Vec F S8x256 .f32) (x2 : Vec F S1x256 .f32) (x3 : Vec F S1x256 .f32) (x4 : Vec F S256x1 .f32) (x5 : Vec F S1x1 .f32) (s0 : Vec F S2048x256 .f32) : Vec F S1x2048x1 .f32 := k2_pay3 (spk2 x0 x1 x2 x3 x4 x5 s0) x4 x5
/-- The membrane after a point of call 2. -/
def nxt2_0 (x0 : Vec F S1x2048x256 .f32) (x1 : Vec F S8x256 .f32) (x2 : Vec F S1x256 .f32) (x3 : Vec F S1x256 .f32) (x4 : Vec F S256x1 .f32) (x5 : Vec F S1x1 .f32) (s0 : Vec F S2048x256 .f32) : Vec F S2048x256 .f32 := k2_pay1 (k2_pay7 (rowAt0 x1) (rowAt1 x1) x2 x0 x3 s0)

/-- Whether point `i` is the first of call 2. -/
abbrev first2 (i : grid2.Coords) : Prop := (Scalar.cmpi .ne (Scalar.extui (Scalar.cmpi .eq (BitVec.ofNat 32 (i 0).val) 0#32)) 0#32) = 1#1

set_option maxHeartbeats 4000000 in
/-- The body of call 2 at the first point: from its staging buffers at the given contents it runs to the outputs and scratch at the functions above. -/
theorem run2_first (c : Dev nD) (i : grid2.Coords)
    (arg1 : Memref sig .tc .vmem S1x2048x256 .f32) (harg1 : arg1.IsWhole)
    (arg2 : Memref sig .tc .vmem S8x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S256x1 .f32) (harg5 : arg5.IsWhole)
    (arg6 : Memref sig .tc .vmem S1x1 .f32) (harg6 : arg6.IsWhole)
    (arg7 : Memref sig .tc .vmem S1x2048x256 .f32) (harg7 : arg7.IsWhole)
    (arg8 : Memref sig .tc .vmem S1x2048x1 .f32) (harg8 : arg8.IsWhole)
    (arg9 : Memref sig .tc .vmem S2048x256 .f32) (harg9 : arg9.IsWhole) (hc0 : first2 i)
    (x0 : Vec F S1x2048x256 .f32) (x1 : Vec F S8x256 .f32) (x2 : Vec F S1x256 .f32) (x3 : Vec F S1x256 .f32) (x4 : Vec F S256x1 .f32) (x5 : Vec F S1x1 .f32)
    (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ (∃ d, owns (c : Thread nD τ) arg7 fullShare d)
      ∗ (∃ d, owns (c : Thread nD τ) arg8 fullShare d)
      ∗ (∃ d, owns (c : Thread nD τ) arg9 fullShare d)
      ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (hid2 x0 x1 x2 x3 x4 x5 k2_pay4)
        ∗ owns (c : Thread nD τ) arg8 fullShare (log2 x0 x1 x2 x3 x4 x5 k2_pay4)
        ∗ owns (c : Thread nD τ) arg9 fullShare (nxt2_0 x0 x1 x2 x3 x4 x5 k2_pay4)) -∗ K ⟨⟩))
      ⊢ wp frame (wpE (defs₀ (F := F)) Variants.none c none) E (cc2__k3_bn_if_logits i arg1 harg1 arg2 harg2 arg3 harg3 arg4 harg4 arg5 harg5 arg6 harg6 arg7 harg7 arg8 harg8 arg9 harg9) K := by
  simp only [cc2__k3_bn_if_logits_eq_skeleton]; unfold cc2__k3_bn_if_logits_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0)
  sl_step
  iapply Hk
  isplitl [H0]
  · iexists _; isplitr [H0]; swap
    · iexact H0
    ipureintro
    exact harg1.read_unread _
  isplitl [H1]
  · iexists _; isplitr [H1]; swap
    · iexact H1
    ipureintro
    exact harg2.read_unread _
  isplitl [H2]
  · iexists _; isplitr [H2]; swap
    · iexact H2
    ipureintro
    exact harg3.read_unread _
  isplitl [H3]
  · iexists _; isplitr [H3]; swap
    · iexact H3
    ipureintro
    exact harg4.read_unread _
  isplitl [H4]
  · iexists _; isplitr [H4]; swap
    · iexact H4
    ipureintro
    exact harg5.read_unread _
  isplitl [H5]
  · iexists _; isplitr [H5]; swap
    · iexact H5
    ipureintro
    exact harg6.read_unread _
  isplitl [H6]
  · iexists _; isplitr [H6]; swap
    · iexact H6
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [hid2, log2, nxt2_0, spk2]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  isplitl [H7]
  · iexists _; isplitr [H7]; swap
    · iexact H7
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [hid2, log2, nxt2_0, spk2]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  · iexists _; isplitr [H8]; swap
    · iexact H8
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [hid2, log2, nxt2_0, spk2]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)

set_option maxHeartbeats 4000000 in
/-- The body of call 2 after the first point: from its staging buffers at the given contents it runs to the outputs and scratch at the functions above. -/
theorem run2_rest (c : Dev nD) (i : grid2.Coords)
    (arg1 : Memref sig .tc .vmem S1x2048x256 .f32) (harg1 : arg1.IsWhole)
    (arg2 : Memref sig .tc .vmem S8x256 .f32) (harg2 : arg2.IsWhole)
    (arg3 : Memref sig .tc .vmem S1x256 .f32) (harg3 : arg3.IsWhole)
    (arg4 : Memref sig .tc .vmem S1x256 .f32) (harg4 : arg4.IsWhole)
    (arg5 : Memref sig .tc .vmem S256x1 .f32) (harg5 : arg5.IsWhole)
    (arg6 : Memref sig .tc .vmem S1x1 .f32) (harg6 : arg6.IsWhole)
    (arg7 : Memref sig .tc .vmem S1x2048x256 .f32) (harg7 : arg7.IsWhole)
    (arg8 : Memref sig .tc .vmem S1x2048x1 .f32) (harg8 : arg8.IsWhole)
    (arg9 : Memref sig .tc .vmem S2048x256 .f32) (harg9 : arg9.IsWhole) (hc0 : ¬ first2 i)
    (x0 : Vec F S1x2048x256 .f32) (x1 : Vec F S8x256 .f32) (x2 : Vec F S1x256 .f32) (x3 : Vec F S1x256 .f32) (x4 : Vec F S256x1 .f32) (x5 : Vec F S1x1 .f32) (s0 : Vec F S2048x256 .f32)
    (E : Set ℕ) (K : PUnit → sProp 𝕄) :
    iprop(owns (c : Thread nD τ) arg1 fullShare x0
      ∗ owns (c : Thread nD τ) arg2 fullShare x1
      ∗ owns (c : Thread nD τ) arg3 fullShare x2
      ∗ owns (c : Thread nD τ) arg4 fullShare x3
      ∗ owns (c : Thread nD τ) arg5 fullShare x4
      ∗ owns (c : Thread nD τ) arg6 fullShare x5
      ∗ (∃ d, owns (c : Thread nD τ) arg7 fullShare d)
      ∗ (∃ d, owns (c : Thread nD τ) arg8 fullShare d)
      ∗ owns (c : Thread nD τ) arg9 fullShare s0
      ∗ (iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare (hid2 x0 x1 x2 x3 x4 x5 s0)
        ∗ owns (c : Thread nD τ) arg8 fullShare (log2 x0 x1 x2 x3 x4 x5 s0)
        ∗ owns (c : Thread nD τ) arg9 fullShare (nxt2_0 x0 x1 x2 x3 x4 x5 s0)) -∗ K ⟨⟩))
      ⊢ wp frame (wpE (defs₀ (F := F)) Variants.none c none) E (cc2__k3_bn_if_logits i arg1 harg1 arg2 harg2 arg3 harg3 arg4 harg4 arg5 harg5 arg6 harg6 arg7 harg7 arg8 harg8 arg9 harg9) K := by
  simp only [cc2__k3_bn_if_logits_eq_skeleton]; unfold cc2__k3_bn_if_logits_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg9.eq_unread hf8
  sl_exec (disch := first | sl_exact hc0)
  sl_step
  iapply Hk
  isplitl [H0]
  · iexists _; isplitr [H0]; swap
    · iexact H0
    ipureintro
    exact harg1.read_unread _
  isplitl [H1]
  · iexists _; isplitr [H1]; swap
    · iexact H1
    ipureintro
    exact harg2.read_unread _
  isplitl [H2]
  · iexists _; isplitr [H2]; swap
    · iexact H2
    ipureintro
    exact harg3.read_unread _
  isplitl [H3]
  · iexists _; isplitr [H3]; swap
    · iexact H3
    ipureintro
    exact harg4.read_unread _
  isplitl [H4]
  · iexists _; isplitr [H4]; swap
    · iexact H4
    ipureintro
    exact harg5.read_unread _
  isplitl [H5]
  · iexists _; isplitr [H5]; swap
    · iexact H5
    ipureintro
    exact harg6.read_unread _
  isplitl [H6]
  · iexists _; isplitr [H6]; swap
    · iexact H6
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [hid2, log2, nxt2_0, spk2]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  isplitl [H7]
  · iexists _; isplitr [H7]; swap
    · iexact H7
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [hid2, log2, nxt2_0, spk2]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)
  · iexists _; isplitr [H8]; swap
    · iexact H8
    ipureintro
    sl_unfold_run_names
    simp -proj only [View.read_writes_full, View.readAt_full, View.readCov, harg1.read_unread, harg2.read_unread, harg3.read_unread, harg4.read_unread, harg5.read_unread, harg6.read_unread, harg7.read_unread, harg8.read_unread, harg9.read_unread]
    try simp -proj only [load_window, store_put, View.writes_nil, View.read_writes_full, View.readAt_full, harg1.read_unread, harg2.read_unread, harg3.read_unread, harg4.read_unread, harg5.read_unread, harg6.read_unread, harg7.read_unread, harg8.read_unread, harg9.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [hid2, log2, nxt2_0, spk2]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)

/-! ## Call 2 over the whole grid -/

variable (V : Dev nD → Valuation τ sig (Elt F))

/-- The block of window `w` at point `t`, of the contents the region is entered with. -/
abbrev iblk2 (c : Dev nD) (w : Fin cfg2.W) (t : Fin cfg2.N) :=
  ((cfg2.win w).blk t).view.read (Elt F) (V c (Proc.devRef .tc (Pipeline.arrRef spec2 w)))

/-- The scratch of call 2 after `n` points. -/
def st2 (c : Dev nD) : ℕ → Vec F S2048x256 .f32
  | 0 => k2_pay4
  | n + 1 => if h : n < cfg2.N then nxt2_0 (iblk2 V c 0 ⟨n, h⟩) (iblk2 V c 1 ⟨n, h⟩) (iblk2 V c 2 ⟨n, h⟩) (iblk2 V c 3 ⟨n, h⟩) (iblk2 V c 4 ⟨n, h⟩) (iblk2 V c 5 ⟨n, h⟩) (st2 c n) else st2 c n

theorem st2_succ (c : Dev nD) (t : Fin cfg2.N) : st2 V c (t.val + 1) = nxt2_0 (iblk2 V c 0 t) (iblk2 V c 1 t) (iblk2 V c 2 t) (iblk2 V c 3 t) (iblk2 V c 4 t) (iblk2 V c 5 t) (st2 V c t.val) :=
  dif_pos t.isLt

theorem st2_zero (c : Dev nD) : st2 V c 0 = k2_pay4 := rfl

abbrev scM2_0 : Memref sig .tc .vmem S2048x256 .f32 := Memref.whole cc2_scratch0

/-- What the region keeps besides the windows before position `n`: at first any scratch, later the scratch of the recursion. -/
def Phi2 (c : Dev nD) : ℕ → sProp 𝕄
  | 0 => Pipeline.ΦA spec2 c
  | n + 1 => iprop(owns (c : Thread nD τ) scM2_0 fullShare (st2 V c (n + 1))
      ∗ Pipeline.scopedRestBut (Ix := Unit) (Name := ℕ) (U := UR sig nD τ) (Lvl := ℕ) (Val := Elt F) spec2 c [cc2_scratch0] ∗ ∃ r, prngReg c r)

theorem Phi2_pos (c : Dev nD) (n : ℕ) (hz : n ≠ 0) : Phi2 V c n = iprop(owns (c : Thread nD τ) scM2_0 fullShare (st2 V c n)
      ∗ Pipeline.scopedRestBut (Ix := Unit) (Name := ℕ) (U := UR sig nD τ) (Lvl := ℕ) (Val := Elt F) spec2 c [cc2_scratch0] ∗ ∃ r, prngReg c r) := by
  cases n with
  | zero => exact absurd rfl hz
  | succ n => rfl

theorem PhiA2_eq (c : Dev nD) : (Pipeline.ΦA spec2 c : sProp 𝕄) = iprop((iprop((∃ d, owns (c : Thread nD τ) scM2_0 fullShare d)) ∗ Pipeline.scopedRestBut (Ix := Unit) (Name := ℕ) (U := UR sig nD τ) (Lvl := ℕ) (Val := Elt F) spec2 c [cc2_scratch0]) ∗ ∃ r, prngReg c r) := by
  unfold Pipeline.ΦA; rw [scopedRest2_split]
  simp only [scM2_0, owns_whole]; try rfl

/-- The proof data of call 2: every input at its block, the outputs at the functions above. -/
def dat2 (c : Dev nD) : Dat τ (Elt F) Unit ℕ (UR sig nD τ) ℕ cfg2 c where
  A w := V c (Proc.devRef .tc (Pipeline.arrRef spec2 w))
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => hid2 (iblk2 V c 0 t) (iblk2 V c 1 t) (iblk2 V c 2 t) (iblk2 V c 3 t) (iblk2 V c 4 t) (iblk2 V c 5 t) (st2 V c t.val)
    | ⟨7, _⟩ => log2 (iblk2 V c 0 t) (iblk2 V c 1 t) (iblk2 V c 2 t) (iblk2 V c 3 t) (iblk2 V c 4 t) (iblk2 V c 5 t) (st2 V c t.val)
  Φ t := Phi2 V c t.val
  q _ := fullShare
  owed _ := 0

theorem A2_eq (c : Dev nD) (w : Fin cfg2.W) : (dat2 V c).A w = V c (Proc.devRef .tc (Pipeline.arrRef spec2 w)) := by dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = hid2 (iblk2 V c 0 t) (iblk2 V c 1 t) (iblk2 V c 2 t) (iblk2 V c 3 t) (iblk2 V c 4 t) (iblk2 V c 5 t) (st2 V c t.val) := by dsimp only [dat2]
theorem after2_7 (c : Dev nD) (t : Fin cfg2.N) : (dat2 V c).after 7 t = log2 (iblk2 V c 0 t) (iblk2 V c 1 t) (iblk2 V c 2 t) (iblk2 V c 3 t) (iblk2 V c 4 t) (iblk2 V c 5 t) (st2 V c t.val) := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf; rw [A2_eq]; try rfl) t d).trans (by unfold Dat.fetched Dat.blockOf; rw [A2_eq]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf; rw [A2_eq]; try rfl) t d).trans (by unfold Dat.fetched Dat.blockOf; rw [A2_eq]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf; rw [A2_eq]; try rfl) t d).trans (by unfold Dat.fetched Dat.blockOf; rw [A2_eq]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf; rw [A2_eq]; try rfl) t d).trans (by unfold Dat.fetched Dat.blockOf; rw [A2_eq]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf; rw [A2_eq]; try rfl) t d).trans (by unfold Dat.fetched Dat.blockOf; rw [A2_eq]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf; rw [A2_eq]; try rfl) t d).trans (by unfold Dat.fetched Dat.blockOf; rw [A2_eq]; try rfl)
theorem live2_0 : ∀ t : Fin cfg2.N, cfg2.idle 0 (grid2.coords t) = false := fun _ => rfl
theorem live2_1 : ∀ t : Fin cfg2.N, cfg2.idle 1 (grid2.coords t) = false := fun _ => rfl
theorem live2_2 : ∀ t : Fin cfg2.N, cfg2.idle 2 (grid2.coords t) = false := fun _ => rfl
theorem live2_3 : ∀ t : Fin cfg2.N, cfg2.idle 3 (grid2.coords t) = false := fun _ => rfl
theorem live2_4 : ∀ t : Fin cfg2.N, cfg2.idle 4 (grid2.coords t) = false := fun _ => rfl
theorem live2_5 : ∀ t : Fin cfg2.N, cfg2.idle 5 (grid2.coords t) = false := fun _ => rfl
theorem live2_6 : ∀ t : Fin cfg2.N, cfg2.idle 6 (grid2.coords t) = false := fun _ => rfl
theorem live2_7 : ∀ t : Fin cfg2.N, cfg2.idle 7 (grid2.coords t) = false := fun _ => rfl
theorem first2_iff : ∀ t : Fin cfg2.N, first2 (grid2.coords t) ↔ t.val = 0 :=
  (fun t => by
    have ht : t.val < 8 := Nat.lt_of_lt_of_eq t.isLt N_2
    have e0 : (grid2.coords t 0).val = t.val / 1 % 8 := Pipeline.Grid.coords_val t 0 (by decide) rfl
    have e : first2 (grid2.coords t) ↔ t.val % 8 = 0 := by
      simp only [first2, e0]
      word_cmp
    rw [e]; omega
   : ∀ t : Fin grid2.N, first2 (grid2.coords t) ↔ t.val = 0)

set_option maxHeartbeats 4800000 in
/-- The body of call 2 at any point, between what the pipeline hands it and what it must return. -/
theorem sound2 (c : Dev nD) (t : Fin cfg2.N) :
    iprop((dat2 V c).Φ t.castSucc ∗ (dat2 V c).owesAt () t.castSucc
      ∗ (∃ d, owns (c : Thread nD τ) (win2_0.stage (cfg2.slots t 0)) fullShare ((dat2 V c).before 0 t d))
      ∗ (∃ d, owns (c : Thread nD τ) (win2_1.stage (cfg2.slots t 1)) fullShare ((dat2 V c).before 1 t d))
      ∗ (∃ d, owns (c : Thread nD τ) (win2_2.stage (cfg2.slots t 2)) fullShare ((dat2 V c).before 2 t d))
      ∗ (∃ d, owns (c : Thread nD τ) (win2_3.stage (cfg2.slots t 3)) fullShare ((dat2 V c).before 3 t d))
      ∗ (∃ d, owns (c : Thread nD τ) (win2_4.stage (cfg2.slots t 4)) fullShare ((dat2 V c).before 4 t d))
      ∗ (∃ d, owns (c : Thread nD τ) (win2_5.stage (cfg2.slots t 5)) fullShare ((dat2 V c).before 5 t d))
      ∗ (∃ d, owns (c : Thread nD τ) (win2_6.stage (cfg2.slots t 6)) fullShare ((dat2 V c).before 6 t d))
      ∗ (∃ d, owns (c : Thread nD τ) (win2_7.stage (cfg2.slots t 7)) fullShare ((dat2 V c).before 7 t d)))
    ⊢ wp frame (wpE (defs₀ (F := F)) Variants.none c none) Set.univ (bodyAt2 t) (fun _ =>
      iprop((dat2 V c).Φ t.succ ∗ (dat2 V c).owesAt () t.succ ∗ (dat2 V c).leavesExact 0 t ∗ (dat2 V c).leavesExact 1 t ∗ (dat2 V c).leavesExact 2 t ∗ (dat2 V c).leavesExact 3 t ∗ (dat2 V c).leavesExact 4 t ∗ (dat2 V c).leavesExact 5 t ∗ (dat2 V c).leavesExact 6 t ∗ (dat2 V c).leavesExact 7 t)) := by
  unfold bodyAt2
  simp only [before2_0, before2_1, before2_2, before2_3, before2_4, before2_5]
  rw [show (dat2 V c).owesAt () t.succ = (dat2 V c).owesAt () t.castSucc from rfl]
  rw [show (dat2 V c).leavesExact 0 t = owns (c : Thread nD τ) (win2_0.stage (cfg2.slots t 0)) fullShare ((dat2 V c).after 0 t) from by
    unfold Dat.leavesExact; rw [live2_0 t], after2_0]
  rw [show (dat2 V c).leavesExact 1 t = owns (c : Thread nD τ) (win2_1.stage (cfg2.slots t 1)) fullShare ((dat2 V c).after 1 t) from by
    unfold Dat.leavesExact; rw [live2_1 t], after2_1]
  rw [show (dat2 V c).leavesExact 2 t = owns (c : Thread nD τ) (win2_2.stage (cfg2.slots t 2)) fullShare ((dat2 V c).after 2 t) from by
    unfold Dat.leavesExact; rw [live2_2 t], after2_2]
  rw [show (dat2 V c).leavesExact 3 t = owns (c : Thread nD τ) (win2_3.stage (cfg2.slots t 3)) fullShare ((dat2 V c).after 3 t) from by
    unfold Dat.leavesExact; rw [live2_3 t], after2_3]
  rw [show (dat2 V c).leavesExact 4 t = owns (c : Thread nD τ) (win2_4.stage (cfg2.slots t 4)) fullShare ((dat2 V c).after 4 t) from by
    unfold Dat.leavesExact; rw [live2_4 t], after2_4]
  rw [show (dat2 V c).leavesExact 5 t = owns (c : Thread nD τ) (win2_5.stage (cfg2.slots t 5)) fullShare ((dat2 V c).after 5 t) from by
    unfold Dat.leavesExact; rw [live2_5 t], after2_5]
  rw [show (dat2 V c).leavesExact 6 t = owns (c : Thread nD τ) (win2_6.stage (cfg2.slots t 6)) fullShare ((dat2 V c).after 6 t) from by
    unfold Dat.leavesExact; rw [live2_6 t], after2_6]
  rw [show (dat2 V c).leavesExact 7 t = owns (c : Thread nD τ) (win2_7.stage (cfg2.slots t 7)) fullShare ((dat2 V c).after 7 t) from by
    unfold Dat.leavesExact; rw [live2_7 t], after2_7]
  have hN : t.val < 8 := lt_of_lt_of_eq t.isLt (show cfg2.N = 8 from N_2)
  rw [show (dat2 V c).Φ t.succ = Phi2 V c (t.val + 1) from rfl, Phi2_pos V c _ (Nat.succ_ne_zero _), st2_succ,
    show (dat2 V c).Φ t.castSucc = Phi2 V c t.val from rfl]
  by_cases hz : t.val = 0
  · skip
    rw [hz, st2_zero, show Phi2 V c 0 = Pipeline.ΦA spec2 c from rfl, PhiA2_eq]
    iintro ⟨⟨⟨HS0, HB⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2_first c (grid2.coords t) _ _ _ _ _ _ _ _ _ _ _ _ _ _ _ _ _ _ ((first2_iff t).mpr hz) (iblk2 V c 0 t) (iblk2 V c 1 t) (iblk2 V c 2 t) (iblk2 V c 3 t) (iblk2 V c 4 t) (iblk2 V c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 HB Hg]
    · isplitl [HS0]; · iexact HS0
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · rw [Phi2_pos V c _ hz]
    iintro ⟨⟨HS0, HB, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run2_rest c (grid2.coords t) _ _ _ _ _ _ _ _ _ _ _ _ _ _ _ _ _ _ (fun h => hz ((first2_iff t).mp h)) (iblk2 V c 0 t) (iblk2 V c 1 t) (iblk2 V c 2 t) (iblk2 V c 3 t) (iblk2 V c 4 t) (iblk2 V c 5 t) (st2 V c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [HS0]; · iexact HS0
    iintro ⟨H0, H1, H2, H3, H4, H5, H6, H7, HS0⟩
    isplitl [HS0 HB Hg]
    · isplitl [HS0]; · iexact HS0
      isplitl [HB]; · iexact HB
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

theorem row_2 (t : Fin cfg2.N) :
    defs₀ (F := F) .tc cfg2.body (cfg2.bodyArgs t (cfg2.slots t)) = bodyAt2 t := by
  unfold defs₀; rw [Defs.onTc_tc]

/-- The pipeline's body obligation of call 2. -/
theorem obligation2 (c : Dev nD) : BodyObligation (dat2 V c) (defs₀ (F := F)) Variants.none () Set.univ := fun t => by
  rw [bigSep_W2, bigSep_W2, row_2]
  exact triple_restated (sound2 V c t) rfl .rfl fun _ => .rfl

theorem enter2 (c : Dev nD) : Pipeline.ΦA spec2 c ⊢ (dat2 V c).Φ 0 := Idealize.SL.BI.Entails.refl _

theorem leave2 (c : Dev nD) : (dat2 V c).Φ (Fin.last cfg2.N) ⊢ Pipeline.ΦA spec2 c := by
  rw [show (dat2 V c).Φ (Fin.last cfg2.N) = Phi2 V c cfg2.N from rfl, Phi2_pos V c _ (by rw [show cfg2.N = 8 from N_2]; decide), PhiA2_eq]
  iintro ⟨HS0, HB, Hg⟩
  isplitl [HS0 HB]
  · isplitl [HS0]
    · iexists _; iexact HS0
    iexact HB
  iexact Hg

end Cert.KernelIdeal.Calls
-- ==== Proof.SI.R3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.SI.Tools

@[expose] public section

set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The token numbers call 3 writes, from the logits and the mask. -/
def tok3 (x0 : Vec F S8x2048 .f32) (x1 : Vec F S8x2048 .i32) : Vec F S8x2048 .i32 := k3_pay1 (k3_pay2 x0 x1) (Scalar.ofBits .f32 0x00000000#32)

set_option maxHeartbeats 4000000 in
/-- The body of call 3: from its staging buffers at the given contents it runs to the outputs at the functions above. -/
theorem run3_all (c : Dev nD)
    (arg0 : Memref sig .tc .vmem S8x2048 .f32) (harg0 : arg0.IsWhole)
    (arg1 : Memref sig .tc .vmem S8x2048 .i32) (harg1 : arg1.IsWhole)
    (arg2 : Memref sig .tc .vmem S8x2048 .i32) (harg2 : arg2.IsWhole)
    (x0 : Vec F S8x2048 .f32) (x1 : Vec F S8x2048 .i32)
    (E : Set ℕ) (K : PUnit → sProp 𝕄) :
    iprop(owns (c : Thread nD τ) arg0 fullShare x0
      ∗ owns (c : Thread nD τ) arg1 fullShare x1
      ∗ (∃ d, owns (c : Thread nD τ) arg2 fullShare d)
      ∗ (iprop(owns (c : Thread nD τ) arg0 fullShare x0
        ∗ owns (c : Thread nD τ) arg1 fullShare x1
        ∗ owns (c : Thread nD τ) arg2 fullShare (tok3 x0 x1)) -∗ K ⟨⟩))
      ⊢ wp frame (wpE (defs₀ (F := F)) Variants.none c none) E (cc3__kb_boundaries arg0 harg0 arg1 harg1 arg2 harg2) K := by
  simp only [cc3__kb_boundaries_eq_skeleton]; unfold cc3__kb_boundaries_skel
  simp only [k3_part1_eq_skeleton]
  unfold owns
  iintro ⟨⟨%f0, %hf0, H0⟩, ⟨%f1, %hf1, H1⟩, ⟨%d2, %f2, -, H2⟩, Hk⟩
  obtain rfl := harg0.eq_unread hf0; obtain rfl := harg1.eq_unread hf1
  sl_exec
  sl_step
  iapply Hk
  isplitl [H0]
  · iexists _; isplitr [H0]; swap
    · iexact H0
    ipureintro
    exact harg0.read_unread _
  isplitl [H1]
  · iexists _; isplitr [H1]; swap
    · iexact H1
    ipureintro
    exact harg1.read_unread _
  · iexists _; isplitr [H2]; swap
    · iexact H2
    ipureintro
    sl_unfold_run_names
    simp -proj only [View.read_writes_full, View.readAt_full, View.readCov, harg0.read_unread, harg1.read_unread, harg2.read_unread]
    try simp -proj only [load_window, store_put, View.writes_nil, View.read_writes_full, View.readAt_full, harg0.read_unread, harg1.read_unread, harg2.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [tok3]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)

/-! ## Call 3 over the whole grid -/

variable (V : Dev nD → Valuation τ sig (Elt F))

/-- The block of window `w` at point `t`, of the contents the region is entered with. -/
abbrev iblk3 (c : Dev nD) (w : Fin cfg3.W) (t : Fin cfg3.N) :=
  ((cfg3.win w).blk t).view.read (Elt F) (V c (Proc.devRef .tc (Pipeline.arrRef spec3 w)))

/-- The proof data of call 3: every input at its block, the outputs at the functions above. -/
def dat3 (c : Dev nD) : Dat τ (Elt F) Unit ℕ (UR sig nD τ) ℕ cfg3 c where
  A w := V c (Proc.devRef .tc (Pipeline.arrRef spec3 w))
  after w t := match w with
    | ⟨0, _⟩ => iblk3 V c 0 t
    | ⟨1, _⟩ => iblk3 V c 1 t
    | ⟨2, _⟩ => tok3 (iblk3 V c 0 t) (iblk3 V c 1 t)
  Φ t := Pipeline.ΦA spec3 c
  q _ := fullShare
  owed _ := 0

theorem A3_eq (c : Dev nD) (w : Fin cfg3.W) : (dat3 V c).A w = V c (Proc.devRef .tc (Pipeline.arrRef spec3 w)) := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = tok3 (iblk3 V c 0 t) (iblk3 V c 1 t) := by dsimp only [dat3]
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf; rw [A3_eq]; try rfl) t d).trans (by unfold Dat.fetched Dat.blockOf; rw [A3_eq]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf; rw [A3_eq]; try rfl) t d).trans (by unfold Dat.fetched Dat.blockOf; rw [A3_eq]; try rfl)
theorem live3_0 : ∀ t : Fin cfg3.N, cfg3.idle 0 (grid3.coords t) = false := fun _ => rfl
theorem live3_1 : ∀ t : Fin cfg3.N, cfg3.idle 1 (grid3.coords t) = false := fun _ => rfl
theorem live3_2 : ∀ t : Fin cfg3.N, cfg3.idle 2 (grid3.coords t) = false := fun _ => rfl

set_option maxHeartbeats 4800000 in
/-- The body of call 3 at any point, between what the pipeline hands it and what it must return. -/
theorem sound3 (c : Dev nD) (t : Fin cfg3.N) :
    iprop((dat3 V c).Φ t.castSucc ∗ (dat3 V c).owesAt () t.castSucc
      ∗ (∃ d, owns (c : Thread nD τ) (win3_0.stage (cfg3.slots t 0)) fullShare ((dat3 V c).before 0 t d))
      ∗ (∃ d, owns (c : Thread nD τ) (win3_1.stage (cfg3.slots t 1)) fullShare ((dat3 V c).before 1 t d))
      ∗ (∃ d, owns (c : Thread nD τ) (win3_2.stage (cfg3.slots t 2)) fullShare ((dat3 V c).before 2 t d)))
    ⊢ wp frame (wpE (defs₀ (F := F)) Variants.none c none) Set.univ (bodyAt3 t) (fun _ =>
      iprop((dat3 V c).Φ t.succ ∗ (dat3 V c).owesAt () t.succ ∗ (dat3 V c).leavesExact 0 t ∗ (dat3 V c).leavesExact 1 t ∗ (dat3 V c).leavesExact 2 t)) := by
  unfold bodyAt3
  simp only [before3_0, before3_1]
  rw [show (dat3 V c).owesAt () t.succ = (dat3 V c).owesAt () t.castSucc from rfl]
  rw [show (dat3 V c).leavesExact 0 t = owns (c : Thread nD τ) (win3_0.stage (cfg3.slots t 0)) fullShare ((dat3 V c).after 0 t) from by
    unfold Dat.leavesExact; rw [live3_0 t], after3_0]
  rw [show (dat3 V c).leavesExact 1 t = owns (c : Thread nD τ) (win3_1.stage (cfg3.slots t 1)) fullShare ((dat3 V c).after 1 t) from by
    unfold Dat.leavesExact; rw [live3_1 t], after3_1]
  rw [show (dat3 V c).leavesExact 2 t = owns (c : Thread nD τ) (win3_2.stage (cfg3.slots t 2)) fullShare ((dat3 V c).after 2 t) from by
    unfold Dat.leavesExact; rw [live3_2 t], after3_2]
  rw [show (dat3 V c).Φ t.succ = Pipeline.ΦA spec3 c from rfl, show (dat3 V c).Φ t.castSucc = Pipeline.ΦA spec3 c from rfl]
  iintro ⟨HP, Ho, ⟨%d0, H0⟩, ⟨%d1, H1⟩, ⟨%d2, H2⟩⟩
  iapply (run3_all c _ _ _ _ _ _  (iblk3 V c 0 t) (iblk3 V c 1 t) Set.univ _)
  isplitl [H0]; · iexact H0
  isplitl [H1]; · iexact H1
  isplitl [H2]; · iexists _; iexact H2
  iintro ⟨H0, H1, H2⟩
  isplitl [HP]; · iexact HP
  isplitl [Ho]; · iexact Ho
  isplitl [H0]; · iexact H0
  isplitl [H1]; · iexact H1
  iexact H2

theorem row_3 (t : Fin cfg3.N) :
    defs₀ (F := F) .tc cfg3.body (cfg3.bodyArgs t (cfg3.slots t)) = bodyAt3 t := by
  unfold defs₀; rw [Defs.onTc_tc]

/-- The pipeline's body obligation of call 3. -/
theorem obligation3 (c : Dev nD) : BodyObligation (dat3 V c) (defs₀ (F := F)) Variants.none () Set.univ := fun t => by
  rw [bigSep_W3, bigSep_W3, row_3]
  exact triple_restated (sound3 V c t) rfl .rfl fun _ => .rfl

theorem enter3 (c : Dev nD) : Pipeline.ΦA spec3 c ⊢ (dat3 V c).Φ 0 := Idealize.SL.BI.Entails.refl _

theorem leave3 (c : Dev nD) : (dat3 V c).Φ (Fin.last cfg3.N) ⊢ Pipeline.ΦA spec3 c := Idealize.SL.BI.Entails.refl _

end Cert.KernelIdeal.Calls
-- ==== Proof.SI.R4.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow
public import proofs.«01_k».proof.Proof.SI.Tools

@[expose] public section

set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rows call 4 writes at the point of coordinates `i`. -/
def row4 (i : grid4.Coords) (x0 : Vec F S1x2048x256 .f32) (x1 : Vec F S1x1x2048 .i32) (x2 : Vec F S256x768 .f32) (x3 : Vec F S1x768 .f32) (x4 : Vec F S1x768 .f32) (x5 : Vec F S1x768 .f32) : Vec F S1x256x768 .f32 := k4_pay1 (k4_pay2 i x0 x1 x2 x3) (k4_pay3 i x0 x1 x2 x3) x4 x5

set_option maxHeartbeats 4000000 in
/-- The body of call 4: from its staging buffers at the given contents it runs to the outputs at the functions above. -/
theorem run4_all (c : Dev nD) (i : grid4.Coords)
    (arg2 : Memref sig .tc .vmem S1x2048x256 .f32) (harg2 : arg2.IsWhole)
    (arg3 : Memref sig .tc .vmem S1x1x2048 .i32) (harg3 : arg3.IsWhole)
    (arg4 : Memref sig .tc .vmem S256x768 .f32) (harg4 : arg4.IsWhole)
    (arg5 : Memref sig .tc .vmem S1x768 .f32) (harg5 : arg5.IsWhole)
    (arg6 : Memref sig .tc .vmem S1x768 .f32) (harg6 : arg6.IsWhole)
    (arg7 : Memref sig .tc .vmem S1x768 .f32) (harg7 : arg7.IsWhole)
    (arg8 : Memref sig .tc .vmem S1x256x768 .f32) (harg8 : arg8.IsWhole)
    (x0 : Vec F S1x2048x256 .f32) (x1 : Vec F S1x1x2048 .i32) (x2 : Vec F S256x768 .f32) (x3 : Vec F S1x768 .f32) (x4 : Vec F S1x768 .f32) (x5 : Vec F S1x768 .f32)
    (E : Set ℕ) (K : PUnit → sProp 𝕄) :
    iprop(owns (c : Thread nD τ) arg2 fullShare x0
      ∗ owns (c : Thread nD τ) arg3 fullShare x1
      ∗ owns (c : Thread nD τ) arg4 fullShare x2
      ∗ owns (c : Thread nD τ) arg5 fullShare x3
      ∗ owns (c : Thread nD τ) arg6 fullShare x4
      ∗ owns (c : Thread nD τ) arg7 fullShare x5
      ∗ (∃ d, owns (c : Thread nD τ) arg8 fullShare d)
      ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare (row4 i x0 x1 x2 x3 x4 x5)) -∗ K ⟨⟩))
      ⊢ wp frame (wpE (defs₀ (F := F)) Variants.none c none) E (cc4__k4_pool_proj_ln i arg2 harg2 arg3 harg3 arg4 harg4 arg5 harg5 arg6 harg6 arg7 harg7 arg8 harg8) K := by
  simp only [cc4__k4_pool_proj_ln_eq_skeleton]; unfold cc4__k4_pool_proj_ln_skel
  simp only [k4_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  sl_step
  iapply Hk
  isplitl [H0]
  · iexists _; isplitr [H0]; swap
    · iexact H0
    ipureintro
    exact harg2.read_unread _
  isplitl [H1]
  · iexists _; isplitr [H1]; swap
    · iexact H1
    ipureintro
    exact harg3.read_unread _
  isplitl [H2]
  · iexists _; isplitr [H2]; swap
    · iexact H2
    ipureintro
    exact harg4.read_unread _
  isplitl [H3]
  · iexists _; isplitr [H3]; swap
    · iexact H3
    ipureintro
    exact harg5.read_unread _
  isplitl [H4]
  · iexists _; isplitr [H4]; swap
    · iexact H4
    ipureintro
    exact harg6.read_unread _
  isplitl [H5]
  · iexists _; isplitr [H5]; swap
    · iexact H5
    ipureintro
    exact harg7.read_unread _
  · iexists _; isplitr [H6]; swap
    · iexact H6
    ipureintro
    sl_unfold_run_names
    simp -proj only [View.read_writes_full, View.readAt_full, View.readCov, harg2.read_unread, harg3.read_unread, harg4.read_unread, harg5.read_unread, harg6.read_unread, harg7.read_unread, harg8.read_unread]
    try simp -proj only [load_window, store_put, View.writes_nil, View.read_writes_full, View.readAt_full, harg2.read_unread, harg3.read_unread, harg4.read_unread, harg5.read_unread, harg6.read_unread, harg7.read_unread, harg8.read_unread]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    try simp -proj only [row4]
    try simp -proj only [put_all, window_all, row1_put0, put_all_S1x2048x256, window_all_S1x2048x256, put_lit_S1x2048x256, window_lit_S1x2048x256, put_all_S1x2048x1, window_all_S1x2048x1, put_lit_S1x2048x1, window_lit_S1x2048x1, put_all_S2048x256, window_all_S2048x256, put_lit_S2048x256, window_lit_S2048x256, put_all_S8x2048, window_all_S8x2048, put_lit_S8x2048, window_lit_S8x2048, put_all_S1x256x768, window_all_S1x256x768, put_lit_S1x256x768, window_lit_S1x256x768, put_all_S256x256, window_all_S256x256, put_lit_S256x256, window_lit_S256x256, put_all_S256x1, window_all_S256x1, put_lit_S256x1, window_lit_S256x1, put_all_S1x256, window_all_S1x256, put_lit_S1x256, window_lit_S1x256, put_all_S1x1, window_all_S1x1, put_lit_S1x1, window_lit_S1x1, put_all_S1x768, window_all_S1x768, put_lit_S1x768, window_lit_S1x768, put_all_S256x768, window_all_S256x768, put_lit_S256x768, window_lit_S256x768, put_all_S1x1x2048, window_all_S1x1x2048, put_lit_S1x1x2048, window_lit_S1x1x2048, put_all_S128x256, window_all_S128x256, put_lit_S128x256, window_lit_S128x256, put_all_S256x128, window_all_S256x128, put_lit_S256x128, window_lit_S256x128, put_lit, window_lit, row1_put0_lit]
    first | done | rfl | exact (put_all _ _).trans (window_all _ _)

/-! ## Call 4 over the whole grid -/

variable (V : Dev nD → Valuation τ sig (Elt F))

/-- The block of window `w` at point `t`, of the contents the region is entered with. -/
abbrev iblk4 (c : Dev nD) (w : Fin cfg4.W) (t : Fin cfg4.N) :=
  ((cfg4.win w).blk t).view.read (Elt F) (V c (Proc.devRef .tc (Pipeline.arrRef spec4 w)))

/-- The proof data of call 4: every input at its block, the outputs at the functions above. -/
def dat4 (c : Dev nD) : Dat τ (Elt F) Unit ℕ (UR sig nD τ) ℕ cfg4 c where
  A w := V c (Proc.devRef .tc (Pipeline.arrRef spec4 w))
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => row4 (grid4.coords t) (iblk4 V c 0 t) (iblk4 V c 1 t) (iblk4 V c 2 t) (iblk4 V c 3 t) (iblk4 V c 4 t) (iblk4 V c 5 t)
  Φ t := Pipeline.ΦA spec4 c
  q _ := fullShare
  owed _ := 0

theorem A4_eq (c : Dev nD) (w : Fin cfg4.W) : (dat4 V c).A w = V c (Proc.devRef .tc (Pipeline.arrRef spec4 w)) := by dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = row4 (grid4.coords t) (iblk4 V c 0 t) (iblk4 V c 1 t) (iblk4 V c 2 t) (iblk4 V c 3 t) (iblk4 V c 4 t) (iblk4 V c 5 t) := by dsimp only [dat4]
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf; rw [A4_eq]; try rfl) t d).trans (by unfold Dat.fetched Dat.blockOf; rw [A4_eq]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf; rw [A4_eq]; try rfl) t d).trans (by unfold Dat.fetched Dat.blockOf; rw [A4_eq]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf; rw [A4_eq]; try rfl) t d).trans (by unfold Dat.fetched Dat.blockOf; rw [A4_eq]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf; rw [A4_eq]; try rfl) t d).trans (by unfold Dat.fetched Dat.blockOf; rw [A4_eq]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf; rw [A4_eq]; try rfl) t d).trans (by unfold Dat.fetched Dat.blockOf; rw [A4_eq]; try rfl)
theorem before4_5 (c : Dev nD) (t : Fin cfg4.N) (d) : (dat4 V c).before 5 t d = iblk4 V c 5 t :=
  ((dat4 V c).before_in_eq_fetched 5 rfl (fun _ => rfl) (fun _ _ _ => rfl) (fun t => by rw [after4_5]; unfold Dat.blockOf; rw [A4_eq]; try rfl) t d).trans (by unfold Dat.fetched Dat.blockOf; rw [A4_eq]; try rfl)
theorem live4_0 : ∀ t : Fin cfg4.N, cfg4.idle 0 (grid4.coords t) = false := fun _ => rfl
theorem live4_1 : ∀ t : Fin cfg4.N, cfg4.idle 1 (grid4.coords t) = false := fun _ => rfl
theorem live4_2 : ∀ t : Fin cfg4.N, cfg4.idle 2 (grid4.coords t) = false := fun _ => rfl
theorem live4_3 : ∀ t : Fin cfg4.N, cfg4.idle 3 (grid4.coords t) = false := fun _ => rfl
theorem live4_4 : ∀ t : Fin cfg4.N, cfg4.idle 4 (grid4.coords t) = false := fun _ => rfl
theorem live4_5 : ∀ t : Fin cfg4.N, cfg4.idle 5 (grid4.coords t) = false := fun _ => rfl
theorem live4_6 : ∀ t : Fin cfg4.N, cfg4.idle 6 (grid4.coords t) = false := fun _ => rfl

set_option maxHeartbeats 4800000 in
/-- The body of call 4 at any point, between what the pipeline hands it and what it must return. -/
theorem sound4 (c : Dev nD) (t : Fin cfg4.N) :
    iprop((dat4 V c).Φ t.castSucc ∗ (dat4 V c).owesAt () t.castSucc
      ∗ (∃ d, owns (c : Thread nD τ) (win4_0.stage (cfg4.slots t 0)) fullShare ((dat4 V c).before 0 t d))
      ∗ (∃ d, owns (c : Thread nD τ) (win4_1.stage (cfg4.slots t 1)) fullShare ((dat4 V c).before 1 t d))
      ∗ (∃ d, owns (c : Thread nD τ) (win4_2.stage (cfg4.slots t 2)) fullShare ((dat4 V c).before 2 t d))
      ∗ (∃ d, owns (c : Thread nD τ) (win4_3.stage (cfg4.slots t 3)) fullShare ((dat4 V c).before 3 t d))
      ∗ (∃ d, owns (c : Thread nD τ) (win4_4.stage (cfg4.slots t 4)) fullShare ((dat4 V c).before 4 t d))
      ∗ (∃ d, owns (c : Thread nD τ) (win4_5.stage (cfg4.slots t 5)) fullShare ((dat4 V c).before 5 t d))
      ∗ (∃ d, owns (c : Thread nD τ) (win4_6.stage (cfg4.slots t 6)) fullShare ((dat4 V c).before 6 t d)))
    ⊢ wp frame (wpE (defs₀ (F := F)) Variants.none c none) Set.univ (bodyAt4 t) (fun _ =>
      iprop((dat4 V c).Φ t.succ ∗ (dat4 V c).owesAt () t.succ ∗ (dat4 V c).leavesExact 0 t ∗ (dat4 V c).leavesExact 1 t ∗ (dat4 V c).leavesExact 2 t ∗ (dat4 V c).leavesExact 3 t ∗ (dat4 V c).leavesExact 4 t ∗ (dat4 V c).leavesExact 5 t ∗ (dat4 V c).leavesExact 6 t)) := by
  unfold bodyAt4
  simp only [before4_0, before4_1, before4_2, before4_3, before4_4, before4_5]
  rw [show (dat4 V c).owesAt () t.succ = (dat4 V c).owesAt () t.castSucc from rfl]
  rw [show (dat4 V c).leavesExact 0 t = owns (c : Thread nD τ) (win4_0.stage (cfg4.slots t 0)) fullShare ((dat4 V c).after 0 t) from by
    unfold Dat.leavesExact; rw [live4_0 t], after4_0]
  rw [show (dat4 V c).leavesExact 1 t = owns (c : Thread nD τ) (win4_1.stage (cfg4.slots t 1)) fullShare ((dat4 V c).after 1 t) from by
    unfold Dat.leavesExact; rw [live4_1 t], after4_1]
  rw [show (dat4 V c).leavesExact 2 t = owns (c : Thread nD τ) (win4_2.stage (cfg4.slots t 2)) fullShare ((dat4 V c).after 2 t) from by
    unfold Dat.leavesExact; rw [live4_2 t], after4_2]
  rw [show (dat4 V c).leavesExact 3 t = owns (c : Thread nD τ) (win4_3.stage (cfg4.slots t 3)) fullShare ((dat4 V c).after 3 t) from by
    unfold Dat.leavesExact; rw [live4_3 t], after4_3]
  rw [show (dat4 V c).leavesExact 4 t = owns (c : Thread nD τ) (win4_4.stage (cfg4.slots t 4)) fullShare ((dat4 V c).after 4 t) from by
    unfold Dat.leavesExact; rw [live4_4 t], after4_4]
  rw [show (dat4 V c).leavesExact 5 t = owns (c : Thread nD τ) (win4_5.stage (cfg4.slots t 5)) fullShare ((dat4 V c).after 5 t) from by
    unfold Dat.leavesExact; rw [live4_5 t], after4_5]
  rw [show (dat4 V c).leavesExact 6 t = owns (c : Thread nD τ) (win4_6.stage (cfg4.slots t 6)) fullShare ((dat4 V c).after 6 t) from by
    unfold Dat.leavesExact; rw [live4_6 t], after4_6]
  rw [show (dat4 V c).Φ t.succ = Pipeline.ΦA spec4 c from rfl, show (dat4 V c).Φ t.castSucc = Pipeline.ΦA spec4 c from rfl]
  iintro ⟨HP, Ho, ⟨%d0, H0⟩, ⟨%d1, H1⟩, ⟨%d2, H2⟩, ⟨%d3, H3⟩, ⟨%d4, H4⟩, ⟨%d5, H5⟩, ⟨%d6, H6⟩⟩
  iapply (run4_all c (grid4.coords t) _ _ _ _ _ _ _ _ _ _ _ _ _ _  (iblk4 V c 0 t) (iblk4 V c 1 t) (iblk4 V c 2 t) (iblk4 V c 3 t) (iblk4 V c 4 t) (iblk4 V c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HP]; · iexact HP
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem row_4 (t : Fin cfg4.N) :
    defs₀ (F := F) .tc cfg4.body (cfg4.bodyArgs t (cfg4.slots t)) = bodyAt4 t := by
  unfold defs₀; rw [Defs.onTc_tc]

/-- The pipeline's body obligation of call 4. -/
theorem obligation4 (c : Dev nD) : BodyObligation (dat4 V c) (defs₀ (F := F)) Variants.none () Set.univ := fun t => by
  rw [bigSep_W4, bigSep_W4, row_4]
  exact triple_restated (sound4 V c t) rfl .rfl fun _ => .rfl

theorem enter4 (c : Dev nD) : Pipeline.ΦA spec4 c ⊢ (dat4 V c).Φ 0 := Idealize.SL.BI.Entails.refl _

theorem leave4 (c : Dev nD) : (dat4 V c).Φ (Fin.last cfg4.N) ⊢ Pipeline.ΦA spec4 c := Idealize.SL.BI.Entails.refl _

end Cert.KernelIdeal.Calls
-- ==== Proof.SI.Segs.lean ====
module

public import proofs.«01_k».proof.Proof.Gen.KernelIdeal.Regions
public import proofs.«01_k».proof.Proof.SI.R0
public import proofs.«01_k».proof.Proof.SI.R1
public import proofs.«01_k».proof.Proof.SI.R2
public import proofs.«01_k».proof.Proof.SI.R3
public import proofs.«01_k».proof.Proof.SI.R4
public import Idealize.ShloMosaic.Lib.Pipeline.RegionArraysS
public import Idealize.ShloMosaic.Lib.Pipeline.FrameTail
public import Idealize.ShloMosaic.Lib.Pipeline.Regions

@[expose] public section

set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-! ## What the buffers hold between the items of the program -/

/-- At launch. -/
def W0 (c : Dev nD) : Valuation τ sig (Elt F) := fun b => m (c, b)
/-- After the first host stretch. -/
def W1 (c : Dev nD) : Valuation τ sig (Elt F) := StableHlo.after hostOps0 (W0 m c)
/-- After call 0. -/
def W2 (c : Dev nD) : Valuation τ sig (Elt F) := Pipeline.afterRegion (dat0 (W1 m) c) (W1 m c)
/-- After call 1. -/
def W3 (c : Dev nD) : Valuation τ sig (Elt F) := Pipeline.afterRegion (dat1 (W2 m) c) (W2 m c)
/-- After call 2. -/
def W4 (c : Dev nD) : Valuation τ sig (Elt F) := Pipeline.afterRegion (dat2 (W3 m) c) (W3 m c)
/-- After the host stretch before call 3. -/
def W5 (c : Dev nD) : Valuation τ sig (Elt F) := StableHlo.after hostOps3 (W4 m c)
/-- After call 3. -/
def W6 (c : Dev nD) : Valuation τ sig (Elt F) := Pipeline.afterRegion (dat3 (W5 m) c) (W5 m c)
/-- After the host stretch before call 4. -/
def W7 (c : Dev nD) : Valuation τ sig (Elt F) := StableHlo.after hostOps4 (W6 m c)
/-- After call 4. -/
def W8 (c : Dev nD) : Valuation τ sig (Elt F) := Pipeline.afterRegion (dat4 (W7 m) c) (W7 m c)

/-- The first host stretch leaves every buffer it does not write. -/
theorem W1_of (c : Dev nD) (r : Ref sig .tc) (h : r ∉ hostOps0_W) : W1 m c r = W0 m c r :=
  StableHlo.after_of_writes_sub hostOps0 _ hostOps0_writes h
/-- Call 0 leaves every buffer that is no result of it. -/
theorem W2_of (c : Dev nD) (r : Ref sig .tc) (h : r ∉ ([main_v11_0, main_v11_1] : List (Ref sig .tc))) : W2 m c r = W1 m c r :=
  Pipeline.afterRegion_keeps (dat0 (W1 m) c) (W1 m c) launch0.win.arr_inj (A0_eq (W1 m) c) r fun w => match w with
    | ⟨0, _⟩ => fun e => rfl
    | ⟨1, _⟩ => fun e => rfl
    | ⟨2, _⟩ => fun e => rfl
    | ⟨3, _⟩ => fun e => rfl
    | ⟨4, _⟩ => fun e => absurd (e ▸ (by simp : main_v11_0 ∈ ([main_v11_0, main_v11_1] : List (Ref sig .tc)))) h
    | ⟨5, _⟩ => fun e => absurd (e ▸ (by simp : main_v11_1 ∈ ([main_v11_0, main_v11_1] : List (Ref sig .tc)))) h
/-- What call 0 leaves in its result main_v11_0. -/
theorem W2_main_v11_0 (c : Dev nD) : W2 m c (Proc.devRef .tc (Pipeline.arrRef spec0 4)) = (dat0 (W1 m) c).arrAt 4 cfg0.N :=
  Pipeline.afterRegion_arr (dat0 (W1 m) c) (W1 m c) launch0.win.arr_inj 4
/-- What call 0 leaves in its result main_v11_1. -/
theorem W2_main_v11_1 (c : Dev nD) : W2 m c (Proc.devRef .tc (Pipeline.arrRef spec0 5)) = (dat0 (W1 m) c).arrAt 5 cfg0.N :=
  Pipeline.afterRegion_arr (dat0 (W1 m) c) (W1 m c) launch0.win.arr_inj 5
/-- Call 1 leaves every buffer that is no result of it. -/
theorem W3_of (c : Dev nD) (r : Ref sig .tc) (h : r ∉ ([main_v12_0, main_v12_1] : List (Ref sig .tc))) : W3 m c r = W2 m c r :=
  Pipeline.afterRegion_keeps (dat1 (W2 m) c) (W2 m c) launch1.win.arr_inj (A1_eq (W2 m) c) r fun w => match w with
    | ⟨0, _⟩ => fun e => rfl
    | ⟨1, _⟩ => fun e => rfl
    | ⟨2, _⟩ => fun e => rfl
    | ⟨3, _⟩ => fun e => rfl
    | ⟨4, _⟩ => fun e => rfl
    | ⟨5, _⟩ => fun e => rfl
    | ⟨6, _⟩ => fun e => absurd (e ▸ (by simp : main_v12_0 ∈ ([main_v12_0, main_v12_1] : List (Ref sig .tc)))) h
    | ⟨7, _⟩ => fun e => absurd (e ▸ (by simp : main_v12_1 ∈ ([main_v12_0, main_v12_1] : List (Ref sig .tc)))) h
/-- What call 1 leaves in its result main_v12_0. -/
theorem W3_main_v12_0 (c : Dev nD) : W3 m c (Proc.devRef .tc (Pipeline.arrRef spec1 6)) = (dat1 (W2 m) c).arrAt 6 cfg1.N :=
  Pipeline.afterRegion_arr (dat1 (W2 m) c) (W2 m c) launch1.win.arr_inj 6
/-- What call 1 leaves in its result main_v12_1. -/
theorem W3_main_v12_1 (c : Dev nD) : W3 m c (Proc.devRef .tc (Pipeline.arrRef spec1 7)) = (dat1 (W2 m) c).arrAt 7 cfg1.N :=
  Pipeline.afterRegion_arr (dat1 (W2 m) c) (W2 m c) launch1.win.arr_inj 7
/-- Call 2 leaves every buffer that is no result of it. -/
theorem W4_of (c : Dev nD) (r : Ref sig .tc) (h : r ∉ ([main_v13_0, main_v13_1] : List (Ref sig .tc))) : W4 m c r = W3 m c r :=
  Pipeline.afterRegion_keeps (dat2 (W3 m) c) (W3 m c) launch2.win.arr_inj (A2_eq (W3 m) c) r fun w => match w with
    | ⟨0, _⟩ => fun e => rfl
    | ⟨1, _⟩ => fun e => rfl
    | ⟨2, _⟩ => fun e => rfl
    | ⟨3, _⟩ => fun e => rfl
    | ⟨4, _⟩ => fun e => rfl
    | ⟨5, _⟩ => fun e => rfl
    | ⟨6, _⟩ => fun e => absurd (e ▸ (by simp : main_v13_0 ∈ ([main_v13_0, main_v13_1] : List (Ref sig .tc)))) h
    | ⟨7, _⟩ => fun e => absurd (e ▸ (by simp : main_v13_1 ∈ ([main_v13_0, main_v13_1] : List (Ref sig .tc)))) h
/-- What call 2 leaves in its result main_v13_0. -/
theorem W4_main_v13_0 (c : Dev nD) : W4 m c (Proc.devRef .tc (Pipeline.arrRef spec2 6)) = (dat2 (W3 m) c).arrAt 6 cfg2.N :=
  Pipeline.afterRegion_arr (dat2 (W3 m) c) (W3 m c) launch2.win.arr_inj 6
/-- What call 2 leaves in its result main_v13_1. -/
theorem W4_main_v13_1 (c : Dev nD) : W4 m c (Proc.devRef .tc (Pipeline.arrRef spec2 7)) = (dat2 (W3 m) c).arrAt 7 cfg2.N :=
  Pipeline.afterRegion_arr (dat2 (W3 m) c) (W3 m c) launch2.win.arr_inj 7
/-- The host stretch leaves every buffer it does not write. -/
theorem W5_of (c : Dev nD) (r : Ref sig .tc) (h : r ∉ hostOps3_W) : W5 m c r = W4 m c r :=
  StableHlo.after_of_writes_sub hostOps3 _ hostOps3_writes h
/-- Call 3 leaves every buffer that is no result of it. -/
theorem W6_of (c : Dev nD) (r : Ref sig .tc) (h : r ∉ ([main_v15] : List (Ref sig .tc))) : W6 m c r = W5 m c r :=
  Pipeline.afterRegion_keeps (dat3 (W5 m) c) (W5 m c) launch3.win.arr_inj (A3_eq (W5 m) c) r fun w => match w with
    | ⟨0, _⟩ => fun e => rfl
    | ⟨1, _⟩ => fun e => rfl
    | ⟨2, _⟩ => fun e => absurd (e ▸ (by simp : main_v15 ∈ ([main_v15] : List (Ref sig .tc)))) h
/-- What call 3 leaves in its result main_v15. -/
theorem W6_main_v15 (c : Dev nD) : W6 m c (Proc.devRef .tc (Pipeline.arrRef spec3 2)) = (dat3 (W5 m) c).arrAt 2 cfg3.N :=
  Pipeline.afterRegion_arr (dat3 (W5 m) c) (W5 m c) launch3.win.arr_inj 2
/-- The host stretch leaves every buffer it does not write. -/
theorem W7_of (c : Dev nD) (r : Ref sig .tc) (h : r ∉ hostOps4_W) : W7 m c r = W6 m c r :=
  StableHlo.after_of_writes_sub hostOps4 _ hostOps4_writes h
/-- Call 4 leaves every buffer that is no result of it. -/
theorem W8_of (c : Dev nD) (r : Ref sig .tc) (h : r ∉ ([main_v17] : List (Ref sig .tc))) : W8 m c r = W7 m c r :=
  Pipeline.afterRegion_keeps (dat4 (W7 m) c) (W7 m c) launch4.win.arr_inj (A4_eq (W7 m) c) r fun w => match w with
    | ⟨0, _⟩ => fun e => rfl
    | ⟨1, _⟩ => fun e => rfl
    | ⟨2, _⟩ => fun e => rfl
    | ⟨3, _⟩ => fun e => rfl
    | ⟨4, _⟩ => fun e => rfl
    | ⟨5, _⟩ => fun e => rfl
    | ⟨6, _⟩ => fun e => absurd (e ▸ (by simp : main_v17 ∈ ([main_v17] : List (Ref sig .tc)))) h
/-- What call 4 leaves in its result main_v17. -/
theorem W8_main_v17 (c : Dev nD) : W8 m c (Proc.devRef .tc (Pipeline.arrRef spec4 6)) = (dat4 (W7 m) c).arrAt 6 cfg4.N :=
  Pipeline.afterRegion_arr (dat4 (W7 m) c) (W7 m c) launch4.win.arr_inj 6

/-- A buffer that no item writes reaches the end as launched. -/
theorem W8_of_unwritten (c : Dev nD) (r : Ref sig .tc) (h : r ∉ hostOps0_W ++ [main_v11_0, main_v11_1] ++ [main_v12_0, main_v12_1] ++ [main_v13_0, main_v13_1] ++ hostOps3_W ++ [main_v15] ++ hostOps4_W ++ [main_v17]) :
    W8 m c r = m ((c : Thread nD τ).loc r) := by
  simp only [List.mem_append, not_or] at h
  obtain ⟨⟨⟨⟨⟨⟨⟨h1, h2⟩, h3⟩, h4⟩, h5⟩, h6⟩, h7⟩, h8⟩ := h
  exact (W8_of m c r h8).trans <| (W7_of m c r h7).trans <| (W6_of m c r h6).trans <| (W5_of m c r h5).trans <| (W4_of m c r h4).trans <| (W3_of m c r h3).trans <| (W2_of m c r h2).trans <| (W1_of m c r h1).trans rfl

/-! ## The regions as segments -/

/-- The proof data of the five calls, each entered at what the buffers hold by then. -/
def pdats : (p : Fin 5) → (c : Dev nD) → Dat τ (Elt F) Unit ℕ (UR sig nD τ) ℕ (cfgs p) c
  | ⟨0, _⟩ => dat0 (W1 m)
  | ⟨1, _⟩ => dat1 (W2 m)
  | ⟨2, _⟩ => dat2 (W3 m)
  | ⟨3, _⟩ => dat3 (W5 m)
  | ⟨4, _⟩ => dat4 (W7 m)

/-- The one index of the staging cells, at every TensorCore cell. -/
def lev (g : GSem nD τ sig) : Finset Unit := if g.1.2 = .tc then {()} else ∅

abbrev rest (c : Dev nD) : sProp 𝕄 := iprop((∃ Wd, owes (c : Thread nD τ) (0 : CellTallies nD τ sig Unit) Wd) ∗ (∃ r, prngReg c r) ∗ emp)

theorem levelCut (p : Fin 5) : Pipeline.LevelCut (nD := nD) (τ := τ) (pcfgs (F := F)) adm () lev (fun _ _ => (0 : ℕ)) p (fun _ => 0) (fun _ => 0) where
  hι _ _ _ := by unfold lev; rw [if_pos rfl]; exact Finset.mem_singleton_self _
  hιb _ _ _ := le_refl _
  hD _ _ _ h := absurd h (lt_irrefl _)

set_option maxHeartbeats 4000000 in
/-- Call 0 as a segment: entered from every unscoped buffer at `W1`, left at `W2`. -/
def reg0 : RegionSeg (pcfgs (F := F)) adm (pdats m) () defs₀ Variants.none lev (fun _ _ => (0 : ℕ)) 0 :=
  RegionSeg.ofHeldIn (pcfgs (F := F)) adm (pdats m) () defs₀ Variants.none lev (fun _ _ => (0 : ℕ)) 0 (fun _ => 0) (Pipeline.ucRefs τ sig)
    (fun c => iprop(∃ r, prngReg c r)) (fun c => iprop(∃ r, prngReg c r)) launch0.toP rfl
    (fun c => (obligation0 (W1 m) c).loose) (fun _ _ => rfl) (fun _ => rfl) (fun c w => (pdats m 0 c).share_full (fun _ => rfl) w)
    (fun c => enter0 (W1 m) c) (fun c => leave0 (W1 m) c) (fun _ => 0) (levelCut 0) (fun _ => iprop(emp)) (W1 m)
    (fun c w => A0_eq (W1 m) c w)

set_option maxHeartbeats 400000 in
theorem reg0_pre (c : Dev nD) : iprop(StableHlo.held (c : Thread nD τ) (Pipeline.ucRefs τ sig) (W1 m c) ∗ rest c) ⊢ (reg0 m).pre c := by
  unfold reg0
  exact RegionSeg.ofHeldIn_pre (pcs := pcfgs (F := F)) (a := adm) (pdats := pdats m) (ι := ()) (defs₀ := defs₀) (𝒱₀ := Variants.none) (L := lev) (lv := fun _ _ => (0 : ℕ)) (p := 0) (D := fun _ => 0)
    (S := Pipeline.ucRefs τ sig) (X := fun c => iprop(∃ r, prngReg c r)) (Y := fun c => iprop(∃ r, prngReg c r)) (R := fun _ => iprop(emp)) (W := W1 m) (Pipeline.arrRefs_sub_ucRefs _ launch0.win.arr_unscoped) c

set_option maxHeartbeats 400000 in
theorem reg0_post (c : Dev nD) : (reg0 m).post c ⊢ iprop(StableHlo.held (c : Thread nD τ) (Pipeline.ucRefs τ sig) (W2 m c) ∗ rest c) := by
  unfold reg0 W2
  exact RegionSeg.ofHeldIn_post (Pipeline.arrRefs_sub_ucRefs _ launch0.win.arr_unscoped) c

set_option maxHeartbeats 4000000 in
/-- Call 1 as a segment: entered from every unscoped buffer at `W2`, left at `W3`. -/
def reg1 : RegionSeg (pcfgs (F := F)) adm (pdats m) () defs₀ Variants.none lev (fun _ _ => (0 : ℕ)) 1 :=
  RegionSeg.ofHeldIn (pcfgs (F := F)) adm (pdats m) () defs₀ Variants.none lev (fun _ _ => (0 : ℕ)) 1 (fun _ => 0) (Pipeline.ucRefs τ sig)
    (fun c => iprop(∃ r, prngReg c r)) (fun c => iprop(∃ r, prngReg c r)) launch1.toP rfl
    (fun c => (obligation1 (W2 m) c).loose) (fun _ _ => rfl) (fun _ => rfl) (fun c w => (pdats m 1 c).share_full (fun _ => rfl) w)
    (fun c => enter1 (W2 m) c) (fun c => leave1 (W2 m) c) (fun _ => 0) (levelCut 1) (fun _ => iprop(emp)) (W2 m)
    (fun c w => A1_eq (W2 m) c w)

set_option maxHeartbeats 400000 in
theorem reg1_pre (c : Dev nD) : iprop(StableHlo.held (c : Thread nD τ) (Pipeline.ucRefs τ sig) (W2 m c) ∗ rest c) ⊢ (reg1 m).pre c := by
  unfold reg1
  exact RegionSeg.ofHeldIn_pre (pcs := pcfgs (F := F)) (a := adm) (pdats := pdats m) (ι := ()) (defs₀ := defs₀) (𝒱₀ := Variants.none) (L := lev) (lv := fun _ _ => (0 : ℕ)) (p := 1) (D := fun _ => 0)
    (S := Pipeline.ucRefs τ sig) (X := fun c => iprop(∃ r, prngReg c r)) (Y := fun c => iprop(∃ r, prngReg c r)) (R := fun _ => iprop(emp)) (W := W2 m) (Pipeline.arrRefs_sub_ucRefs _ launch1.win.arr_unscoped) c

set_option maxHeartbeats 400000 in
theorem reg1_post (c : Dev nD) : (reg1 m).post c ⊢ iprop(StableHlo.held (c : Thread nD τ) (Pipeline.ucRefs τ sig) (W3 m c) ∗ rest c) := by
  unfold reg1 W3
  exact RegionSeg.ofHeldIn_post (Pipeline.arrRefs_sub_ucRefs _ launch1.win.arr_unscoped) c

set_option maxHeartbeats 4000000 in
/-- Call 2 as a segment: entered from every unscoped buffer at `W3`, left at `W4`. -/
def reg2 : RegionSeg (pcfgs (F := F)) adm (pdats m) () defs₀ Variants.none lev (fun _ _ => (0 : ℕ)) 2 :=
  RegionSeg.ofHeldIn (pcfgs (F := F)) adm (pdats m) () defs₀ Variants.none lev (fun _ _ => (0 : ℕ)) 2 (fun _ => 0) (Pipeline.ucRefs τ sig)
    (fun c => iprop(∃ r, prngReg c r)) (fun c => iprop(∃ r, prngReg c r)) launch2.toP rfl
    (fun c => (obligation2 (W3 m) c).loose) (fun _ _ => rfl) (fun _ => rfl) (fun c w => (pdats m 2 c).share_full (fun _ => rfl) w)
    (fun c => enter2 (W3 m) c) (fun c => leave2 (W3 m) c) (fun _ => 0) (levelCut 2) (fun _ => iprop(emp)) (W3 m)
    (fun c w => A2_eq (W3 m) c w)

set_option maxHeartbeats 400000 in
theorem reg2_pre (c : Dev nD) : iprop(StableHlo.held (c : Thread nD τ) (Pipeline.ucRefs τ sig) (W3 m c) ∗ rest c) ⊢ (reg2 m).pre c := by
  unfold reg2
  exact RegionSeg.ofHeldIn_pre (pcs := pcfgs (F := F)) (a := adm) (pdats := pdats m) (ι := ()) (defs₀ := defs₀) (𝒱₀ := Variants.none) (L := lev) (lv := fun _ _ => (0 : ℕ)) (p := 2) (D := fun _ => 0)
    (S := Pipeline.ucRefs τ sig) (X := fun c => iprop(∃ r, prngReg c r)) (Y := fun c => iprop(∃ r, prngReg c r)) (R := fun _ => iprop(emp)) (W := W3 m) (Pipeline.arrRefs_sub_ucRefs _ launch2.win.arr_unscoped) c

set_option maxHeartbeats 400000 in
theorem reg2_post (c : Dev nD) : (reg2 m).post c ⊢ iprop(StableHlo.held (c : Thread nD τ) (Pipeline.ucRefs τ sig) (W4 m c) ∗ rest c) := by
  unfold reg2 W4
  exact RegionSeg.ofHeldIn_post (Pipeline.arrRefs_sub_ucRefs _ launch2.win.arr_unscoped) c

set_option maxHeartbeats 4000000 in
/-- Call 3 as a segment: entered from every unscoped buffer at `W5`, left at `W6`. -/
def reg3 : RegionSeg (pcfgs (F := F)) adm (pdats m) () defs₀ Variants.none lev (fun _ _ => (0 : ℕ)) 3 :=
  RegionSeg.ofHeldIn (pcfgs (F := F)) adm (pdats m) () defs₀ Variants.none lev (fun _ _ => (0 : ℕ)) 3 (fun _ => 0) (Pipeline.ucRefs τ sig)
    (fun c => iprop(∃ r, prngReg c r)) (fun c => iprop(∃ r, prngReg c r)) launch3.toP rfl
    (fun c => (obligation3 (W5 m) c).loose) (fun _ _ => rfl) (fun _ => rfl) (fun c w => (pdats m 3 c).share_full (fun _ => rfl) w)
    (fun c => enter3 (W5 m) c) (fun c => leave3 (W5 m) c) (fun _ => 0) (levelCut 3) (fun _ => iprop(emp)) (W5 m)
    (fun c w => A3_eq (W5 m) c w)

set_option maxHeartbeats 400000 in
theorem reg3_pre (c : Dev nD) : iprop(StableHlo.held (c : Thread nD τ) (Pipeline.ucRefs τ sig) (W5 m c) ∗ rest c) ⊢ (reg3 m).pre c := by
  unfold reg3
  exact RegionSeg.ofHeldIn_pre (pcs := pcfgs (F := F)) (a := adm) (pdats := pdats m) (ι := ()) (defs₀ := defs₀) (𝒱₀ := Variants.none) (L := lev) (lv := fun _ _ => (0 : ℕ)) (p := 3) (D := fun _ => 0)
    (S := Pipeline.ucRefs τ sig) (X := fun c => iprop(∃ r, prngReg c r)) (Y := fun c => iprop(∃ r, prngReg c r)) (R := fun _ => iprop(emp)) (W := W5 m) (Pipeline.arrRefs_sub_ucRefs _ launch3.win.arr_unscoped) c

set_option maxHeartbeats 400000 in
theorem reg3_post (c : Dev nD) : (reg3 m).post c ⊢ iprop(StableHlo.held (c : Thread nD τ) (Pipeline.ucRefs τ sig) (W6 m c) ∗ rest c) := by
  unfold reg3 W6
  exact RegionSeg.ofHeldIn_post (Pipeline.arrRefs_sub_ucRefs _ launch3.win.arr_unscoped) c

set_option maxHeartbeats 4000000 in
/-- Call 4 as a segment: entered from every unscoped buffer at `W7`, left at `W8`. -/
def reg4 : RegionSeg (pcfgs (F := F)) adm (pdats m) () defs₀ Variants.none lev (fun _ _ => (0 : ℕ)) 4 :=
  RegionSeg.ofHeldIn (pcfgs (F := F)) adm (pdats m) () defs₀ Variants.none lev (fun _ _ => (0 : ℕ)) 4 (fun _ => 0) (Pipeline.ucRefs τ sig)
    (fun c => iprop(∃ r, prngReg c r)) (fun c => iprop(∃ r, prngReg c r)) launch4.toP rfl
    (fun c => (obligation4 (W7 m) c).loose) (fun _ _ => rfl) (fun _ => rfl) (fun c w => (pdats m 4 c).share_full (fun _ => rfl) w)
    (fun c => enter4 (W7 m) c) (fun c => leave4 (W7 m) c) (fun _ => 0) (levelCut 4) (fun _ => iprop(emp)) (W7 m)
    (fun c w => A4_eq (W7 m) c w)

set_option maxHeartbeats 400000 in
theorem reg4_pre (c : Dev nD) : iprop(StableHlo.held (c : Thread nD τ) (Pipeline.ucRefs τ sig) (W7 m c) ∗ rest c) ⊢ (reg4 m).pre c := by
  unfold reg4
  exact RegionSeg.ofHeldIn_pre (pcs := pcfgs (F := F)) (a := adm) (pdats := pdats m) (ι := ()) (defs₀ := defs₀) (𝒱₀ := Variants.none) (L := lev) (lv := fun _ _ => (0 : ℕ)) (p := 4) (D := fun _ => 0)
    (S := Pipeline.ucRefs τ sig) (X := fun c => iprop(∃ r, prngReg c r)) (Y := fun c => iprop(∃ r, prngReg c r)) (R := fun _ => iprop(emp)) (W := W7 m) (Pipeline.arrRefs_sub_ucRefs _ launch4.win.arr_unscoped) c

set_option maxHeartbeats 400000 in
theorem reg4_post (c : Dev nD) : (reg4 m).post c ⊢ iprop(StableHlo.held (c : Thread nD τ) (Pipeline.ucRefs τ sig) (W8 m c) ∗ rest c) := by
  unfold reg4 W8
  exact RegionSeg.ofHeldIn_post (Pipeline.arrRefs_sub_ucRefs _ launch4.win.arr_unscoped) c

end Cert.KernelIdeal.Calls
-- ==== Proof.SI.Run.lean ====
module

public import proofs.«01_k».proof.Proof.SI.Segs

@[expose] public section

set_option maxRecDepth 16384

noncomputable section

namespace Cert.KernelIdeal.Calls

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

/-- The program's items as segments, in order. -/
def segList (c : Dev nD) : List (Seg (pcfgs (F := F)) adm (pdats m) () defs₀ Variants.none lev (fun _ _ => (0 : ℕ))) :=
  [.host (HostSeg.ofOps _ _ _ _ _ (Pipeline.ucRefs τ sig) hostOps0
      (fun op h => Pipeline.sub_ucRefs op ((List.forall_iff_forall_mem.mp hostOps0_sub) op h))
      (fun op h => (List.forall_iff_forall_mem.mp hostOps0_fresh) op h) (W0 m) rest),
   .region (reg0 m), .region (reg1 m), .region (reg2 m),
   .host (HostSeg.ofOps _ _ _ _ _ (Pipeline.ucRefs τ sig) hostOps3
      (fun op h => Pipeline.sub_ucRefs op ((List.forall_iff_forall_mem.mp hostOps3_sub) op h))
      (fun op h => (List.forall_iff_forall_mem.mp hostOps3_fresh) op h) (W4 m) rest),
   .region (reg3 m),
   .host (HostSeg.ofOps _ _ _ _ _ (Pipeline.ucRefs τ sig) hostOps4
      (fun op h => Pipeline.sub_ucRefs op ((List.forall_iff_forall_mem.mp hostOps4_sub) op h))
      (fun op h => (List.forall_iff_forall_mem.mp hostOps4_fresh) op h) (W6 m) rest),
   .region (reg4 m)]

set_option maxHeartbeats 4000000 in
set_option backward.isDefEq.respectTransparency.types false in
/-- Every fair run of the program ends with the result at `W8`, every argument as launched and every counter at zero. -/
theorem run_main (ρ : Dev nD → PrngReg) :
    θ_run defs (onTc (τ := τ) (main (F := F))) ⟨m, fun _ => 0, ρ⟩ (fun r => (∀ c : Dev nD,
      r.2.mem ((c.tc : Thread nD τ).loc main_v17) = W8 m c main_v17 ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18))
      ∧ r.2.sem = fun _ => 0) := by
  refine Pipeline.θ_run_regions_kit_dev_sems (pcfgs (F := F)) adm (pdats m) () cellOf_inj emb₁ defs₀ Variants.none lev (fun _ _ => (0 : ℕ)) m ρ main
    (segList m)
    (fun c Q => by
      rewrite [main_chain c, Seg.run_eq_chain,
        show (segList m c).map Seg.prog = [
          StableHlo.seq hostOps0,
          Prog.lift (.customCall (Pipeline.entry 0) ()),
          Prog.lift (.customCall (Pipeline.entry 1) ()),
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      dsimp (config := { failIfUnchanged := false }) only
      exact .rfl)
    (fun c => by simp only [segList, Seg.pipes_host, Seg.pipes_region, Seg.pipes_nil]; decide) (fun _ => 0)
    (fun g h => by unfold lev; rw [if_neg h]) (fun _ => iprop(emp)) (initOf (Pipeline.cells cfgs cellOf_inj) (Pipeline.launchToks cfgs cellOf_inj))
    (by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ rest c))
    (Tₙ := fun c => StableHlo.held (c : Thread nD τ) (Pipeline.ucRefs τ sig) (W8 m c))
    (hch := fun c => ⟨.rfl, reg0_pre m c, (reg0_post m c).trans (reg1_pre m c), (reg1_post m c).trans (reg2_pre m c), reg2_post m c, reg3_pre m c, reg3_post m c, reg4_pre m c,
      (reg4_post m c).trans (sep_mono .rfl (by iintro ⟨H, -⟩; iexact H))⟩)
    (hinit := ?_) (QY := fun c s => s.mem ((c.tc : Thread nD τ).loc main_v17) = W8 m c main_v17 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18))
    (hfin := fun c s' => ?_) (hQ := fun _ h hz => ⟨h, funext fun g => hz g (.inr (regions_no_unscoped g.2))⟩)
  · refine Pipeline.initEach lev (fun _ _ => (0 : ℕ)) fun c => ?_
    rw [show unscopedBufs c (fun b => m ((c.tc : Thread nD τ).loc b)) = StableHlo.held (c : Thread nD τ) (Pipeline.ucRefs τ sig) (W0 m c) from
      Pipeline.unscopedBufs_held (Ix := Unit) (Name := ℕ) (U := UR sig nD τ) (Lvl := ℕ) c (W0 m c)]
    iintro ⟨⟨Hh, -, HO, -, Hp, -⟩, -⟩
    imodintro
    isplitl [Hh]; · iexact Hh
    isplitl [HO]; · iexists ∅; iexact HO
    isplitl [Hp]; · iexists _; iexact Hp
    iempintro
  · unfold StableHlo.held
    iintro ⟨Hh, HSI⟩
    ihave Hr := (pointsTo_read_all (Pipeline.ucRefs τ sig) (fun b => ((c : Thread nD τ).1, b)) (W8 m c) s') $$ [Hh HSI]
    · isplitl [Hh] <;> iassumption
    icases Hr with ⟨%h, HSI⟩
    imodintro
    isplitr
    · ipureintro
      exact ⟨h (Proc.devRef .tc main_v17) (Finset.mem_filter.mpr ⟨StableHlo.devRef_mem_tcRefs main_v17, by decide⟩),
        (h (Proc.devRef .tc main_arg0) (Finset.mem_filter.mpr ⟨StableHlo.devRef_mem_tcRefs main_arg0, by decide⟩)).trans (W8_of_unwritten m c main_arg0 (by decide)),
        (h (Proc.devRef .tc main_arg1) (Finset.mem_filter.mpr ⟨StableHlo.devRef_mem_tcRefs main_arg1, by decide⟩)).trans (W8_of_unwritten m c main_arg1 (by decide)),
        (h (Proc.devRef .tc main_arg2) (Finset.mem_filter.mpr ⟨StableHlo.devRef_mem_tcRefs main_arg2, by decide⟩)).trans (W8_of_unwritten m c main_arg2 (by decide)),
        (h (Proc.devRef .tc main_arg3) (Finset.mem_filter.mpr ⟨StableHlo.devRef_mem_tcRefs main_arg3, by decide⟩)).trans (W8_of_unwritten m c main_arg3 (by decide)),
        (h (Proc.devRef .tc main_arg4) (Finset.mem_filter.mpr ⟨StableHlo.devRef_mem_tcRefs main_arg4, by decide⟩)).trans (W8_of_unwritten m c main_arg4 (by decide)),
        (h (Proc.devRef .tc main_arg5) (Finset.mem_filter.mpr ⟨StableHlo.devRef_mem_tcRefs main_arg5, by decide⟩)).trans (W8_of_unwritten m c main_arg5 (by decide)),
        (h (Proc.devRef .tc main_arg6) (Finset.mem_filter.mpr ⟨StableHlo.devRef_mem_tcRefs main_arg6, by decide⟩)).trans (W8_of_unwritten m c main_arg6 (by decide)),
        (h (Proc.devRef .tc main_arg7) (Finset.mem_filter.mpr ⟨StableHlo.devRef_mem_tcRefs main_arg7, by decide⟩)).trans (W8_of_unwritten m c main_arg7 (by decide)),
        (h (Proc.devRef .tc main_arg8) (Finset.mem_filter.mpr ⟨StableHlo.devRef_mem_tcRefs main_arg8, by decide⟩)).trans (W8_of_unwritten m c main_arg8 (by decide)),
        (h (Proc.devRef .tc main_arg9) (Finset.mem_filter.mpr ⟨StableHlo.devRef_mem_tcRefs main_arg9, by decide⟩)).trans (W8_of_unwritten m c main_arg9 (by decide)),
        (h (Proc.devRef .tc main_arg10) (Finset.mem_filter.mpr ⟨StableHlo.devRef_mem_tcRefs main_arg10, by decide⟩)).trans (W8_of_unwritten m c main_arg10 (by decide)),
        (h (Proc.devRef .tc main_arg11) (Finset.mem_filter.mpr ⟨StableHlo.devRef_mem_tcRefs main_arg11, by decide⟩)).trans (W8_of_unwritten m c main_arg11 (by decide)),
        (h (Proc.devRef .tc main_arg12) (Finset.mem_filter.mpr ⟨StableHlo.devRef_mem_tcRefs main_arg12, by decide⟩)).trans (W8_of_unwritten m c main_arg12 (by decide)),
        (h (Proc.devRef .tc main_arg13) (Finset.mem_filter.mpr ⟨StableHlo.devRef_mem_tcRefs main_arg13, by decide⟩)).trans (W8_of_unwritten m c main_arg13 (by decide)),
        (h (Proc.devRef .tc main_arg14) (Finset.mem_filter.mpr ⟨StableHlo.devRef_mem_tcRefs main_arg14, by decide⟩)).trans (W8_of_unwritten m c main_arg14 (by decide)),
        (h (Proc.devRef .tc main_arg15) (Finset.mem_filter.mpr ⟨StableHlo.devRef_mem_tcRefs main_arg15, by decide⟩)).trans (W8_of_unwritten m c main_arg15 (by decide)),
        (h (Proc.devRef .tc main_arg16) (Finset.mem_filter.mpr ⟨StableHlo.devRef_mem_tcRefs main_arg16, by decide⟩)).trans (W8_of_unwritten m c main_arg16 (by decide)),
        (h (Proc.devRef .tc main_arg17) (Finset.mem_filter.mpr ⟨StableHlo.devRef_mem_tcRefs main_arg17, by decide⟩)).trans (W8_of_unwritten m c main_arg17 (by decide)),
        (h (Proc.devRef .tc main_arg18) (Finset.mem_filter.mpr ⟨StableHlo.devRef_mem_tcRefs main_arg18, by decide⟩)).trans (W8_of_unwritten m c main_arg18 (by decide))⟩
    · iexact HSI

end Cert.KernelIdeal.Calls
-- ==== Proof.Same.lean ====
module

public import proofs.«01_k».proof.Proof.Gen.Kernel
public import proofs.«01_k».proof.Proof.Gen.KernelIdeal

@[expose] public section

set_option maxRecDepth 65536

noncomputable section

namespace Cert.Proof

open Idealize.ShloMosaic Idealize.ShloMosaic.TcCoe Idealize.SL.Sem

variable {F : FTy → Type} [FloatOps F]

set_option maxHeartbeats 4000000 in
/-- No operation was rewritten: the kernel and its idealization are one program, over any reading of the floats. -/
theorem main_same : Cert.Kernel.main (F := F) = Cert.KernelIdeal.main (F := F) := rfl

set_option maxHeartbeats 8000000 in
/-- The two tables of kernel bodies agree, label by label. -/
theorem bodies_same : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | 0, (t, s) => rfl
  | 1, (t, s) => rfl
  | 2, (t, s) => rfl
  | 3, (t, s) => rfl
  | 4, (t, s) => rfl

set_option maxHeartbeats 4000000 in
/-- So do the tables with the pipelines added. -/
theorem defs_same : Cert.Kernel.defs (F := F) = Cert.KernelIdeal.defs (F := F) := by
  unfold Cert.Kernel.defs Cert.KernelIdeal.defs
  rw [bodies_same]
  rfl

end Cert.Proof

end
-- ==== Proof.Frames.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.SI.Run
public import proofs.«01_k».proof.Proof.Same
public import proofs.«01_k».proof.Proof.Gen.ReferenceIdeal.Run
public import Idealize.ShloMosaic.Adequacy

@[expose] public section

set_option maxRecDepth 16384

noncomputable section

namespace Cert.Proof

open Idealize.ShloMosaic Idealize.SL.Sem

/-- The shape relations that the precondition's operations take. -/
theorem tameFacts : Cert.Pre_tame.Facts where
  bcast_S_S8x2048 := by decide
  reducesTo_S8x2048_S_d0_1 := by decide
  h_S_ := by decide
  bcast_S_S256x128 := by decide
  reducesTo_S256x128_S_d0_1 := by decide
  bcast_S_S128x256 := by decide
  reducesTo_S128x256_S_d0_1 := by decide
  bcast_S_S256 := by decide
  reducesTo_S256_S_d0 := by decide
  bcast_S_S256x256 := by decide
  reducesTo_S256x256_S_d0_1 := by decide

instance : Cert.Pre_tame.Facts := tameFacts

set_option maxHeartbeats 4000000 in
/-- The kernel runs, its arguments end as launched and every counter at zero: the run of the same program under the
    idealization's name, which holds over any reading of the floats, taken at machine words. -/
theorem frame_kernel : Cert.quiescent_Kernel := by
  intro m g _
  rw [main_same, defs_same]
  exact (θ_run Cert.KernelIdeal.defs _ _).mono (fun r h => ⟨fun c => (h.1 c).2, h.2⟩) (Cert.KernelIdeal.Calls.run_main (F := Bits) m g)

/-- The idealized kernel runs, its arguments end as launched and every counter at zero. -/
theorem frame_kernel_ideal : Cert.quiescent_KernelIdeal := fun m g _ =>
  (θ_run Cert.KernelIdeal.defs _ _).mono (fun r h => ⟨fun c => (h.1 c).2, h.2⟩) (Cert.KernelIdeal.Calls.run_main (F := Ideal) m g)

/-- The idealized reference runs, its arguments end as launched; it declares no semaphore. -/
theorem frame_reference_ideal : Cert.quiescent_ReferenceIdeal := fun m g _ =>
  (θ_run Cert.ReferenceIdeal.defs _ _).mono (fun r h => ⟨fun c => (h c).2, Idealize.ShloMosaic.sem_eq_zero_of_no_sems (by decide) r.2⟩)
    (Cert.ReferenceIdeal.Value.run (F := Ideal) m g)

end Cert.Proof
-- ==== Proof.V.Pre.lean ====
module

public import Idealize.ShloMosaic.Lib.ReduceAll
public import Idealize.ShloMosaic.Lib.WordCmp
public import Idealize.ShloMosaic.Lib.Pointwise
public import proofs.«01_k».proof.Proof.Frames

@[expose] public section

noncomputable section

namespace Cert.Proof

open Idealize.ShloMosaic

/-- A number whose absolute value is below infinity is a real. -/
theorem real_of_below (x : EReal) (h : Ideal.cmp .olt (max x (-x)) (Ideal.ofBits .f32 0x7F800000#32) = 1#1) : ∃ r : ℝ, x = (r : EReal) := by
  rw [show Ideal.ofBits .f32 0x7F800000#32 = ⊤ by simp [Ideal.ofBits, Ideal.ieee]] at h
  induction x with
  | bot => simp [Ideal.cmp] at h
  | top => simp [Ideal.cmp] at h
  | coe r => exact ⟨r, rfl⟩

theorem both {a b : BitVec 1} (h : IntOp.andi a b = 1#1) : a = 1#1 ∧ b = 1#1 := by
  revert a b; decide

/-- An array whose absolute values are all below infinity holds reals. -/
theorem reals_of {s : Shape} {axes : List (Fin s.rank)} (x : FVec Ideal s .f32) (hb : Cert.Pre_tame.S_.BroadcastsInDim s (![] : Fin 0 → Fin s.rank)) (h : s.ReducesTo axes Cert.Pre_tame.S_)
    (hu : 0 < Cert.Pre_tame.S_.numel) (init : Cert.Pre_tame.S_.Idx → BitVec 1)
    (e : Host.reduce IntOp.andi (cmpf .olt (Host.absf x) (broadcastInDim s ![] hb (constant (F := Ideal) Cert.Pre_tame.S_ .f32 0x7F800000#32))) init h hu ix0 = 1#1) (i : s.Idx) :
    ∃ r : ℝ, (x i : EReal) = (r : EReal) := by
  haveI : Subsingleton Cert.Pre_tame.S_.Idx := ⟨fun a b => funext fun k => k.elim0⟩
  exact real_of_below (x i) (Host.reduce_andi_all _ _ h hu ix0 e i)

/-- What the precondition says of the arguments it reads. -/
theorem tame_of (a0 a1 : IVec Cert.Pre_tame.S8x2048 32) (a2 : FVec Ideal Cert.Pre_tame.S256x128 .f32) (a3 : FVec Ideal Cert.Pre_tame.S128x256 .f32) (a4 a5 a6 : FVec Ideal Cert.Pre_tame.S256 .f32)
    (a7 : FVec Ideal Cert.Pre_tame.S256x256 .f32) (a8 a9 a10 : FVec Ideal Cert.Pre_tame.S256 .f32) (a11 : FVec Ideal Cert.Pre_tame.S256x1 .f32) (a12 : FVec Ideal Cert.Pre_tame.S1 .f32)
    (a13 : FVec Ideal Cert.Pre_tame.S256x1 .f32) (a14 : FVec Ideal Cert.Pre_tame.S1 .f32) (a15 : FVec Ideal Cert.Pre_tame.S256x768 .f32) (a16 a17 a18 : FVec Ideal Cert.Pre_tame.S768 .f32)
    (h : Cert.Pre_tame.fn (F := Ideal) a0 a1 a2 a3 a4 a5 a6 a7 a8 a9 a10 a11 a12 a13 a14 a15 a16 a17 a18 = fun _ => 1#1) :
    (∀ (b : Fin 8) (t : Fin 2048), 0 ≤ (a0 (ix2 b t)).toInt ∧ (a0 (ix2 b t)).toInt < 256) ∧ (∀ i, ∃ r : ℝ, (a2 i : EReal) = (r : EReal)) ∧ (∀ i, ∃ r : ℝ, (a3 i : EReal) = (r : EReal))
      ∧ (∀ i, ∃ r : ℝ, (a4 i : EReal) = (r : EReal)) ∧ (∀ i, ∃ r : ℝ, (a5 i : EReal) = (r : EReal)) ∧ (∀ i, ∃ r : ℝ, (a7 i : EReal) = (r : EReal))
      ∧ (∀ i, ∃ r : ℝ, (a8 i : EReal) = (r : EReal)) ∧ (∀ i, ∃ r : ℝ, (a9 i : EReal) = (r : EReal)) := by
  haveI : Subsingleton Cert.Pre_tame.S_.Idx := ⟨fun a b => funext fun k => k.elim0⟩
  have e := congrFun h ix0
  clear h
  unfold Cert.Pre_tame.fn Cert.Pre_tame.fn_part1 Cert.Pre_tame.fn_part2 at e
  dsimp only at e
  obtain ⟨f9, e9⟩ := both e
  clear e
  obtain ⟨f8, e8⟩ := both f9
  clear f9
  obtain ⟨f7, e7⟩ := both f8
  clear f8
  obtain ⟨f5, e5⟩ := both f7
  clear f7
  obtain ⟨f4, e4⟩ := both f5
  clear f5
  obtain ⟨f3, e3⟩ := both f4
  clear f4
  obtain ⟨f2, e2⟩ := both f3
  clear f3
  refine ⟨fun b t => ?_, fun i => ?_, fun i => ?_, fun i => ?_, fun i => ?_, fun i => ?_, fun i => ?_, fun i => ?_⟩
  · obtain ⟨p, q⟩ := both (Host.reduce_andi_all _ _ _ _ ix0 f2 (ix2 b t))
    clear e9 e8 e7 e5 e4 e3 e2 f2
    have p' : BitVec.ofBool (decide ((0#32).toInt ≤ (a0 (ix2 b t)).toInt)) = 1#1 := p
    have q' : BitVec.ofBool (decide ((a0 (ix2 b t)).toInt < (256#32).toInt)) = 1#1 := q
    refine ⟨?_, ?_⟩
    · by_contra hn
      rw [decide_eq_false (by simpa using hn)] at p'
      exact absurd p' (by decide)
    · by_contra hn
      rw [decide_eq_false (by simpa using hn)] at q'
      exact absurd q' (by decide)
  · exact reals_of a2 _ _ _ _ e2 i
  · exact reals_of a3 _ _ _ _ e3 i
  · exact reals_of a4 _ _ _ _ e4 i
  · exact reals_of a5 _ _ _ _ e5 i
  · exact reals_of a7 _ _ _ _ e7 i
  · exact reals_of a8 _ _ _ _ e8 i
  · exact reals_of a9 _ _ _ _ e9 i

end Cert.Proof

end
-- ==== Proof.V.Spec.lean ====
module

public import Idealize.ShloMosaic.PureOps.Ideal
public import Idealize.ShloMosaic.PureOps.Ideal.Laws
public import Idealize.ShloMosaic.Lib.IdealHost

@[expose] public section

set_option maxRecDepth 16384

noncomputable section

namespace Cert.Spec

open Idealize.ShloMosaic
open scoped BigOperators

/-- A batch of 8 sequences of 2048 rows of `n` extended reals. -/
abbrev Arr (n : ℕ) := Fin 8 → Fin 2048 → Fin n → EReal

/-- The table's row of a byte id: the id read signed, brought into the table. -/
def row (w : BitVec 32) : Fin 256 := ⟨min w.toInt.toNat 255, by omega⟩

/-- A dense layer. -/
def lin {K N : ℕ} (x : Arr K) (W : Fin K → Fin N → EReal) (bias : Fin N → EReal) : Arr N :=
  fun b t d => (∑ k, x b t k * W k d) + bias d

/-- The sum of a channel over batch and rows. -/
def tot (x : Arr 256) (d : Fin 256) : EReal := ∑ b, ∑ t, x b t d

/-- The mean of a channel. -/
def mean (x : Arr 256) (d : Fin 256) : EReal := Ideal.div (tot x d) (Ideal.ofBits .f32 0x46800000#32)

/-- The variance of a channel, as the mean of the squared deviations. -/
def var (x : Arr 256) (d : Fin 256) : EReal :=
  Ideal.div (tot (fun b t d => (x b t d - mean x d) * (x b t d - mean x d)) d) (Ideal.ofBits .f32 0x46800000#32)

/-- The batch norm. -/
def bn (x : Arr 256) (g be : Fin 256 → EReal) : Arr 256 :=
  fun b t d => Ideal.div (x b t d - mean x d) (Ideal.sqrt (var x d + Ideal.ofBits .f32 0x3727C5AC#32)) * g d + be d

/-- The batch norm as the kernel computes it from the sum `s1`, the sum of squares `s2`, the gain, the shift and the element. -/
def kbn (s1 s2 g be x : EReal) : EReal :=
  x * (g * Ideal.rsqrt (Ideal.div s2 (Ideal.ofBits .f32 0x46800000#32) - Ideal.div s1 (Ideal.ofBits .f32 0x46800000#32) * Ideal.div s1 (Ideal.ofBits .f32 0x46800000#32) + Ideal.ofBits .f32 0x3727C5AC#32))
    + (be - Ideal.div s1 (Ideal.ofBits .f32 0x46800000#32) * (g * Ideal.rsqrt (Ideal.div s2 (Ideal.ofBits .f32 0x46800000#32) - Ideal.div s1 (Ideal.ofBits .f32 0x46800000#32) * Ideal.div s1 (Ideal.ofBits .f32 0x46800000#32) + Ideal.ofBits .f32 0x3727C5AC#32)))

/-- The spike of a membrane value. -/
def fire (u : EReal) : EReal := if 1 ≤ u then 1 else 0

/-- The membrane before step `n` of the steps `x 0, x 1, …`. -/
def mem (x : ℕ → EReal) : ℕ → EReal
  | 0 => 0
  | n + 1 => (mem x n + x n) * (1 - fire (mem x n + x n))

/-- A step number as a batch number. -/
def fin8 (n : ℕ) : Fin 8 := ⟨n % 8, Nat.mod_lt _ (by norm_num)⟩

/-- The spikes of the neurons driven by `X`, one step per batch. -/
def spikes (X : Arr 256) : Arr 256 :=
  fun b t d => fire (mem (fun n => X (fin8 n) t d) b.val + X b t d)

/-- The weight of a position as a boundary: one at the first position, else the sigmoid where the mask is on. -/
def bnd (L : Fin 8 → Fin 2048 → EReal) (mk : Fin 8 → Fin 2048 → BitVec 32) (b : Fin 8) (t : Fin 2048) : EReal :=
  if t.val = 0 then 1 else Ideal.logistic (L b t) * (((mk b t).toInt : ℝ) : EReal) - Ideal.ofBits .f32 0x461C4000#32 * (1 - (((mk b t).toInt : ℝ) : EReal))

/-- The sum of `f j, f (j - 1), …`, the last `n` terms at most. -/
def win (f : ℕ → EReal) (n j : ℕ) : EReal := ∑ i ∈ Finset.range n, if i ≤ j then f (j - i) else 0

/-- A function on positions, continued by zero. -/
def ext (f : Fin 2048 → EReal) (j : ℕ) : EReal := if h : j < 2048 then f ⟨j, h⟩ else 0

/-- The token a position belongs to, from the running sum of the boundaries. -/
def tok (f : Fin 2048 → EReal) (t : Fin 2048) : BitVec 32 :=
  IntOp.minsi 2047#32 (IntOp.maxsi 0#32 (Ideal.fptosi 32 (win (ext f) 2048 t.val - 1)))

/-- One where the position's token is `r`. -/
def hot (tid : Fin 8 → Fin 2048 → BitVec 32) (b : Fin 8) (r t : Fin 2048) : EReal := if BitVec.ofNat 32 r.val = tid b t then 1 else 0

/-- The mean of the rows of each token. -/
def pool (tid : Fin 8 → Fin 2048 → BitVec 32) (h : Arr 256) : Arr 256 :=
  fun b r d => Ideal.div (∑ t, hot tid b r t * h b t d) ((∑ t, hot tid b r t) + Ideal.ofBits .f32 0x322BCC77#32)

/-- A row's deviation from its mean. -/
def dev (x : Arr 768) : Arr 768 :=
  fun b r e => x b r e - Ideal.div (∑ k, x b r k) (Ideal.ofBits .f32 0x44400000#32)

/-- A row's variance. -/
def lvar (x : Arr 768) (b : Fin 8) (r : Fin 2048) : EReal :=
  Ideal.div (∑ k, dev x b r k * dev x b r k) (Ideal.ofBits .f32 0x44400000#32)

/-- The layer norm, as the kernel computes it. -/
def ln (x : Arr 768) (g be : Fin 768 → EReal) : Arr 768 :=
  fun b r e => dev x b r e * Ideal.rsqrt (lvar x b r + Ideal.ofBits .f32 0x3727C5AC#32) * g e + be e

/-! ## The constants -/

theorem c16384 : (Ideal.ofBits .f32 0x46800000#32 : EReal) = ((16384 : ℝ) : EReal) := by
  simp [Ideal.ofBits, Ideal.ieee]; rw [← EReal.coe_mul]; norm_num
theorem c768 : (Ideal.ofBits .f32 0x44400000#32 : EReal) = ((768 : ℝ) : EReal) := by
  simp [Ideal.ofBits, Ideal.ieee]; rw [← EReal.coe_mul]; norm_num
theorem c10000 : (Ideal.ofBits .f32 0x461C4000#32 : EReal) = ((10000 : ℝ) : EReal) := by
  simp [Ideal.ofBits, Ideal.ieee]; rw [← EReal.coe_mul]; norm_num
theorem cm10000 : (Ideal.ofBits .f32 0xC61C4000#32 : EReal) = ((-10000 : ℝ) : EReal) := by
  simp [Ideal.ofBits, Ideal.ieee]; rw [← EReal.coe_mul]; norm_num
theorem ceps : ∃ r : ℝ, 0 < r ∧ (Ideal.ofBits .f32 0x3727C5AC#32 : EReal) = (r : EReal) := by
  refine ⟨(10995116 : ℝ) * (2 : ℝ) ^ (-40 : ℤ), by positivity, ?_⟩
  simp [Ideal.ofBits, Ideal.ieee]
theorem ctiny : ∃ r : ℝ, 0 < r ∧ (Ideal.ofBits .f32 0x322BCC77#32 : EReal) = (r : EReal) := by
  refine ⟨(11258999 : ℝ) * (2 : ℝ) ^ (-50 : ℤ), by positivity, ?_⟩
  simp [Ideal.ofBits, Ideal.ieee]

/-! ## Real entries -/

theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The kernel's batch norm from the sums is the batch norm, for real entries and gain. -/
theorem kbn_eq (x : Arr 256) (g be : Fin 256 → EReal) (hx : ∀ b t d, ∃ r : ℝ, x b t d = r) (hg : ∀ d, ∃ r : ℝ, g d = r)
    (b : Fin 8) (t : Fin 2048) (d : Fin 256) :
    kbn (tot x d) (tot (fun b t d => x b t d * x b t d) d) (g d) (be d) (x b t d) = bn x g be b t d := by
  choose y hy using hx
  obtain ⟨γ, hγ⟩ := hg d
  obtain ⟨e, he, hee⟩ := ceps
  obtain rfl : x = fun b t d => (y b t d : EReal) := by funext b t d; exact hy b t d
  have h1 : tot (fun b t d => (y b t d : EReal)) d = ((∑ b, ∑ t, y b t d : ℝ) : EReal) := by
    simp only [tot, coe_sum]
  have h2 : tot (fun b t d => (y b t d : EReal) * (y b t d : EReal)) d = ((∑ b, ∑ t, y b t d * y b t d : ℝ) : EReal) := by
    simp only [tot, ← EReal.coe_mul, coe_sum]
  set s1 : ℝ := ∑ b, ∑ t, y b t d with hs1
  set s2 : ℝ := ∑ b, ∑ t, y b t d * y b t d with hs2
  have n0 : (16384 : ℝ) ≠ 0 := by norm_num
  set μ : ℝ := s1 * (1 / 16384) with hμ
  have hm : mean (fun b t d => (y b t d : EReal)) d = (μ : EReal) := by
    rw [mean, h1, c16384, Ideal.div_coe n0, ← EReal.coe_mul]
  set v : ℝ := (∑ b, ∑ t, (y b t d - μ) * (y b t d - μ)) * (1 / 16384) with hv
  have hvar : var (fun b t d => (y b t d : EReal)) d = (v : EReal) := by
    rw [var, c16384, Ideal.div_coe n0]
    simp only [tot, hm, ← EReal.coe_sub, ← EReal.coe_mul, coe_sum]
    rfl
  have hv0 : 0 ≤ v := by
    apply mul_nonneg _ (by norm_num)
    exact Finset.sum_nonneg fun b _ => Finset.sum_nonneg fun t _ => mul_self_nonneg _
  have hvk : s2 * (1 / 16384) - μ * μ = v := by
    have e1 : (∑ b : Fin 8, ∑ t : Fin 2048, (y b t d - μ) * (y b t d - μ)) = s2 - 2 * μ * s1 + 16384 * (μ * μ) := by
      have : ∀ b t, (y b t d - μ) * (y b t d - μ) = y b t d * y b t d - 2 * μ * y b t d + μ * μ := fun b t => by ring
      simp only [this, Finset.sum_add_distrib, Finset.sum_sub_distrib, ← Finset.mul_sum, Finset.sum_const, Finset.card_univ, Fintype.card_fin, nsmul_eq_mul]
      rw [← hs1, ← hs2]; push_cast; ring
    rw [hv, e1, hμ]; ring
  have hpos : 0 < v + e := by linarith
  have hr : Ideal.rsqrt ((v + e : ℝ) : EReal) = (((Real.sqrt (v + e))⁻¹ : ℝ) : EReal) := by
    rw [Ideal.rsqrt_coe, if_neg (not_lt.2 hpos.le), if_neg hpos.ne']
  have hq : Ideal.sqrt ((v + e : ℝ) : EReal) = ((Real.sqrt (v + e) : ℝ) : EReal) := by
    rw [Ideal.sqrt_coe, if_neg (not_lt.2 hpos.le)]
  have hs0 : Real.sqrt (v + e) ≠ 0 := (Real.sqrt_pos.2 hpos).ne'
  rw [bn, kbn, hm, hvar, h1, h2, hγ, hee, c16384, Ideal.div_coe n0, Ideal.div_coe n0]
  simp only [← EReal.coe_mul, ← EReal.coe_sub, ← EReal.coe_add]
  rw [← hμ, hvk, hr, hq, Ideal.div_coe hs0]
  simp only [← EReal.coe_mul]
  rw [sub_eq_add_neg, add_comm (be d), ← add_assoc, ← EReal.coe_neg, ← EReal.coe_add]
  refine congrArg (fun z : ℝ => (z : EReal) + be d) ?_
  rw [one_div]; ring

theorem fire_real (u : EReal) : ∃ r : ℝ, fire u = r := by
  unfold fire; split
  · exact ⟨1, rfl⟩
  · exact ⟨0, rfl⟩
theorem spikes_real (X : Arr 256) (b : Fin 8) (t : Fin 2048) (d : Fin 256) : ∃ r : ℝ, spikes X b t d = r := fire_real _

theorem lin_real {K N : ℕ} (x : Arr K) (W : Fin K → Fin N → EReal) (bias : Fin N → EReal) (hx : ∀ b t d, ∃ r : ℝ, x b t d = r)
    (hW : ∀ k d, ∃ r : ℝ, W k d = r) (hb : ∀ d, ∃ r : ℝ, bias d = r) (b : Fin 8) (t : Fin 2048) (d : Fin N) : ∃ r : ℝ, lin x W bias b t d = r := by
  choose y hy using hx
  choose w hw using hW
  choose u hu using hb
  exact ⟨(∑ k, y b t k * w k d) + u d, by simp only [lin, hy, hw, hu, ← EReal.coe_mul, coe_sum, ← EReal.coe_add]⟩

/-! ## Neurons -/

theorem logistic_real (x : EReal) : ∃ r : ℝ, Ideal.logistic x = r := by
  induction x using EReal.rec with
  | bot => exact ⟨0, by simp⟩
  | top => exact ⟨1, by simp⟩
  | coe r => exact ⟨_, Ideal.logistic_coe r⟩

/-- A spike plus a vanishing surrogate is the spike. -/
theorem fire_surrogate (u x : EReal) : fire u + (Ideal.logistic x - Ideal.logistic x) = fire u := by
  obtain ⟨r, hr⟩ := logistic_real x
  rw [hr, ← EReal.coe_sub, sub_self, EReal.coe_zero, add_zero]

/-! ## Running sums -/

theorem win_one (f : ℕ → EReal) (j : ℕ) : win f 1 j = f j := by simp [win]

/-- Doubling the length of the window: the window plus the window that ends before it. -/
theorem win_double (f : ℕ → EReal) (n j : ℕ) : win f (n + n) j = win f n j + (if j < n then 0 else win f n (j - n)) := by
  unfold win
  rw [Finset.sum_range_add]
  congr 1
  split
  · next h => exact Finset.sum_eq_zero fun i _ => if_neg (by omega)
  · next h =>
    refine Finset.sum_congr rfl fun i _ => ?_
    have e : (n + i ≤ j) = (i ≤ j - n) := by apply propext; omega
    simp only [e, Nat.sub_sub]

theorem win_flip (f : ℕ → EReal) (j : ℕ) : win f 2048 j = ∑ i ∈ Finset.range 2048, if 2047 - i ≤ j then f (j - (2047 - i)) else 0 := by
  unfold win
  rw [← Finset.sum_range_reflect]

/-! ## Boundaries -/

/-- The mask's two branches, with the subtraction spelt as an addition. -/
theorem bnd_alt (s m : EReal) : s * m - Ideal.ofBits .f32 0x461C4000#32 * (1 - m) = s * m + Ideal.ofBits .f32 0xC61C4000#32 * (1 - m) := by
  rw [c10000, cm10000, sub_eq_add_neg, EReal.coe_neg, EReal.neg_mul]

/-! ## Pooling -/

theorem hot_cases (tid : Fin 8 → Fin 2048 → BitVec 32) (b : Fin 8) (r t : Fin 2048) : hot tid b r t = ((if BitVec.ofNat 32 r.val = tid b t then 1 else 0 : ℝ) : EReal) := by
  unfold hot; split <;> rfl

/-- The mean of a token's rows as the reference takes it: each row weighted by one over the count. -/
theorem pool_eq (tid : Fin 8 → Fin 2048 → BitVec 32) (h : Arr 256) (hh : ∀ b t d, ∃ r : ℝ, h b t d = r) (b : Fin 8) (r : Fin 2048) (d : Fin 256) :
    (∑ t, Ideal.div (hot tid b r t) ((∑ t, hot tid b r t) + Ideal.ofBits .f32 0x322BCC77#32) * h b t d) = pool tid h b r d := by
  choose y hy using hh
  obtain ⟨e, he, hee⟩ := ctiny
  have hc : 0 ≤ ∑ t : Fin 2048, (if BitVec.ofNat 32 r.val = tid b t then 1 else 0 : ℝ) :=
    Finset.sum_nonneg fun t _ => by split <;> norm_num
  have hn : (∑ t : Fin 2048, (if BitVec.ofNat 32 r.val = tid b t then 1 else 0 : ℝ)) + e ≠ 0 := by linarith
  simp only [pool, hot_cases, hy, hee, coe_sum, ← EReal.coe_add, ← EReal.coe_mul, Ideal.div_coe hn]
  rw [Finset.sum_mul]
  congr 1
  exact Finset.sum_congr rfl fun t _ => by ring

/-! ## The layer norm -/

theorem sq_nonneg' (x : EReal) : 0 ≤ x * x := by
  rcases le_total 0 x with h | h
  · exact mul_nonneg h h
  · have := mul_nonneg (EReal.neg_nonneg.2 h) (EReal.neg_nonneg.2 h)
    rwa [EReal.neg_mul, mul_comm, EReal.neg_mul, neg_neg] at this

theorem lvar_nonneg (x : Arr 768) (b : Fin 8) (r : Fin 2048) : 0 ≤ lvar x b r := by
  rw [lvar, c768, Ideal.div_coe (by norm_num)]
  exact mul_nonneg (Finset.sum_nonneg fun k _ => sq_nonneg' _) (by exact_mod_cast (by norm_num : (0 : ℝ) ≤ 1 / 768))

/-- Dividing by the root is multiplying by the reciprocal root, of a positive number. -/
theorem div_sqrt (x w : EReal) (hw : 0 < w) : Ideal.div x (Ideal.sqrt w) = x * Ideal.rsqrt w := by
  induction w using EReal.rec with
  | bot => exact absurd hw (by simp)
  | top => rw [Ideal.sqrt_top, Ideal.rsqrt_top, Ideal.div, if_neg (by simp), EReal.inv_top]
  | coe r =>
    have hr : 0 < r := by exact_mod_cast hw
    rw [Ideal.sqrt_coe, Ideal.rsqrt_coe, if_neg (not_lt.2 hr.le), if_neg (not_lt.2 hr.le), if_neg hr.ne', Ideal.div_coe (Real.sqrt_pos.2 hr).ne', one_div]

theorem ln_eq (x : Arr 768) (g be : Fin 768 → EReal) (b : Fin 8) (r : Fin 2048) (e : Fin 768) :
    Ideal.div (dev x b r e) (Ideal.sqrt (lvar x b r + Ideal.ofBits .f32 0x3727C5AC#32)) * g e + be e = ln x g be b r e := by
  obtain ⟨ε, hε, hee⟩ := ceps
  rw [ln, div_sqrt]
  rw [hee]
  have := lvar_nonneg x b r
  exact lt_of_lt_of_le (by exact_mod_cast hε) (le_add_of_nonneg_left this)

end Cert.Spec

end
-- ==== Proof.V.Model.lean ====
module

public import proofs.«01_k».proof.Proof.V.Spec

@[expose] public section

noncomputable section

namespace Cert.Spec

open Idealize.ShloMosaic

/-- The first dense layer on the looked-up rows. -/
def m1 (ids : Fin 8 → Fin 2048 → BitVec 32) (emb : Fin 256 → Fin 128 → EReal) (W1 : Fin 128 → Fin 256 → EReal) (b1 : Fin 256 → EReal) : Arr 256 :=
  lin (fun b t k => emb (row (ids b t)) k) W1 b1

/-- The second dense layer, on the spikes of the normalized first. -/
def m2 (h : Arr 256) (g1 be1 : Fin 256 → EReal) (W2 : Fin 256 → Fin 256 → EReal) (b2 : Fin 256 → EReal) : Arr 256 :=
  lin (spikes (bn h g1 be1)) W2 b2

/-- The spikes of the normalized second layer. -/
def m3 (h : Arr 256) (g2 be2 : Fin 256 → EReal) : Arr 256 := spikes (bn h g2 be2)

/-- The token of each position. -/
def m4 (s : Arr 256) (mk : Fin 8 → Fin 2048 → BitVec 32) (Wb : Fin 256 → Fin 1 → EReal) (bb : Fin 1 → EReal) : Fin 8 → Fin 2048 → BitVec 32 :=
  fun b => tok (fun t => bnd (fun b t => lin s Wb bb b t 0) mk b t)

/-- The projected token means, normalized. -/
def m5 (tid : Fin 8 → Fin 2048 → BitVec 32) (s : Arr 256) (Wp : Fin 256 → Fin 768 → EReal) (bp gp bep : Fin 768 → EReal) : Arr 768 :=
  ln (lin (pool tid s) Wp bp) gp bep

/-- The whole computation. -/
def model (ids mk : Fin 8 → Fin 2048 → BitVec 32) (emb : Fin 256 → Fin 128 → EReal) (W1 : Fin 128 → Fin 256 → EReal) (b1 g1 be1 : Fin 256 → EReal)
    (W2 : Fin 256 → Fin 256 → EReal) (b2 g2 be2 : Fin 256 → EReal) (Wb : Fin 256 → Fin 1 → EReal) (bb : Fin 1 → EReal)
    (Wp : Fin 256 → Fin 768 → EReal) (bp gp bep : Fin 768 → EReal) : Arr 768 :=
  m5 (m4 (m3 (m2 (m1 ids emb W1 b1) g1 be1 W2 b2) g2 be2) mk Wb bb) (m3 (m2 (m1 ids emb W1 b1) g1 be1 W2 b2) g2 be2) Wp bp gp bep

end Cert.Spec

end
-- ==== Proof.V.RT.lean ====
module

public import Idealize.ShloMosaic.Lib.Pointwise
public import Idealize.ShloMosaic.Lib.ReduceAll
public import Idealize.ShloMosaic.Lib.Routing.OpsOne
public import proofs.«01_k».proof.Proof.Gen.ReferenceIdeal.Read
public import proofs.«01_k».proof.Proof.V.Spec

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.SL.Sem
open Cert.Spec
open scoped BigOperators

/-- A bit read as an unsigned number. -/
theorem bit_u (p : Bool) : (FloatOps.uitofp (F := Ideal) .f32 (BitVec.ofBool p) : EReal) = if p = true then 1 else 0 := by
  cases p <;> simp [FloatOps.uitofp]
theorem bit_fire (u : EReal) : (FloatOps.uitofp (F := Ideal) .f32 (BitVec.ofBool (decide (1 ≤ u))) : EReal) = fire u := by
  rw [bit_u]; unfold fire; by_cases h : 1 ≤ u <;> simp [h]
theorem bit_eq (a b : BitVec 32) : (FloatOps.uitofp (F := Ideal) .f32 (IntOp.cmpi .eq a b) : EReal) = if a = b then 1 else 0 := by
  rw [show IntOp.cmpi .eq a b = BitVec.ofBool (a == b) from rfl, bit_u]
  by_cases h : a = b <;> simp [h]
/-- A channel's sum over batch and rows. -/
theorem sum_at (h : S8x2048x256.ReducesTo [0, 1] S256) (v : S8x2048x256.Idx → EReal) (init : EReal) (d : Fin 256) :
    Ideal.hostReduceAdd h v init (ix1 d) = init + ∑ b : Fin 8, ∑ t : Fin 2048, v (ix3 b t d) := by
  have fiber : ∀ i : S8x2048x256.Idx, h.drop i = ix1 d ↔ ∃ k : Fin 8 × Fin 2048, (ix3 k.1 k.2 d : S8x2048x256.Idx) = i := by
    intro i
    constructor
    · intro e
      refine ⟨(i 0, i 1), ?_⟩
      funext a; apply Fin.ext
      match a with
      | ⟨0, _⟩ => rfl
      | ⟨1, _⟩ => rfl
      | ⟨2, _⟩ => exact (congrArg Fin.val (congrFun e 0)).symm
    · rintro ⟨k, rfl⟩
      funext b; apply Fin.ext
      match b with
      | ⟨0, _⟩ => rfl
  refine congrArg (init + ·) ((Finset.sum_filter_eq_sum_of_fiber _ (fun k : Fin 8 × Fin 2048 => (ix3 k.1 k.2 d : S8x2048x256.Idx))
    (fun _ _ e => Prod.ext (congrFun e 0) (congrFun e 1)) fiber v).trans ?_)
  simp only [Fintype.sum_prod_type]
theorem first_S (i : S_.Idx) : i = ix0 := funext fun a => a.elim0
/-- The sum as the program spells it. -/
theorem reduce_at (v : FVec Ideal S8x2048x256 .f32) (init : S_.Idx → EReal) (hi : init ix0 = 0) (d : Fin 256) :
    Host.reduceAdd (F := Ideal) (φ := .f32) v init reducesTo_S8x2048x256_S256_d0_1 h_S_ (ix1 d) = ∑ b : Fin 8, ∑ t : Fin 2048, v (ix3 b t d) := by
  refine (sum_at _ v _ d).trans ?_
  rw [first_S (Shape.Idx.first h_S_), hi, zero_add]
theorem foldl_add {ι : Type} (g : ι → EReal) (l : List ι) (a : EReal) : l.foldl (fun r n => r + g n) a = a + (l.map g).sum := by
  induction l generalizing a with
  | nil => simp
  | cons x l ih => rw [List.foldl_cons, ih, List.map_cons, List.sum_cons, add_assoc]
theorem numel_row : (⟨2, ![1, 2048]⟩ : Shape).numel = 2048 := (Shape.numel_rank2 _).trans rfl
theorem symm_row (n : Fin (⟨2, ![1, 2048]⟩ : Shape).numel) : (⟨2, ![1, 2048]⟩ : Shape).rowMajor.symm n = ix2 (0 : Fin 1) (n.cast numel_row) := by
  have hn : n.val < 2048 := lt_of_lt_of_eq n.isLt numel_row
  exact (Routing.symm22 n (by rw [Nat.div_eq_of_lt hn]; exact Nat.one_pos) (by rw [Nat.mod_eq_of_lt hn]; exact hn)).trans
    (congrArg₂ ix2 (Fin.ext (Nat.div_eq_of_lt hn)) (Fin.ext (Nat.mod_eq_of_lt hn)))
/-- The running sum of a row, as the program spells it. -/
theorem cumsum_at (x : FVec Ideal S8x2048 .f32) (init : S_.Idx → EReal) (hi : init ix0 = 0) (b : Fin 8) (t : Fin 2048) :
    Host.reduceWindowAdd (F := Ideal) (φ := .f32) ![1, 2048] ![1, 1] ![0, 2047] ![0, 0] x init reduceWindows_S8x2048_S8x2048_w1s1p0_0_w2048s1p2047_0 h_S_ (ix2 b t)
      = win (ext (fun t => x (ix2 b t))) 2048 t.val := by
  have hb := b.isLt
  have ht := t.isLt
  rw [win_flip]
  unfold Host.reduceWindowAdd
  rw [first_S (Shape.Idx.first h_S_), hi]
  show Ideal.hostReduceWindowAdd _ _ _ _ _ _ _ _ = _
  unfold Ideal.hostReduceWindowAdd
  unfold Host.reduceWindow
  refine (foldl_add (fun n => _) _ _).trans ?_
  rw [zero_add, ← List.ofFn_eq_map, List.sum_ofFn, ← Fin.sum_univ_eq_sum_range (fun i => if 2047 - i ≤ t.val then ext (fun t => x (ix2 b t)) (t.val - (2047 - i)) else 0) 2048]
  refine Fintype.sum_equiv (finCongr numel_row) _ _ fun n => ?_
  have hw0 : ((⟨2, ![1, 2048]⟩ : Shape).rowMajor.symm n 0).val = 0 := by rw [symm_row]; rfl
  have hw1 : ((⟨2, ![1, 2048]⟩ : Shape).rowMajor.symm n 1).val = n.val := by rw [symm_row]; rfl
  have hn : n.val < 2048 := lt_of_lt_of_eq n.isLt numel_row
  show _ = if 2047 - n.val ≤ t.val then ext (fun t => x (ix2 b t)) (t.val - (2047 - n.val)) else 0
  dsimp only
  split
  · next hin =>
    have h1 := hin 1
    change 2047 ≤ t.val * 1 + ((⟨2, ![1, 2048]⟩ : Shape).rowMajor.symm n 1).val ∧ t.val * 1 + ((⟨2, ![1, 2048]⟩ : Shape).rowMajor.symm n 1).val - 2047 < 2048 at h1
    rw [hw1] at h1
    rw [if_pos (by omega)]
    unfold ext
    rw [dif_pos (by omega)]
    refine congrArg x (funext fun a => Fin.ext ?_)
    match a with
    | ⟨0, _⟩ =>
      show b.val * 1 + ((⟨2, ![1, 2048]⟩ : Shape).rowMajor.symm n 0).val - 0 = b.val
      rw [hw0]; omega
    | ⟨1, _⟩ =>
      show t.val * 1 + ((⟨2, ![1, 2048]⟩ : Shape).rowMajor.symm n 1).val - 2047 = t.val - (2047 - n.val)
      rw [hw1]; omega
  · next hin =>
    rw [if_neg fun hle => hin fun a => by
      match a with
      | ⟨0, _⟩ =>
        show 0 ≤ b.val * 1 + ((⟨2, ![1, 2048]⟩ : Shape).rowMajor.symm n 0).val ∧ b.val * 1 + ((⟨2, ![1, 2048]⟩ : Shape).rowMajor.symm n 0).val - 0 < 8
        rw [hw0]; omega
      | ⟨1, _⟩ =>
        show 2047 ≤ t.val * 1 + ((⟨2, ![1, 2048]⟩ : Shape).rowMajor.symm n 1).val ∧ t.val * 1 + ((⟨2, ![1, 2048]⟩ : Shape).rowMajor.symm n 1).val - 2047 < 2048
        rw [hw1]; omega]
/-- The table's row a gather reads. -/
theorem gather_at (x : FVec Ideal S256x128 .f32) (idx : IVec S8x2048x1 32) (b : Fin 8) (t : Fin 2048) (k : Fin 128) :
    Host.gather gather_S256x128_S8x2048x1_S8x2048x128_2_0_n_n_0_2_1128 x idx (ix3 b t k) = x (ix2 (row (idx (ix3 b t 0))) k) := by
  unfold Host.gather
  congr 1
  funext a
  refine Fin.ext ?_
  show (gather_S256x128_S8x2048x1_S8x2048x128_2_0_n_n_0_2_1128).start (ix3 b t k) idx a + (gather_S256x128_S8x2048x1_S8x2048x128_2_0_n_n_0_2_1128).batchCoord (ix3 b t k) a
    + (gather_S256x128_S8x2048x1_S8x2048x128_2_0_n_n_0_2_1128).offCoord (ix3 b t k) a = _
  rw [GatherDims.batchCoord_eq_zero _ _ _ List.not_mem_nil]
  obtain rfl | rfl : a = (0 : Fin 2) ∨ a = (1 : Fin 2) := by
    have h2 : a.val < 2 := a.isLt
    rcases Nat.lt_succ_iff_lt_or_eq.mp h2 with h | h
    · exact Or.inl (Fin.ext (by show a.val = 0; omega))
    · exact Or.inr (Fin.ext h)
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ (gather_S256x128_S8x2048x1_S8x2048x128_2_0_n_n_0_2_1128).startIndexMap from List.mem_singleton.mpr rfl)]
    have hsi : (gather_S256x128_S8x2048x1_S8x2048x128_2_0_n_n_0_2_1128).siIdx (ix3 b t k) ⟨List.idxOf (0 : Fin 2) (gather_S256x128_S8x2048x1_S8x2048x128_2_0_n_n_0_2_1128).startIndexMap,
        List.idxOf_lt_length_iff.2 (List.mem_singleton.mpr rfl)⟩ = ix3 b t 0 := by
      funext b; refine Fin.ext ?_
      match b with
      | ⟨0, _⟩ => rfl
      | ⟨1, _⟩ => rfl
      | ⟨2, _⟩ => rfl
    rw [hsi]
    rfl
  · unfold GatherDims.start
    rw [dif_neg (show ¬ (1 : Fin 2) ∈ (gather_S256x128_S8x2048x1_S8x2048x128_2_0_n_n_0_2_1128).startIndexMap by decide)]
    simp only [Nat.zero_add, Nat.add_zero]
    unfold GatherDims.offCoord
    rw [dif_pos (show (1 : Fin 2) ∈ (gather_S256x128_S8x2048x1_S8x2048x128_2_0_n_n_0_2_1128).sKept by decide)]
    rfl
/-- A column set to given values. -/
theorem setcol_at (x : FVec Ideal S8x2048 .f32) (idx : IVec S1 32) (h0 : idx (ix1 0) = 0#32) (v : FVec Ideal S8 .f32) (b : Fin 8) (t : Fin 2048) :
    Host.scatter scatter_S8x2048_S1_S8_0_1_1_0 (fun _ b => b) x idx v (ix2 b t) = if t.val = 0 then v (ix1 b) else x (ix2 b t) := by
  have hidx : (idx (ix1 0)).toInt = ((0 : Fin 2048).val : Int) := by rw [h0]; rfl
  have lands : ∀ j : S8.Idx, (scatter_S8x2048_S1_S8_0_1_1_0).resultIdx? j idx = some (ix2 b t) → j 0 = b ∧ t = 0 := fun j hj =>
    (Routing.lands_col _ rfl rfl idx 0 hidx (j 0) b t).1 ((congrArg (fun t => (scatter_S8x2048_S1_S8_0_1_1_0).resultIdx? t idx) (ValueIdx.eq_ix1 j).symm).trans hj)
  by_cases h : t = 0
  · rw [if_pos (show t.val = 0 from congrArg Fin.val h)]
    exact Routing.scatter_set_hit _ x idx v _ _ (fun j hj => (congrArg v (ValueIdx.eq_ix1 j)).trans (congrArg (fun t => v (ix1 t)) (lands j hj).1)) (ix1 b)
      ((Routing.lands_col _ rfl rfl idx 0 hidx b b t).2 ⟨rfl, h⟩)
  · rw [if_neg (show ¬ t.val = 0 from fun e => h (Fin.ext e))]
    exact Routing.scatter_set_miss _ x idx v _ fun j hj => h (lands j hj).2
theorem sub_int0 (x : EReal) : x - FloatOps.sitofp (F := Ideal) .f32 (0#32) = x := by
  have e : (FloatOps.sitofp (F := Ideal) .f32 (0#32) : EReal) = 0 := by
    show (((0#32).toInt : ℝ) : EReal) = 0
    simp
  rw [e, sub_zero]
theorem gt_one (x : EReal) {r : ℝ} (hx : x = (r : EReal)) (hr : 0 < r) : (FloatOps.cmpf (F := Ideal) (φ := .f32) .ogt x (FloatOps.ofBits .f32 0x00000000#32) : BitVec 1) = 1#1 := by
  rw [show (FloatOps.ofBits (F := Ideal) .f32 0x00000000#32 : EReal) = 0 from by simp [FloatOps.ofBits]]
  show BitVec.ofBool (decide ((0 : EReal) < x)) = 1#1
  rw [decide_eq_true (by rw [hx]; exact_mod_cast hr)]
  rfl
theorem bit_hot (w v : BitVec 32) : (FloatOps.uitofp (F := Ideal) .f32 (IntOp.cmpi .eq w v) : EReal) = if v = w then 1 else 0 := by
  rw [bit_eq]; by_cases h : w = v
  · rw [if_pos h, if_pos h.symm]
  · rw [if_neg h, if_neg (Ne.symm h)]
/-- Every id is a row of the table. -/
def IdsOk (ids : S8x2048.Idx → BitVec 32) : Prop := ∀ b t, 0 ≤ (ids (ix2 b t)).toInt ∧ (ids (ix2 b t)).toInt < 256

end Cert.ReferenceIdeal.Val

end
-- ==== Proof.V.R1.lean ====
module

public import Idealize.ShloMosaic.Lib.Pointwise
public import Idealize.ShloMosaic.Lib.ReduceAll
public import Idealize.ShloMosaic.Lib.Routing.OpsOne
public import proofs.«01_k».proof.Proof.V.RT

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.SL.Sem
open Cert.Spec
open scoped BigOperators

theorem ids_at (x0 : IVec S8x2048 32) (hid : IdsOk x0) (b : Fin 8) (t : Fin 2048) : val_main_call0_v4 (F := Ideal) x0 (ix2 b t) = x0 (ix2 b t) := by
  pointwise [val_main_call0_v4, val_main_call0_v1, val_main_call0_v0, val_main_call0_c]
  have h := (hid b t).1
  have e : IntOp.cmpi .slt (x0 (ix2 b t)) 0#32 = 0#1 := by
    show BitVec.ofBool ((x0 (ix2 b t)).slt 0#32) = 0#1
    rw [BitVec.slt_eq_decide, show (0#32).toInt = 0 from rfl, decide_eq_false (by omega)]
    rfl
  rw [e]; rfl
theorem ids1_at (x0 : IVec S8x2048 32) (hid : IdsOk x0) (b : Fin 8) (t : Fin 2048) : val_main_call0_v5 (F := Ideal) x0 (ix3 b t 0) = x0 (ix2 b t) := by
  rw [← ids_at x0 hid]
  pointwise [val_main_call0_v5]
theorem mask_at (x0 : IVec S8x2048 32) (hid : IdsOk x0) (b : Fin 8) (t : Fin 2048) : val_main_call0_v12 (F := Ideal) x0 (ix2 b t) = 1#1 := by
  refine Host.reduce_andi_one _ _ _ _ _ rfl fun i => ?_
  obtain ⟨b, t, z, rfl⟩ : ∃ b t z, i = ix3 b t z := ⟨i 0, i 1, i 2, ValueIdx.eq_ix3 i⟩
  obtain rfl : z = 0 := Subsingleton.elim _ _
  pointwise [val_main_call0_v11, val_main_call0_v7, val_main_call0_v10, val_main_call0_v6, val_main_call0_v9, val_main_call0_v8, val_main_call0_c_1, val_main_call0_c_2]
  rw [ids1_at x0 hid]
  obtain ⟨h0, h1⟩ := hid b t
  generalize x0 (ix2 b t) = w at h0 h1
  have e0 : IntOp.cmpi .sge w 0#32 = 1#1 := by
    show BitVec.ofBool ((0#32).sle w) = 1#1
    rw [BitVec.sle_eq_decide, show (0#32).toInt = 0 from rfl, decide_eq_true (by omega)]
    rfl
  have e1 : IntOp.cmpi .sle w 255#32 = 1#1 := by
    show BitVec.ofBool (w.sle 255#32) = 1#1
    rw [BitVec.sle_eq_decide, show (255#32).toInt = 255 from rfl, decide_eq_true (by omega)]
    rfl
  rw [e0, e1]; rfl
theorem emb_at (x0 : IVec S8x2048 32) (hid : IdsOk x0) (x2 : FVec Ideal S256x128 .f32) (b : Fin 8) (t : Fin 2048) (k : Fin 128) :
    val_main_v0 (F := Ideal) x0 x2 (ix3 b t k) = x2 (ix2 (row (x0 (ix2 b t))) k) := by
  have e : val_main_call0_v14 (F := Ideal) x0 (ix3 b t k) = 1#1 := by
    rw [← mask_at x0 hid b t]
    pointwise [val_main_call0_v14]
  rw [val_main_v0_apply, e]
  refine (if_pos rfl).trans ?_
  unfold val_main_call0_v13
  rw [gather_at, ids1_at x0 hid]
/-- The first dense layer. -/
theorem h1_at (x0 : IVec S8x2048 32) (hid : IdsOk x0) (x2 : FVec Ideal S256x128 .f32) (x3 : FVec Ideal S128x256 .f32) (x4 : FVec Ideal S256 .f32) (b : Fin 8) (t : Fin 2048) (d : Fin 256) :
    val_main_v4 (F := Ideal) x0 x2 x3 x4 (ix3 b t d)
      = lin (fun b t k => x2 (ix2 (row (x0 (ix2 b t))) k)) (fun k d => x3 (ix2 k d)) (fun d => x4 (ix1 d)) b t d := by
  unfold lin
  simp only [← emb_at x0 hid]
  pointwise [val_main_v4, val_main_v1, val_main_v3, val_main_v2]

end Cert.ReferenceIdeal.Val

end
-- ==== Proof.V.R2.lean ====
module

public import Idealize.ShloMosaic.Lib.Pointwise
public import Idealize.ShloMosaic.Lib.ReduceAll
public import Idealize.ShloMosaic.Lib.Routing.OpsOne
public import proofs.«01_k».proof.Proof.V.RT

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.SL.Sem
open Cert.Spec
open scoped BigOperators

/-- The sum of a channel. -/
theorem sumA_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 : (⟨S256, .f32⟩ : BufTy).Contents (Elt Ideal)) (d : Fin 256) : (val_main_v5 (F := Ideal) x0 x2 x3 x4) (ix1 d) = tot (fun b t d => (val_main_v4 (F := Ideal) x0 x2 x3 x4) (ix3 b t d)) d := by
  exact reduce_at _ _ (by pointwise [val_main_cst]) d
theorem csumA_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 : (⟨S256, .f32⟩ : BufTy).Contents (Elt Ideal)) (d : Fin 256) : (val_main_call1_v0 (F := Ideal) x0 x2 x3 x4) (ix1 d) = tot (fun b t d => (val_main_v4 (F := Ideal) x0 x2 x3 x4) (ix3 b t d)) d := by
  exact reduce_at _ _ (by pointwise [val_main_call1_cst]) d

theorem meanA_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 : (⟨S256, .f32⟩ : BufTy).Contents (Elt Ideal)) (d : Fin 256) : (val_main_v8 (F := Ideal) x0 x2 x3 x4) (ix3 0 0 d) = mean (fun b t d => (val_main_v4 (F := Ideal) x0 x2 x3 x4) (ix3 b t d)) d := by
  unfold mean
  rw [← sumA_at]
  pointwise [val_main_v8, val_main_v6, val_main_v7, val_main_cst_0]
theorem cmeanA_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 : (⟨S256, .f32⟩ : BufTy).Contents (Elt Ideal)) (d : Fin 256) : (val_main_call1_v3 (F := Ideal) x0 x2 x3 x4) (ix3 0 0 d) = mean (fun b t d => (val_main_v4 (F := Ideal) x0 x2 x3 x4) (ix3 b t d)) d := by
  unfold mean
  rw [← csumA_at]
  pointwise [val_main_call1_v3, val_main_call1_v1, val_main_call1_v2, val_main_call1_cst_0]

theorem sqsumA_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 : (⟨S256, .f32⟩ : BufTy).Contents (Elt Ideal)) (d : Fin 256) : (val_main_call1_v9 (F := Ideal) x0 x2 x3 x4) (ix1 d) = tot (fun b t d => ((val_main_v4 (F := Ideal) x0 x2 x3 x4) (ix3 b t d) - mean (fun b t d => (val_main_v4 (F := Ideal) x0 x2 x3 x4) (ix3 b t d)) d) * ((val_main_v4 (F := Ideal) x0 x2 x3 x4) (ix3 b t d) - mean (fun b t d => (val_main_v4 (F := Ideal) x0 x2 x3 x4) (ix3 b t d)) d)) d := by
  refine (reduce_at _ _ (by pointwise [val_main_call1_cst_2]) d).trans ?_
  refine Finset.sum_congr rfl fun b _ => Finset.sum_congr rfl fun t _ => ?_
  simp only [← cmeanA_at]
  pointwise [val_main_call1_v6, val_main_call1_v5, val_main_call1_v4]

theorem nA_at : (val_main_call1_v8 (F := Ideal)) ix0 = Ideal.ofBits .f32 0x46800000#32 := by
  pointwise [val_main_call1_v8, val_main_call1_cst_1, val_main_call1_v7, val_main_c]
  exact sub_int0 _
theorem posA_at : (val_main_call1_v13 (F := Ideal)) ix0 = 1#1 := by
  rw [val_main_call1_v13_apply, nA_at]
  exact gt_one _ c16384 (by norm_num)
theorem varA_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 : (⟨S256, .f32⟩ : BufTy).Contents (Elt Ideal)) (d : Fin 256) : (val_main_v9 (F := Ideal) x0 x2 x3 x4) (ix3 0 0 d) = var (fun b t d => (val_main_v4 (F := Ideal) x0 x2 x3 x4) (ix3 b t d)) d := by
  unfold var
  rw [← sqsumA_at, ← nA_at]
  pointwise [val_main_v9]
  rw [posA_at]
  refine (if_pos rfl).trans ?_
  pointwise [val_main_call1_v12, val_main_call1_v10, val_main_call1_v11]

/-- The batch norm. -/
theorem bnA_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (b : Fin 8) (t : Fin 2048) (d : Fin 256) : (val_main_v22 (F := Ideal) x0 x2 x3 x4 x5 x6) (ix3 b t d) = bn (fun b t d => (val_main_v4 (F := Ideal) x0 x2 x3 x4) (ix3 b t d)) (fun d => x5 (ix1 d)) (fun d => x6 (ix1 d)) b t d := by
  unfold bn
  rw [← meanA_at, ← varA_at]
  pointwise [val_main_v22, val_main_v19, val_main_v16, val_main_v11, val_main_v10, val_main_v15, val_main_v14, val_main_v13, val_main_v12, val_main_cst_1, val_main_v18, val_main_v17, val_main_v21, val_main_v20]

end Cert.ReferenceIdeal.Val

end
-- ==== Proof.V.R2B.lean ====
module

public import Idealize.ShloMosaic.Lib.Pointwise
public import Idealize.ShloMosaic.Lib.ReduceAll
public import Idealize.ShloMosaic.Lib.Routing.OpsOne
public import proofs.«01_k».proof.Proof.V.RT

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.SL.Sem
open Cert.Spec
open scoped BigOperators

/-- The sum of a channel. -/
theorem sumB_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 : (⟨S256, .f32⟩ : BufTy).Contents (Elt Ideal)) (d : Fin 256) : (val_main_v209 (F := Ideal) x0 x2 x3 x4 x5 x6 x7 x8) (ix1 d) = tot (fun b t d => (val_main_v208 (F := Ideal) x0 x2 x3 x4 x5 x6 x7 x8) (ix3 b t d)) d := by
  exact reduce_at _ _ (by pointwise [val_main_cst_52]) d
theorem csumB_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 : (⟨S256, .f32⟩ : BufTy).Contents (Elt Ideal)) (d : Fin 256) : (val_main_call2_v0 (F := Ideal) x0 x2 x3 x4 x5 x6 x7 x8) (ix1 d) = tot (fun b t d => (val_main_v208 (F := Ideal) x0 x2 x3 x4 x5 x6 x7 x8) (ix3 b t d)) d := by
  exact reduce_at _ _ (by pointwise [val_main_call2_cst]) d

theorem meanB_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 : (⟨S256, .f32⟩ : BufTy).Contents (Elt Ideal)) (d : Fin 256) : (val_main_v212 (F := Ideal) x0 x2 x3 x4 x5 x6 x7 x8) (ix3 0 0 d) = mean (fun b t d => (val_main_v208 (F := Ideal) x0 x2 x3 x4 x5 x6 x7 x8) (ix3 b t d)) d := by
  unfold mean
  rw [← sumB_at]
  pointwise [val_main_v212, val_main_v210, val_main_v211, val_main_cst_53]
theorem cmeanB_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 : (⟨S256, .f32⟩ : BufTy).Contents (Elt Ideal)) (d : Fin 256) : (val_main_call2_v3 (F := Ideal) x0 x2 x3 x4 x5 x6 x7 x8) (ix3 0 0 d) = mean (fun b t d => (val_main_v208 (F := Ideal) x0 x2 x3 x4 x5 x6 x7 x8) (ix3 b t d)) d := by
  unfold mean
  rw [← csumB_at]
  pointwise [val_main_call2_v3, val_main_call2_v1, val_main_call2_v2, val_main_call2_cst_0]

theorem sqsumB_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 : (⟨S256, .f32⟩ : BufTy).Contents (Elt Ideal)) (d : Fin 256) : (val_main_call2_v9 (F := Ideal) x0 x2 x3 x4 x5 x6 x7 x8) (ix1 d) = tot (fun b t d => ((val_main_v208 (F := Ideal) x0 x2 x3 x4 x5 x6 x7 x8) (ix3 b t d) - mean (fun b t d => (val_main_v208 (F := Ideal) x0 x2 x3 x4 x5 x6 x7 x8) (ix3 b t d)) d) * ((val_main_v208 (F := Ideal) x0 x2 x3 x4 x5 x6 x7 x8) (ix3 b t d) - mean (fun b t d => (val_main_v208 (F := Ideal) x0 x2 x3 x4 x5 x6 x7 x8) (ix3 b t d)) d)) d := by
  refine (reduce_at _ _ (by pointwise [val_main_call2_cst_2]) d).trans ?_
  refine Finset.sum_congr rfl fun b _ => Finset.sum_congr rfl fun t _ => ?_
  simp only [← cmeanB_at]
  pointwise [val_main_call2_v6, val_main_call2_v5, val_main_call2_v4]

theorem nB_at : (val_main_call2_v8 (F := Ideal)) ix0 = Ideal.ofBits .f32 0x46800000#32 := by
  pointwise [val_main_call2_v8, val_main_call2_cst_1, val_main_call2_v7, val_main_c_54]
  exact sub_int0 _
theorem posB_at : (val_main_call2_v13 (F := Ideal)) ix0 = 1#1 := by
  rw [val_main_call2_v13_apply, nB_at]
  exact gt_one _ c16384 (by norm_num)
theorem varB_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 : (⟨S256, .f32⟩ : BufTy).Contents (Elt Ideal)) (d : Fin 256) : (val_main_v213 (F := Ideal) x0 x2 x3 x4 x5 x6 x7 x8) (ix3 0 0 d) = var (fun b t d => (val_main_v208 (F := Ideal) x0 x2 x3 x4 x5 x6 x7 x8) (ix3 b t d)) d := by
  unfold var
  rw [← sqsumB_at, ← nB_at]
  pointwise [val_main_v213]
  rw [posB_at]
  refine (if_pos rfl).trans ?_
  pointwise [val_main_call2_v12, val_main_call2_v10, val_main_call2_v11]

/-- The batch norm. -/
theorem bnB_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (b : Fin 8) (t : Fin 2048) (d : Fin 256) : (val_main_v226 (F := Ideal) x0 x2 x3 x4 x5 x6 x7 x8 x9 x10) (ix3 b t d) = bn (fun b t d => (val_main_v208 (F := Ideal) x0 x2 x3 x4 x5 x6 x7 x8) (ix3 b t d)) (fun d => x9 (ix1 d)) (fun d => x10 (ix1 d)) b t d := by
  unfold bn
  rw [← meanB_at, ← varB_at]
  pointwise [val_main_v226, val_main_v223, val_main_v220, val_main_v215, val_main_v214, val_main_v219, val_main_v218, val_main_v217, val_main_v216, val_main_cst_55, val_main_v222, val_main_v221, val_main_v225, val_main_v224]

end Cert.ReferenceIdeal.Val

end
-- ==== Proof.V.R3.lean ====
module

public import Idealize.ShloMosaic.Lib.Pointwise
public import Idealize.ShloMosaic.Lib.ReduceAll
public import Idealize.ShloMosaic.Lib.Routing.OpsOne
public import proofs.«01_k».proof.Proof.V.RT

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.SL.Sem
open Cert.Spec
open scoped BigOperators

theorem uA0_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v29 (F := Ideal) x0 x2 x3 x4 x5 x6) (ix2 t d) = mem (fun n => (val_main_v22 (F := Ideal) x0 x2 x3 x4 x5 x6) (ix3 (fin8 n) t d)) 0 + (val_main_v22 (F := Ideal) x0 x2 x3 x4 x5 x6) (ix3 (fin8 0) t d) := by
  rw [mem]
  pointwise [val_main_v29, val_main_v23, val_main_cst_2, val_main_v28, val_main_v27, val_main_v25]
  rfl

/-- The spike of step 0. -/
theorem sA0_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v44 (F := Ideal) x0 x2 x3 x4 x5 x6) (ix2 t d) = fire (mem (fun n => (val_main_v22 (F := Ideal) x0 x2 x3 x4 x5 x6) (ix3 (fin8 n) t d)) 0 + (val_main_v22 (F := Ideal) x0 x2 x3 x4 x5 x6) (ix3 (fin8 0) t d)) := by
  rw [← uA0_at]
  pointwise [val_main_v44, val_main_v42, val_main_v41, val_main_v40, val_main_cst_8, val_main_v43, val_main_v39, val_main_v38, val_main_cst_7, val_main_v37, val_main_v36, val_main_cst_6, val_main_v35, val_main_v34, val_main_v33, val_main_v32, val_main_cst_5, val_main_v31, val_main_v30, val_main_cst_4]
  rw [bit_fire]
  exact fire_surrogate _ _

theorem mA0_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v47 (F := Ideal) x0 x2 x3 x4 x5 x6) (ix2 t d) = (mem (fun n => (val_main_v22 (F := Ideal) x0 x2 x3 x4 x5 x6) (ix3 (fin8 n) t d)) 0 + (val_main_v22 (F := Ideal) x0 x2 x3 x4 x5 x6) (ix3 (fin8 0) t d)) * (1 - fire (mem (fun n => (val_main_v22 (F := Ideal) x0 x2 x3 x4 x5 x6) (ix3 (fin8 n) t d)) 0 + (val_main_v22 (F := Ideal) x0 x2 x3 x4 x5 x6) (ix3 (fin8 0) t d))) := by
  rw [← sA0_at, ← uA0_at]
  pointwise [val_main_v47, val_main_v46, val_main_v45, val_main_cst_9]

theorem uA1_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v50 (F := Ideal) x0 x2 x3 x4 x5 x6) (ix2 t d) = mem (fun n => (val_main_v22 (F := Ideal) x0 x2 x3 x4 x5 x6) (ix3 (fin8 n) t d)) 1 + (val_main_v22 (F := Ideal) x0 x2 x3 x4 x5 x6) (ix3 (fin8 1) t d) := by
  rw [mem, ← mA0_at]
  pointwise [val_main_v50, val_main_v49, val_main_v48, val_main_v25]
  rfl

/-- The spike of step 1. -/
theorem sA1_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v65 (F := Ideal) x0 x2 x3 x4 x5 x6) (ix2 t d) = fire (mem (fun n => (val_main_v22 (F := Ideal) x0 x2 x3 x4 x5 x6) (ix3 (fin8 n) t d)) 1 + (val_main_v22 (F := Ideal) x0 x2 x3 x4 x5 x6) (ix3 (fin8 1) t d)) := by
  rw [← uA1_at]
  pointwise [val_main_v65, val_main_v63, val_main_v62, val_main_v61, val_main_cst_14, val_main_v64, val_main_v60, val_main_v59, val_main_cst_13, val_main_v58, val_main_v57, val_main_cst_12, val_main_v56, val_main_v55, val_main_v54, val_main_v53, val_main_cst_11, val_main_v52, val_main_v51, val_main_cst_10]
  rw [bit_fire]
  exact fire_surrogate _ _

theorem mA1_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v68 (F := Ideal) x0 x2 x3 x4 x5 x6) (ix2 t d) = (mem (fun n => (val_main_v22 (F := Ideal) x0 x2 x3 x4 x5 x6) (ix3 (fin8 n) t d)) 1 + (val_main_v22 (F := Ideal) x0 x2 x3 x4 x5 x6) (ix3 (fin8 1) t d)) * (1 - fire (mem (fun n => (val_main_v22 (F := Ideal) x0 x2 x3 x4 x5 x6) (ix3 (fin8 n) t d)) 1 + (val_main_v22 (F := Ideal) x0 x2 x3 x4 x5 x6) (ix3 (fin8 1) t d))) := by
  rw [← sA1_at, ← uA1_at]
  pointwise [val_main_v68, val_main_v67, val_main_v66, val_main_cst_15]

theorem uA2_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v71 (F := Ideal) x0 x2 x3 x4 x5 x6) (ix2 t d) = mem (fun n => (val_main_v22 (F := Ideal) x0 x2 x3 x4 x5 x6) (ix3 (fin8 n) t d)) 2 + (val_main_v22 (F := Ideal) x0 x2 x3 x4 x5 x6) (ix3 (fin8 2) t d) := by
  rw [mem, ← mA1_at]
  pointwise [val_main_v71, val_main_v70, val_main_v69, val_main_v25]
  rfl

/-- The spike of step 2. -/
theorem sA2_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v86 (F := Ideal) x0 x2 x3 x4 x5 x6) (ix2 t d) = fire (mem (fun n => (val_main_v22 (F := Ideal) x0 x2 x3 x4 x5 x6) (ix3 (fin8 n) t d)) 2 + (val_main_v22 (F := Ideal) x0 x2 x3 x4 x5 x6) (ix3 (fin8 2) t d)) := by
  rw [← uA2_at]
  pointwise [val_main_v86, val_main_v84, val_main_v83, val_main_v82, val_main_cst_20, val_main_v85, val_main_v81, val_main_v80, val_main_cst_19, val_main_v79, val_main_v78, val_main_cst_18, val_main_v77, val_main_v76, val_main_v75, val_main_v74, val_main_cst_17, val_main_v73, val_main_v72, val_main_cst_16]
  rw [bit_fire]
  exact fire_surrogate _ _

theorem mA2_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v89 (F := Ideal) x0 x2 x3 x4 x5 x6) (ix2 t d) = (mem (fun n => (val_main_v22 (F := Ideal) x0 x2 x3 x4 x5 x6) (ix3 (fin8 n) t d)) 2 + (val_main_v22 (F := Ideal) x0 x2 x3 x4 x5 x6) (ix3 (fin8 2) t d)) * (1 - fire (mem (fun n => (val_main_v22 (F := Ideal) x0 x2 x3 x4 x5 x6) (ix3 (fin8 n) t d)) 2 + (val_main_v22 (F := Ideal) x0 x2 x3 x4 x5 x6) (ix3 (fin8 2) t d))) := by
  rw [← sA2_at, ← uA2_at]
  pointwise [val_main_v89, val_main_v88, val_main_v87, val_main_cst_21]

theorem uA3_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v92 (F := Ideal) x0 x2 x3 x4 x5 x6) (ix2 t d) = mem (fun n => (val_main_v22 (F := Ideal) x0 x2 x3 x4 x5 x6) (ix3 (fin8 n) t d)) 3 + (val_main_v22 (F := Ideal) x0 x2 x3 x4 x5 x6) (ix3 (fin8 3) t d) := by
  rw [mem, ← mA2_at]
  pointwise [val_main_v92, val_main_v91, val_main_v90, val_main_v25]
  rfl

/-- The spike of step 3. -/
theorem sA3_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v107 (F := Ideal) x0 x2 x3 x4 x5 x6) (ix2 t d) = fire (mem (fun n => (val_main_v22 (F := Ideal) x0 x2 x3 x4 x5 x6) (ix3 (fin8 n) t d)) 3 + (val_main_v22 (F := Ideal) x0 x2 x3 x4 x5 x6) (ix3 (fin8 3) t d)) := by
  rw [← uA3_at]
  pointwise [val_main_v107, val_main_v105, val_main_v104, val_main_v103, val_main_cst_26, val_main_v106, val_main_v102, val_main_v101, val_main_cst_25, val_main_v100, val_main_v99, val_main_cst_24, val_main_v98, val_main_v97, val_main_v96, val_main_v95, val_main_cst_23, val_main_v94, val_main_v93, val_main_cst_22]
  rw [bit_fire]
  exact fire_surrogate _ _

theorem mA3_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v110 (F := Ideal) x0 x2 x3 x4 x5 x6) (ix2 t d) = (mem (fun n => (val_main_v22 (F := Ideal) x0 x2 x3 x4 x5 x6) (ix3 (fin8 n) t d)) 3 + (val_main_v22 (F := Ideal) x0 x2 x3 x4 x5 x6) (ix3 (fin8 3) t d)) * (1 - fire (mem (fun n => (val_main_v22 (F := Ideal) x0 x2 x3 x4 x5 x6) (ix3 (fin8 n) t d)) 3 + (val_main_v22 (F := Ideal) x0 x2 x3 x4 x5 x6) (ix3 (fin8 3) t d))) := by
  rw [← sA3_at, ← uA3_at]
  pointwise [val_main_v110, val_main_v109, val_main_v108, val_main_cst_27]

theorem uA4_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v113 (F := Ideal) x0 x2 x3 x4 x5 x6) (ix2 t d) = mem (fun n => (val_main_v22 (F := Ideal) x0 x2 x3 x4 x5 x6) (ix3 (fin8 n) t d)) 4 + (val_main_v22 (F := Ideal) x0 x2 x3 x4 x5 x6) (ix3 (fin8 4) t d) := by
  rw [mem, ← mA3_at]
  pointwise [val_main_v113, val_main_v112, val_main_v111, val_main_v25]
  rfl

/-- The spike of step 4. -/
theorem sA4_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v128 (F := Ideal) x0 x2 x3 x4 x5 x6) (ix2 t d) = fire (mem (fun n => (val_main_v22 (F := Ideal) x0 x2 x3 x4 x5 x6) (ix3 (fin8 n) t d)) 4 + (val_main_v22 (F := Ideal) x0 x2 x3 x4 x5 x6) (ix3 (fin8 4) t d)) := by
  rw [← uA4_at]
  pointwise [val_main_v128, val_main_v126, val_main_v125, val_main_v124, val_main_cst_32, val_main_v127, val_main_v123, val_main_v122, val_main_cst_31, val_main_v121, val_main_v120, val_main_cst_30, val_main_v119, val_main_v118, val_main_v117, val_main_v116, val_main_cst_29, val_main_v115, val_main_v114, val_main_cst_28]
  rw [bit_fire]
  exact fire_surrogate _ _

theorem mA4_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v131 (F := Ideal) x0 x2 x3 x4 x5 x6) (ix2 t d) = (mem (fun n => (val_main_v22 (F := Ideal) x0 x2 x3 x4 x5 x6) (ix3 (fin8 n) t d)) 4 + (val_main_v22 (F := Ideal) x0 x2 x3 x4 x5 x6) (ix3 (fin8 4) t d)) * (1 - fire (mem (fun n => (val_main_v22 (F := Ideal) x0 x2 x3 x4 x5 x6) (ix3 (fin8 n) t d)) 4 + (val_main_v22 (F := Ideal) x0 x2 x3 x4 x5 x6) (ix3 (fin8 4) t d))) := by
  rw [← sA4_at, ← uA4_at]
  pointwise [val_main_v131, val_main_v130, val_main_v129, val_main_cst_33]

theorem uA5_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v134 (F := Ideal) x0 x2 x3 x4 x5 x6) (ix2 t d) = mem (fun n => (val_main_v22 (F := Ideal) x0 x2 x3 x4 x5 x6) (ix3 (fin8 n) t d)) 5 + (val_main_v22 (F := Ideal) x0 x2 x3 x4 x5 x6) (ix3 (fin8 5) t d) := by
  rw [mem, ← mA4_at]
  pointwise [val_main_v134, val_main_v133, val_main_v132, val_main_v25]
  rfl

/-- The spike of step 5. -/
theorem sA5_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v149 (F := Ideal) x0 x2 x3 x4 x5 x6) (ix2 t d) = fire (mem (fun n => (val_main_v22 (F := Ideal) x0 x2 x3 x4 x5 x6) (ix3 (fin8 n) t d)) 5 + (val_main_v22 (F := Ideal) x0 x2 x3 x4 x5 x6) (ix3 (fin8 5) t d)) := by
  rw [← uA5_at]
  pointwise [val_main_v149, val_main_v147, val_main_v146, val_main_v145, val_main_cst_38, val_main_v148, val_main_v144, val_main_v143, val_main_cst_37, val_main_v142, val_main_v141, val_main_cst_36, val_main_v140, val_main_v139, val_main_v138, val_main_v137, val_main_cst_35, val_main_v136, val_main_v135, val_main_cst_34]
  rw [bit_fire]
  exact fire_surrogate _ _

theorem mA5_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v152 (F := Ideal) x0 x2 x3 x4 x5 x6) (ix2 t d) = (mem (fun n => (val_main_v22 (F := Ideal) x0 x2 x3 x4 x5 x6) (ix3 (fin8 n) t d)) 5 + (val_main_v22 (F := Ideal) x0 x2 x3 x4 x5 x6) (ix3 (fin8 5) t d)) * (1 - fire (mem (fun n => (val_main_v22 (F := Ideal) x0 x2 x3 x4 x5 x6) (ix3 (fin8 n) t d)) 5 + (val_main_v22 (F := Ideal) x0 x2 x3 x4 x5 x6) (ix3 (fin8 5) t d))) := by
  rw [← sA5_at, ← uA5_at]
  pointwise [val_main_v152, val_main_v151, val_main_v150, val_main_cst_39]

theorem uA6_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v155 (F := Ideal) x0 x2 x3 x4 x5 x6) (ix2 t d) = mem (fun n => (val_main_v22 (F := Ideal) x0 x2 x3 x4 x5 x6) (ix3 (fin8 n) t d)) 6 + (val_main_v22 (F := Ideal) x0 x2 x3 x4 x5 x6) (ix3 (fin8 6) t d) := by
  rw [mem, ← mA5_at]
  pointwise [val_main_v155, val_main_v154, val_main_v153, val_main_v25]
  rfl

/-- The spike of step 6. -/
theorem sA6_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v170 (F := Ideal) x0 x2 x3 x4 x5 x6) (ix2 t d) = fire (mem (fun n => (val_main_v22 (F := Ideal) x0 x2 x3 x4 x5 x6) (ix3 (fin8 n) t d)) 6 + (val_main_v22 (F := Ideal) x0 x2 x3 x4 x5 x6) (ix3 (fin8 6) t d)) := by
  rw [← uA6_at]
  pointwise [val_main_v170, val_main_v168, val_main_v167, val_main_v166, val_main_cst_44, val_main_v169, val_main_v165, val_main_v164, val_main_cst_43, val_main_v163, val_main_v162, val_main_cst_42, val_main_v161, val_main_v160, val_main_v159, val_main_v158, val_main_cst_41, val_main_v157, val_main_v156, val_main_cst_40]
  rw [bit_fire]
  exact fire_surrogate _ _

theorem mA6_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v173 (F := Ideal) x0 x2 x3 x4 x5 x6) (ix2 t d) = (mem (fun n => (val_main_v22 (F := Ideal) x0 x2 x3 x4 x5 x6) (ix3 (fin8 n) t d)) 6 + (val_main_v22 (F := Ideal) x0 x2 x3 x4 x5 x6) (ix3 (fin8 6) t d)) * (1 - fire (mem (fun n => (val_main_v22 (F := Ideal) x0 x2 x3 x4 x5 x6) (ix3 (fin8 n) t d)) 6 + (val_main_v22 (F := Ideal) x0 x2 x3 x4 x5 x6) (ix3 (fin8 6) t d))) := by
  rw [← sA6_at, ← uA6_at]
  pointwise [val_main_v173, val_main_v172, val_main_v171, val_main_cst_45]

theorem uA7_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v176 (F := Ideal) x0 x2 x3 x4 x5 x6) (ix2 t d) = mem (fun n => (val_main_v22 (F := Ideal) x0 x2 x3 x4 x5 x6) (ix3 (fin8 n) t d)) 7 + (val_main_v22 (F := Ideal) x0 x2 x3 x4 x5 x6) (ix3 (fin8 7) t d) := by
  rw [mem, ← mA6_at]
  pointwise [val_main_v176, val_main_v175, val_main_v174, val_main_v25]
  rfl

/-- The spike of step 7. -/
theorem sA7_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v191 (F := Ideal) x0 x2 x3 x4 x5 x6) (ix2 t d) = fire (mem (fun n => (val_main_v22 (F := Ideal) x0 x2 x3 x4 x5 x6) (ix3 (fin8 n) t d)) 7 + (val_main_v22 (F := Ideal) x0 x2 x3 x4 x5 x6) (ix3 (fin8 7) t d)) := by
  rw [← uA7_at]
  pointwise [val_main_v191, val_main_v189, val_main_v188, val_main_v187, val_main_cst_50, val_main_v190, val_main_v186, val_main_v185, val_main_cst_49, val_main_v184, val_main_v183, val_main_cst_48, val_main_v182, val_main_v181, val_main_v180, val_main_v179, val_main_cst_47, val_main_v178, val_main_v177, val_main_cst_46]
  rw [bit_fire]
  exact fire_surrogate _ _

end Cert.ReferenceIdeal.Val

end
-- ==== Proof.V.R4.lean ====
module

public import Idealize.ShloMosaic.Lib.Pointwise
public import Idealize.ShloMosaic.Lib.ReduceAll
public import Idealize.ShloMosaic.Lib.Routing.OpsOne
public import proofs.«01_k».proof.Proof.V.R3

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.SL.Sem
open Cert.Spec
open scoped BigOperators

theorem cA0_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v204 (F := Ideal) x0 x2 x3 x4 x5 x6) (ix3 0 t d) = (val_main_v44 (F := Ideal) x0 x2 x3 x4 x5 x6) (ix2 t d) := by
  pointwise [val_main_v204, val_main_v26, val_main_cst_3, val_main_v203, val_main_v195, val_main_v196, val_main_v197, val_main_v198, val_main_v199, val_main_v200, val_main_v201, val_main_v202]

theorem cA1_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v204 (F := Ideal) x0 x2 x3 x4 x5 x6) (ix3 1 t d) = (val_main_v65 (F := Ideal) x0 x2 x3 x4 x5 x6) (ix2 t d) := by
  pointwise [val_main_v204, val_main_v26, val_main_cst_3, val_main_v203, val_main_v195, val_main_v196, val_main_v197, val_main_v198, val_main_v199, val_main_v200, val_main_v201, val_main_v202]

theorem cA2_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v204 (F := Ideal) x0 x2 x3 x4 x5 x6) (ix3 2 t d) = (val_main_v86 (F := Ideal) x0 x2 x3 x4 x5 x6) (ix2 t d) := by
  pointwise [val_main_v204, val_main_v26, val_main_cst_3, val_main_v203, val_main_v195, val_main_v196, val_main_v197, val_main_v198, val_main_v199, val_main_v200, val_main_v201, val_main_v202]

theorem cA3_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v204 (F := Ideal) x0 x2 x3 x4 x5 x6) (ix3 3 t d) = (val_main_v107 (F := Ideal) x0 x2 x3 x4 x5 x6) (ix2 t d) := by
  pointwise [val_main_v204, val_main_v26, val_main_cst_3, val_main_v203, val_main_v195, val_main_v196, val_main_v197, val_main_v198, val_main_v199, val_main_v200, val_main_v201, val_main_v202]

theorem cA4_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v204 (F := Ideal) x0 x2 x3 x4 x5 x6) (ix3 4 t d) = (val_main_v128 (F := Ideal) x0 x2 x3 x4 x5 x6) (ix2 t d) := by
  pointwise [val_main_v204, val_main_v26, val_main_cst_3, val_main_v203, val_main_v195, val_main_v196, val_main_v197, val_main_v198, val_main_v199, val_main_v200, val_main_v201, val_main_v202]

theorem cA5_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v204 (F := Ideal) x0 x2 x3 x4 x5 x6) (ix3 5 t d) = (val_main_v149 (F := Ideal) x0 x2 x3 x4 x5 x6) (ix2 t d) := by
  pointwise [val_main_v204, val_main_v26, val_main_cst_3, val_main_v203, val_main_v195, val_main_v196, val_main_v197, val_main_v198, val_main_v199, val_main_v200, val_main_v201, val_main_v202]

theorem cA6_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v204 (F := Ideal) x0 x2 x3 x4 x5 x6) (ix3 6 t d) = (val_main_v170 (F := Ideal) x0 x2 x3 x4 x5 x6) (ix2 t d) := by
  pointwise [val_main_v204, val_main_v26, val_main_cst_3, val_main_v203, val_main_v195, val_main_v196, val_main_v197, val_main_v198, val_main_v199, val_main_v200, val_main_v201, val_main_v202]

theorem cA7_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (t : Fin 2048) (d : Fin 256) : (val_main_v204 (F := Ideal) x0 x2 x3 x4 x5 x6) (ix3 7 t d) = (val_main_v191 (F := Ideal) x0 x2 x3 x4 x5 x6) (ix2 t d) := by
  pointwise [val_main_v204, val_main_v26, val_main_cst_3, val_main_v203, val_main_v195, val_main_v196, val_main_v197, val_main_v198, val_main_v199, val_main_v200, val_main_v201, val_main_v202]

/-- The spikes of the layer. -/
theorem spkA_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (b : Fin 8) (t : Fin 2048) (d : Fin 256) : (val_main_v204 (F := Ideal) x0 x2 x3 x4 x5 x6) (ix3 b t d) = spikes (fun b t d => (val_main_v22 (F := Ideal) x0 x2 x3 x4 x5 x6) (ix3 b t d)) b t d := by
  fin_cases b
  · exact (cA0_at x0 x2 x3 x4 x5 x6 t d).trans (sA0_at x0 x2 x3 x4 x5 x6 t d)
  · exact (cA1_at x0 x2 x3 x4 x5 x6 t d).trans (sA1_at x0 x2 x3 x4 x5 x6 t d)
  · exact (cA2_at x0 x2 x3 x4 x5 x6 t d).trans (sA2_at x0 x2 x3 x4 x5 x6 t d)
  · exact (cA3_at x0 x2 x3 x4 x5 x6 t d).trans (sA3_at x0 x2 x3 x4 x5 x6 t d)
  · exact (cA4_at x0 x2 x3 x4 x5 x6 t d).trans (sA4_at x0 x2 x3 x4 x5 x6 t d)
  · exact (cA5_at x0 x2 x3 x4 x5 x6 t d).trans (sA5_at x0 x2 x3 x4 x5 x6 t d)
  · exact (cA6_at x0 x2 x3 x4 x5 x6 t d).trans (sA6_at x0 x2 x3 x4 x5 x6 t d)
  · exact (cA7_at x0 x2 x3 x4 x5 x6 t d).trans (sA7_at x0 x2 x3 x4 x5 x6 t d)

end Cert.ReferenceIdeal.Val

end
-- ==== Proof.V.R3B.lean ====
module

public import Idealize.ShloMosaic.Lib.Pointwise
public import Idealize.ShloMosaic.Lib.ReduceAll
public import Idealize.ShloMosaic.Lib.Routing.OpsOne
public import proofs.«01_k».proof.Proof.V.RT

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.SL.Sem
open Cert.Spec
open scoped BigOperators

theorem uB0_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v233 (F := Ideal) x0 x2 x3 x4 x5 x6 x7 x8 x9 x10) (ix2 t d) = mem (fun n => (val_main_v226 (F := Ideal) x0 x2 x3 x4 x5 x6 x7 x8 x9 x10) (ix3 (fin8 n) t d)) 0 + (val_main_v226 (F := Ideal) x0 x2 x3 x4 x5 x6 x7 x8 x9 x10) (ix3 (fin8 0) t d) := by
  rw [mem]
  pointwise [val_main_v233, val_main_v227, val_main_cst_56, val_main_v232, val_main_v231, val_main_v229]
  rfl

/-- The spike of step 0. -/
theorem sB0_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v248 (F := Ideal) x0 x2 x3 x4 x5 x6 x7 x8 x9 x10) (ix2 t d) = fire (mem (fun n => (val_main_v226 (F := Ideal) x0 x2 x3 x4 x5 x6 x7 x8 x9 x10) (ix3 (fin8 n) t d)) 0 + (val_main_v226 (F := Ideal) x0 x2 x3 x4 x5 x6 x7 x8 x9 x10) (ix3 (fin8 0) t d)) := by
  rw [← uB0_at]
  pointwise [val_main_v248, val_main_v246, val_main_v245, val_main_v244, val_main_cst_62, val_main_v247, val_main_v243, val_main_v242, val_main_cst_61, val_main_v241, val_main_v240, val_main_cst_60, val_main_v239, val_main_v238, val_main_v237, val_main_v236, val_main_cst_59, val_main_v235, val_main_v234, val_main_cst_58]
  rw [bit_fire]
  exact fire_surrogate _ _

theorem mB0_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v251 (F := Ideal) x0 x2 x3 x4 x5 x6 x7 x8 x9 x10) (ix2 t d) = (mem (fun n => (val_main_v226 (F := Ideal) x0 x2 x3 x4 x5 x6 x7 x8 x9 x10) (ix3 (fin8 n) t d)) 0 + (val_main_v226 (F := Ideal) x0 x2 x3 x4 x5 x6 x7 x8 x9 x10) (ix3 (fin8 0) t d)) * (1 - fire (mem (fun n => (val_main_v226 (F := Ideal) x0 x2 x3 x4 x5 x6 x7 x8 x9 x10) (ix3 (fin8 n) t d)) 0 + (val_main_v226 (F := Ideal) x0 x2 x3 x4 x5 x6 x7 x8 x9 x10) (ix3 (fin8 0) t d))) := by
  rw [← sB0_at, ← uB0_at]
  pointwise [val_main_v251, val_main_v250, val_main_v249, val_main_cst_63]

theorem uB1_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v254 (F := Ideal) x0 x2 x3 x4 x5 x6 x7 x8 x9 x10) (ix2 t d) = mem (fun n => (val_main_v226 (F := Ideal) x0 x2 x3 x4 x5 x6 x7 x8 x9 x10) (ix3 (fin8 n) t d)) 1 + (val_main_v226 (F := Ideal) x0 x2 x3 x4 x5 x6 x7 x8 x9 x10) (ix3 (fin8 1) t d) := by
  rw [mem, ← mB0_at]
  pointwise [val_main_v254, val_main_v253, val_main_v252, val_main_v229]
  rfl

/-- The spike of step 1. -/
theorem sB1_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v269 (F := Ideal) x0 x2 x3 x4 x5 x6 x7 x8 x9 x10) (ix2 t d) = fire (mem (fun n => (val_main_v226 (F := Ideal) x0 x2 x3 x4 x5 x6 x7 x8 x9 x10) (ix3 (fin8 n) t d)) 1 + (val_main_v226 (F := Ideal) x0 x2 x3 x4 x5 x6 x7 x8 x9 x10) (ix3 (fin8 1) t d)) := by
  rw [← uB1_at]
  pointwise [val_main_v269, val_main_v267, val_main_v266, val_main_v265, val_main_cst_68, val_main_v268, val_main_v264, val_main_v263, val_main_cst_67, val_main_v262, val_main_v261, val_main_cst_66, val_main_v260, val_main_v259, val_main_v258, val_main_v257, val_main_cst_65, val_main_v256, val_main_v255, val_main_cst_64]
  rw [bit_fire]
  exact fire_surrogate _ _

theorem mB1_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v272 (F := Ideal) x0 x2 x3 x4 x5 x6 x7 x8 x9 x10) (ix2 t d) = (mem (fun n => (val_main_v226 (F := Ideal) x0 x2 x3 x4 x5 x6 x7 x8 x9 x10) (ix3 (fin8 n) t d)) 1 + (val_main_v226 (F := Ideal) x0 x2 x3 x4 x5 x6 x7 x8 x9 x10) (ix3 (fin8 1) t d)) * (1 - fire (mem (fun n => (val_main_v226 (F := Ideal) x0 x2 x3 x4 x5 x6 x7 x8 x9 x10) (ix3 (fin8 n) t d)) 1 + (val_main_v226 (F := Ideal) x0 x2 x3 x4 x5 x6 x7 x8 x9 x10) (ix3 (fin8 1) t d))) := by
  rw [← sB1_at, ← uB1_at]
  pointwise [val_main_v272, val_main_v271, val_main_v270, val_main_cst_69]

theorem uB2_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v275 (F := Ideal) x0 x2 x3 x4 x5 x6 x7 x8 x9 x10) (ix2 t d) = mem (fun n => (val_main_v226 (F := Ideal) x0 x2 x3 x4 x5 x6 x7 x8 x9 x10) (ix3 (fin8 n) t d)) 2 + (val_main_v226 (F := Ideal) x0 x2 x3 x4 x5 x6 x7 x8 x9 x10) (ix3 (fin8 2) t d) := by
  rw [mem, ← mB1_at]
  pointwise [val_main_v275, val_main_v274, val_main_v273, val_main_v229]
  rfl

/-- The spike of step 2. -/
theorem sB2_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v290 (F := Ideal) x0 x2 x3 x4 x5 x6 x7 x8 x9 x10) (ix2 t d) = fire (mem (fun n => (val_main_v226 (F := Ideal) x0 x2 x3 x4 x5 x6 x7 x8 x9 x10) (ix3 (fin8 n) t d)) 2 + (val_main_v226 (F := Ideal) x0 x2 x3 x4 x5 x6 x7 x8 x9 x10) (ix3 (fin8 2) t d)) := by
  rw [← uB2_at]
  pointwise [val_main_v290, val_main_v288, val_main_v287, val_main_v286, val_main_cst_74, val_main_v289, val_main_v285, val_main_v284, val_main_cst_73, val_main_v283, val_main_v282, val_main_cst_72, val_main_v281, val_main_v280, val_main_v279, val_main_v278, val_main_cst_71, val_main_v277, val_main_v276, val_main_cst_70]
  rw [bit_fire]
  exact fire_surrogate _ _

theorem mB2_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v293 (F := Ideal) x0 x2 x3 x4 x5 x6 x7 x8 x9 x10) (ix2 t d) = (mem (fun n => (val_main_v226 (F := Ideal) x0 x2 x3 x4 x5 x6 x7 x8 x9 x10) (ix3 (fin8 n) t d)) 2 + (val_main_v226 (F := Ideal) x0 x2 x3 x4 x5 x6 x7 x8 x9 x10) (ix3 (fin8 2) t d)) * (1 - fire (mem (fun n => (val_main_v226 (F := Ideal) x0 x2 x3 x4 x5 x6 x7 x8 x9 x10) (ix3 (fin8 n) t d)) 2 + (val_main_v226 (F := Ideal) x0 x2 x3 x4 x5 x6 x7 x8 x9 x10) (ix3 (fin8 2) t d))) := by
  rw [← sB2_at, ← uB2_at]
  pointwise [val_main_v293, val_main_v292, val_main_v291, val_main_cst_75]

theorem uB3_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v296 (F := Ideal) x0 x2 x3 x4 x5 x6 x7 x8 x9 x10) (ix2 t d) = mem (fun n => (val_main_v226 (F := Ideal) x0 x2 x3 x4 x5 x6 x7 x8 x9 x10) (ix3 (fin8 n) t d)) 3 + (val_main_v226 (F := Ideal) x0 x2 x3 x4 x5 x6 x7 x8 x9 x10) (ix3 (fin8 3) t d) := by
  rw [mem, ← mB2_at]
  pointwise [val_main_v296, val_main_v295, val_main_v294, val_main_v229]
  rfl

/-- The spike of step 3. -/
theorem sB3_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v311 (F := Ideal) x0 x2 x3 x4 x5 x6 x7 x8 x9 x10) (ix2 t d) = fire (mem (fun n => (val_main_v226 (F := Ideal) x0 x2 x3 x4 x5 x6 x7 x8 x9 x10) (ix3 (fin8 n) t d)) 3 + (val_main_v226 (F := Ideal) x0 x2 x3 x4 x5 x6 x7 x8 x9 x10) (ix3 (fin8 3) t d)) := by
  rw [← uB3_at]
  pointwise [val_main_v311, val_main_v309, val_main_v308, val_main_v307, val_main_cst_80, val_main_v310, val_main_v306, val_main_v305, val_main_cst_79, val_main_v304, val_main_v303, val_main_cst_78, val_main_v302, val_main_v301, val_main_v300, val_main_v299, val_main_cst_77, val_main_v298, val_main_v297, val_main_cst_76]
  rw [bit_fire]
  exact fire_surrogate _ _

theorem mB3_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v314 (F := Ideal) x0 x2 x3 x4 x5 x6 x7 x8 x9 x10) (ix2 t d) = (mem (fun n => (val_main_v226 (F := Ideal) x0 x2 x3 x4 x5 x6 x7 x8 x9 x10) (ix3 (fin8 n) t d)) 3 + (val_main_v226 (F := Ideal) x0 x2 x3 x4 x5 x6 x7 x8 x9 x10) (ix3 (fin8 3) t d)) * (1 - fire (mem (fun n => (val_main_v226 (F := Ideal) x0 x2 x3 x4 x5 x6 x7 x8 x9 x10) (ix3 (fin8 n) t d)) 3 + (val_main_v226 (F := Ideal) x0 x2 x3 x4 x5 x6 x7 x8 x9 x10) (ix3 (fin8 3) t d))) := by
  rw [← sB3_at, ← uB3_at]
  pointwise [val_main_v314, val_main_v313, val_main_v312, val_main_cst_81]

theorem uB4_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v317 (F := Ideal) x0 x2 x3 x4 x5 x6 x7 x8 x9 x10) (ix2 t d) = mem (fun n => (val_main_v226 (F := Ideal) x0 x2 x3 x4 x5 x6 x7 x8 x9 x10) (ix3 (fin8 n) t d)) 4 + (val_main_v226 (F := Ideal) x0 x2 x3 x4 x5 x6 x7 x8 x9 x10) (ix3 (fin8 4) t d) := by
  rw [mem, ← mB3_at]
  pointwise [val_main_v317, val_main_v316, val_main_v315, val_main_v229]
  rfl

/-- The spike of step 4. -/
theorem sB4_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v332 (F := Ideal) x0 x2 x3 x4 x5 x6 x7 x8 x9 x10) (ix2 t d) = fire (mem (fun n => (val_main_v226 (F := Ideal) x0 x2 x3 x4 x5 x6 x7 x8 x9 x10) (ix3 (fin8 n) t d)) 4 + (val_main_v226 (F := Ideal) x0 x2 x3 x4 x5 x6 x7 x8 x9 x10) (ix3 (fin8 4) t d)) := by
  rw [← uB4_at]
  pointwise [val_main_v332, val_main_v330, val_main_v329, val_main_v328, val_main_cst_86, val_main_v331, val_main_v327, val_main_v326, val_main_cst_85, val_main_v325, val_main_v324, val_main_cst_84, val_main_v323, val_main_v322, val_main_v321, val_main_v320, val_main_cst_83, val_main_v319, val_main_v318, val_main_cst_82]
  rw [bit_fire]
  exact fire_surrogate _ _

theorem mB4_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v335 (F := Ideal) x0 x2 x3 x4 x5 x6 x7 x8 x9 x10) (ix2 t d) = (mem (fun n => (val_main_v226 (F := Ideal) x0 x2 x3 x4 x5 x6 x7 x8 x9 x10) (ix3 (fin8 n) t d)) 4 + (val_main_v226 (F := Ideal) x0 x2 x3 x4 x5 x6 x7 x8 x9 x10) (ix3 (fin8 4) t d)) * (1 - fire (mem (fun n => (val_main_v226 (F := Ideal) x0 x2 x3 x4 x5 x6 x7 x8 x9 x10) (ix3 (fin8 n) t d)) 4 + (val_main_v226 (F := Ideal) x0 x2 x3 x4 x5 x6 x7 x8 x9 x10) (ix3 (fin8 4) t d))) := by
  rw [← sB4_at, ← uB4_at]
  pointwise [val_main_v335, val_main_v334, val_main_v333, val_main_cst_87]

theorem uB5_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v338 (F := Ideal) x0 x2 x3 x4 x5 x6 x7 x8 x9 x10) (ix2 t d) = mem (fun n => (val_main_v226 (F := Ideal) x0 x2 x3 x4 x5 x6 x7 x8 x9 x10) (ix3 (fin8 n) t d)) 5 + (val_main_v226 (F := Ideal) x0 x2 x3 x4 x5 x6 x7 x8 x9 x10) (ix3 (fin8 5) t d) := by
  rw [mem, ← mB4_at]
  pointwise [val_main_v338, val_main_v337, val_main_v336, val_main_v229]
  rfl

/-- The spike of step 5. -/
theorem sB5_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v353 (F := Ideal) x0 x2 x3 x4 x5 x6 x7 x8 x9 x10) (ix2 t d) = fire (mem (fun n => (val_main_v226 (F := Ideal) x0 x2 x3 x4 x5 x6 x7 x8 x9 x10) (ix3 (fin8 n) t d)) 5 + (val_main_v226 (F := Ideal) x0 x2 x3 x4 x5 x6 x7 x8 x9 x10) (ix3 (fin8 5) t d)) := by
  rw [← uB5_at]
  pointwise [val_main_v353, val_main_v351, val_main_v350, val_main_v349, val_main_cst_92, val_main_v352, val_main_v348, val_main_v347, val_main_cst_91, val_main_v346, val_main_v345, val_main_cst_90, val_main_v344, val_main_v343, val_main_v342, val_main_v341, val_main_cst_89, val_main_v340, val_main_v339, val_main_cst_88]
  rw [bit_fire]
  exact fire_surrogate _ _

theorem mB5_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v356 (F := Ideal) x0 x2 x3 x4 x5 x6 x7 x8 x9 x10) (ix2 t d) = (mem (fun n => (val_main_v226 (F := Ideal) x0 x2 x3 x4 x5 x6 x7 x8 x9 x10) (ix3 (fin8 n) t d)) 5 + (val_main_v226 (F := Ideal) x0 x2 x3 x4 x5 x6 x7 x8 x9 x10) (ix3 (fin8 5) t d)) * (1 - fire (mem (fun n => (val_main_v226 (F := Ideal) x0 x2 x3 x4 x5 x6 x7 x8 x9 x10) (ix3 (fin8 n) t d)) 5 + (val_main_v226 (F := Ideal) x0 x2 x3 x4 x5 x6 x7 x8 x9 x10) (ix3 (fin8 5) t d))) := by
  rw [← sB5_at, ← uB5_at]
  pointwise [val_main_v356, val_main_v355, val_main_v354, val_main_cst_93]

theorem uB6_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v359 (F := Ideal) x0 x2 x3 x4 x5 x6 x7 x8 x9 x10) (ix2 t d) = mem (fun n => (val_main_v226 (F := Ideal) x0 x2 x3 x4 x5 x6 x7 x8 x9 x10) (ix3 (fin8 n) t d)) 6 + (val_main_v226 (F := Ideal) x0 x2 x3 x4 x5 x6 x7 x8 x9 x10) (ix3 (fin8 6) t d) := by
  rw [mem, ← mB5_at]
  pointwise [val_main_v359, val_main_v358, val_main_v357, val_main_v229]
  rfl

/-- The spike of step 6. -/
theorem sB6_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v374 (F := Ideal) x0 x2 x3 x4 x5 x6 x7 x8 x9 x10) (ix2 t d) = fire (mem (fun n => (val_main_v226 (F := Ideal) x0 x2 x3 x4 x5 x6 x7 x8 x9 x10) (ix3 (fin8 n) t d)) 6 + (val_main_v226 (F := Ideal) x0 x2 x3 x4 x5 x6 x7 x8 x9 x10) (ix3 (fin8 6) t d)) := by
  rw [← uB6_at]
  pointwise [val_main_v374, val_main_v372, val_main_v371, val_main_v370, val_main_cst_98, val_main_v373, val_main_v369, val_main_v368, val_main_cst_97, val_main_v367, val_main_v366, val_main_cst_96, val_main_v365, val_main_v364, val_main_v363, val_main_v362, val_main_cst_95, val_main_v361, val_main_v360, val_main_cst_94]
  rw [bit_fire]
  exact fire_surrogate _ _

theorem mB6_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v377 (F := Ideal) x0 x2 x3 x4 x5 x6 x7 x8 x9 x10) (ix2 t d) = (mem (fun n => (val_main_v226 (F := Ideal) x0 x2 x3 x4 x5 x6 x7 x8 x9 x10) (ix3 (fin8 n) t d)) 6 + (val_main_v226 (F := Ideal) x0 x2 x3 x4 x5 x6 x7 x8 x9 x10) (ix3 (fin8 6) t d)) * (1 - fire (mem (fun n => (val_main_v226 (F := Ideal) x0 x2 x3 x4 x5 x6 x7 x8 x9 x10) (ix3 (fin8 n) t d)) 6 + (val_main_v226 (F := Ideal) x0 x2 x3 x4 x5 x6 x7 x8 x9 x10) (ix3 (fin8 6) t d))) := by
  rw [← sB6_at, ← uB6_at]
  pointwise [val_main_v377, val_main_v376, val_main_v375, val_main_cst_99]

theorem uB7_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v380 (F := Ideal) x0 x2 x3 x4 x5 x6 x7 x8 x9 x10) (ix2 t d) = mem (fun n => (val_main_v226 (F := Ideal) x0 x2 x3 x4 x5 x6 x7 x8 x9 x10) (ix3 (fin8 n) t d)) 7 + (val_main_v226 (F := Ideal) x0 x2 x3 x4 x5 x6 x7 x8 x9 x10) (ix3 (fin8 7) t d) := by
  rw [mem, ← mB6_at]
  pointwise [val_main_v380, val_main_v379, val_main_v378, val_main_v229]
  rfl

/-- The spike of step 7. -/
theorem sB7_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v395 (F := Ideal) x0 x2 x3 x4 x5 x6 x7 x8 x9 x10) (ix2 t d) = fire (mem (fun n => (val_main_v226 (F := Ideal) x0 x2 x3 x4 x5 x6 x7 x8 x9 x10) (ix3 (fin8 n) t d)) 7 + (val_main_v226 (F := Ideal) x0 x2 x3 x4 x5 x6 x7 x8 x9 x10) (ix3 (fin8 7) t d)) := by
  rw [← uB7_at]
  pointwise [val_main_v395, val_main_v393, val_main_v392, val_main_v391, val_main_cst_104, val_main_v394, val_main_v390, val_main_v389, val_main_cst_103, val_main_v388, val_main_v387, val_main_cst_102, val_main_v386, val_main_v385, val_main_v384, val_main_v383, val_main_cst_101, val_main_v382, val_main_v381, val_main_cst_100]
  rw [bit_fire]
  exact fire_surrogate _ _

end Cert.ReferenceIdeal.Val

end
-- ==== Proof.V.R4B.lean ====
module

public import Idealize.ShloMosaic.Lib.Pointwise
public import Idealize.ShloMosaic.Lib.ReduceAll
public import Idealize.ShloMosaic.Lib.Routing.OpsOne
public import proofs.«01_k».proof.Proof.V.R3B

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.SL.Sem
open Cert.Spec
open scoped BigOperators

theorem cB0_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v408 (F := Ideal) x0 x2 x3 x4 x5 x6 x7 x8 x9 x10) (ix3 0 t d) = (val_main_v248 (F := Ideal) x0 x2 x3 x4 x5 x6 x7 x8 x9 x10) (ix2 t d) := by
  pointwise [val_main_v408, val_main_v230, val_main_cst_57, val_main_v407, val_main_v399, val_main_v400, val_main_v401, val_main_v402, val_main_v403, val_main_v404, val_main_v405, val_main_v406]

theorem cB1_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v408 (F := Ideal) x0 x2 x3 x4 x5 x6 x7 x8 x9 x10) (ix3 1 t d) = (val_main_v269 (F := Ideal) x0 x2 x3 x4 x5 x6 x7 x8 x9 x10) (ix2 t d) := by
  pointwise [val_main_v408, val_main_v230, val_main_cst_57, val_main_v407, val_main_v399, val_main_v400, val_main_v401, val_main_v402, val_main_v403, val_main_v404, val_main_v405, val_main_v406]

theorem cB2_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v408 (F := Ideal) x0 x2 x3 x4 x5 x6 x7 x8 x9 x10) (ix3 2 t d) = (val_main_v290 (F := Ideal) x0 x2 x3 x4 x5 x6 x7 x8 x9 x10) (ix2 t d) := by
  pointwise [val_main_v408, val_main_v230, val_main_cst_57, val_main_v407, val_main_v399, val_main_v400, val_main_v401, val_main_v402, val_main_v403, val_main_v404, val_main_v405, val_main_v406]

theorem cB3_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v408 (F := Ideal) x0 x2 x3 x4 x5 x6 x7 x8 x9 x10) (ix3 3 t d) = (val_main_v311 (F := Ideal) x0 x2 x3 x4 x5 x6 x7 x8 x9 x10) (ix2 t d) := by
  pointwise [val_main_v408, val_main_v230, val_main_cst_57, val_main_v407, val_main_v399, val_main_v400, val_main_v401, val_main_v402, val_main_v403, val_main_v404, val_main_v405, val_main_v406]

theorem cB4_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v408 (F := Ideal) x0 x2 x3 x4 x5 x6 x7 x8 x9 x10) (ix3 4 t d) = (val_main_v332 (F := Ideal) x0 x2 x3 x4 x5 x6 x7 x8 x9 x10) (ix2 t d) := by
  pointwise [val_main_v408, val_main_v230, val_main_cst_57, val_main_v407, val_main_v399, val_main_v400, val_main_v401, val_main_v402, val_main_v403, val_main_v404, val_main_v405, val_main_v406]

theorem cB5_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v408 (F := Ideal) x0 x2 x3 x4 x5 x6 x7 x8 x9 x10) (ix3 5 t d) = (val_main_v353 (F := Ideal) x0 x2 x3 x4 x5 x6 x7 x8 x9 x10) (ix2 t d) := by
  pointwise [val_main_v408, val_main_v230, val_main_cst_57, val_main_v407, val_main_v399, val_main_v400, val_main_v401, val_main_v402, val_main_v403, val_main_v404, val_main_v405, val_main_v406]

theorem cB6_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v408 (F := Ideal) x0 x2 x3 x4 x5 x6 x7 x8 x9 x10) (ix3 6 t d) = (val_main_v374 (F := Ideal) x0 x2 x3 x4 x5 x6 x7 x8 x9 x10) (ix2 t d) := by
  pointwise [val_main_v408, val_main_v230, val_main_cst_57, val_main_v407, val_main_v399, val_main_v400, val_main_v401, val_main_v402, val_main_v403, val_main_v404, val_main_v405, val_main_v406]

theorem cB7_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (t : Fin 2048) (d : Fin 256) : (val_main_v408 (F := Ideal) x0 x2 x3 x4 x5 x6 x7 x8 x9 x10) (ix3 7 t d) = (val_main_v395 (F := Ideal) x0 x2 x3 x4 x5 x6 x7 x8 x9 x10) (ix2 t d) := by
  pointwise [val_main_v408, val_main_v230, val_main_cst_57, val_main_v407, val_main_v399, val_main_v400, val_main_v401, val_main_v402, val_main_v403, val_main_v404, val_main_v405, val_main_v406]

/-- The spikes of the layer. -/
theorem spkB_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (b : Fin 8) (t : Fin 2048) (d : Fin 256) : (val_main_v408 (F := Ideal) x0 x2 x3 x4 x5 x6 x7 x8 x9 x10) (ix3 b t d) = spikes (fun b t d => (val_main_v226 (F := Ideal) x0 x2 x3 x4 x5 x6 x7 x8 x9 x10) (ix3 b t d)) b t d := by
  fin_cases b
  · exact (cB0_at x0 x2 x3 x4 x5 x6 x7 x8 x9 x10 t d).trans (sB0_at x0 x2 x3 x4 x5 x6 x7 x8 x9 x10 t d)
  · exact (cB1_at x0 x2 x3 x4 x5 x6 x7 x8 x9 x10 t d).trans (sB1_at x0 x2 x3 x4 x5 x6 x7 x8 x9 x10 t d)
  · exact (cB2_at x0 x2 x3 x4 x5 x6 x7 x8 x9 x10 t d).trans (sB2_at x0 x2 x3 x4 x5 x6 x7 x8 x9 x10 t d)
  · exact (cB3_at x0 x2 x3 x4 x5 x6 x7 x8 x9 x10 t d).trans (sB3_at x0 x2 x3 x4 x5 x6 x7 x8 x9 x10 t d)
  · exact (cB4_at x0 x2 x3 x4 x5 x6 x7 x8 x9 x10 t d).trans (sB4_at x0 x2 x3 x4 x5 x6 x7 x8 x9 x10 t d)
  · exact (cB5_at x0 x2 x3 x4 x5 x6 x7 x8 x9 x10 t d).trans (sB5_at x0 x2 x3 x4 x5 x6 x7 x8 x9 x10 t d)
  · exact (cB6_at x0 x2 x3 x4 x5 x6 x7 x8 x9 x10 t d).trans (sB6_at x0 x2 x3 x4 x5 x6 x7 x8 x9 x10 t d)
  · exact (cB7_at x0 x2 x3 x4 x5 x6 x7 x8 x9 x10 t d).trans (sB7_at x0 x2 x3 x4 x5 x6 x7 x8 x9 x10 t d)

end Cert.ReferenceIdeal.Val

end
-- ==== Proof.V.R5.lean ====
module

public import Idealize.ShloMosaic.Lib.Pointwise
public import Idealize.ShloMosaic.Lib.ReduceAll
public import Idealize.ShloMosaic.Lib.Routing.OpsOne
public import proofs.«01_k».proof.Proof.V.RT

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.SL.Sem
open Cert.Spec
open scoped BigOperators

/-- The second dense layer. -/
theorem h2_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 : (⟨S256, .f32⟩ : BufTy).Contents (Elt Ideal)) (b : Fin 8) (t : Fin 2048) (d : Fin 256) : (val_main_v208 (F := Ideal) x0 x2 x3 x4 x5 x6 x7 x8) (ix3 b t d) = lin (fun b t d => (val_main_v204 (F := Ideal) x0 x2 x3 x4 x5 x6) (ix3 b t d)) (fun k d => x7 (ix2 k d)) (fun d => x8 (ix1 d)) b t d := by
  unfold lin
  pointwise [val_main_v208, val_main_v205, val_main_v207, val_main_v206]

theorem logit_at (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (b : Fin 8) (t : Fin 2048) : (val_main_v413 (F := Ideal) x0 x2 x3 x4 x5 x6 x7 x8 x9 x10 x11 x12) (ix2 b t) = (lin (fun b t d => (val_main_v408 (F := Ideal) x0 x2 x3 x4 x5 x6 x7 x8 x9 x10) (ix3 b t d)) (fun k d => x11 (ix2 k d)) (fun d => x12 (ix1 d))) b t 0 := by
  unfold lin
  pointwise [val_main_v413, val_main_v412, val_main_v409, val_main_v411, val_main_v410]

/-- The boundaries. -/
theorem bnd_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (b : Fin 8) (t : Fin 2048) : (val_main_v429 (F := Ideal) x0 x1 x2 x3 x4 x5 x6 x7 x8 x9 x10 x11 x12) (ix2 b t) = bnd (fun b t => (lin (fun b t d => (val_main_v408 (F := Ideal) x0 x2 x3 x4 x5 x6 x7 x8 x9 x10) (ix3 b t d)) (fun k d => x11 (ix2 k d)) (fun d => x12 (ix1 d))) b t 0) (fun b t => x1 (ix2 b t)) b t := by
  unfold bnd
  refine (setcol_at _ _ (by pointwise [val_main_v427, val_main_c_110]) _ b t).trans ?_
  by_cases h : t.val = 0
  · rw [if_pos h, if_pos h]
    pointwise [val_main_v428, val_main_cst_111]
  · rw [if_neg h, if_neg h, bnd_alt]
    dsimp only
    rw [← logit_at]
    unfold Ideal.logistic
    pointwise [val_main_v426, val_main_v421, val_main_v419, val_main_v418, val_main_cst_107, val_main_v417, val_main_v416, val_main_cst_106, val_main_v415, val_main_v414, val_main_v420, val_main_v425, val_main_v424, val_main_cst_109, val_main_v423, val_main_v422, val_main_cst_108]
    rfl

/-- The token of each position. -/
theorem tok_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (b : Fin 8) (t : Fin 2048) : (val_main_v434 (F := Ideal) x0 x1 x2 x3 x4 x5 x6 x7 x8 x9 x10 x11 x12) (ix2 b t) = tok (fun t => bnd (fun b t => (lin (fun b t d => (val_main_v408 (F := Ideal) x0 x2 x3 x4 x5 x6 x7 x8 x9 x10) (ix3 b t d)) (fun k d => x11 (ix2 k d)) (fun d => x12 (ix1 d))) b t 0) (fun b t => x1 (ix2 b t)) b t) t := by
  unfold tok
  have e : (val_main_v430 (F := Ideal) x0 x1 x2 x3 x4 x5 x6 x7 x8 x9 x10 x11 x12) (ix2 b t) = win (ext (fun t => bnd (fun b t => (lin (fun b t d => (val_main_v408 (F := Ideal) x0 x2 x3 x4 x5 x6 x7 x8 x9 x10) (ix3 b t d)) (fun k d => x11 (ix2 k d)) (fun d => x12 (ix1 d))) b t 0) (fun b t => x1 (ix2 b t)) b t)) 2048 t.val := by
    simp only [← bnd_at]
    exact cumsum_at _ _ (by pointwise [val_main_call3_call0_v0, val_main_call3_call0_cst]) b t
  rw [← e]
  pointwise [val_main_v434, val_main_call4_v4, val_main_call4_v3, val_main_c_114, val_main_call4_v2, val_main_call4_v1, val_main_call4_v0, val_main_c_113, val_main_v433, val_main_v432, val_main_v431, val_main_cst_112]
  rfl

end Cert.ReferenceIdeal.Val

end
-- ==== Proof.V.R6.lean ====
module

public import Idealize.ShloMosaic.Lib.Pointwise
public import Idealize.ShloMosaic.Lib.ReduceAll
public import Idealize.ShloMosaic.Lib.Routing.OpsOne
public import proofs.«01_k».proof.Proof.V.RT

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.SL.Sem
open Cert.Spec
open scoped BigOperators

theorem hot_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (b : Fin 8) (t r : Fin 2048) : (val_main_v435 (F := Ideal) x0 x1 x2 x3 x4 x5 x6 x7 x8 x9 x10 x11 x12) (ix3 b t r) = hot (fun b t => (val_main_v434 (F := Ideal) x0 x1 x2 x3 x4 x5 x6 x7 x8 x9 x10 x11 x12) (ix2 b t)) b r t := by
  unfold hot
  rw [← bit_hot]
  pointwise [val_main_v435, val_main_call5_v4, val_main_call5_v2, val_main_call5_v0, val_main_call5_v3, val_main_call5_v1]
theorem cnt_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (b : Fin 8) (r : Fin 2048) : (val_main_v436 (F := Ideal) x0 x1 x2 x3 x4 x5 x6 x7 x8 x9 x10 x11 x12) (ix2 b r) = ∑ t, hot (fun b t => (val_main_v434 (F := Ideal) x0 x1 x2 x3 x4 x5 x6 x7 x8 x9 x10 x11 x12) (ix2 b t)) b r t := by
  simp only [← hot_at]
  pointwise [val_main_v436, val_main_cst_115]
/-- The rows of each token, averaged. -/
theorem pool_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (hh : ∀ b t d, ∃ r : ℝ, (val_main_v408 (F := Ideal) x0 x2 x3 x4 x5 x6 x7 x8 x9 x10) (ix3 b t d) = r) (b : Fin 8) (r : Fin 2048) (d : Fin 256) : (val_main_v442 (F := Ideal) x0 x1 x2 x3 x4 x5 x6 x7 x8 x9 x10 x11 x12) (ix3 b r d) = pool (fun b t => (val_main_v434 (F := Ideal) x0 x1 x2 x3 x4 x5 x6 x7 x8 x9 x10 x11 x12) (ix2 b t)) (fun b t d => (val_main_v408 (F := Ideal) x0 x2 x3 x4 x5 x6 x7 x8 x9 x10) (ix3 b t d)) b r d := by
  have e : (val_main_v442 (F := Ideal) x0 x1 x2 x3 x4 x5 x6 x7 x8 x9 x10 x11 x12) (ix3 b r d) = ∑ t : Fin 2048, Ideal.div ((val_main_v435 (F := Ideal) x0 x1 x2 x3 x4 x5 x6 x7 x8 x9 x10 x11 x12) (ix3 b t r)) ((val_main_v436 (F := Ideal) x0 x1 x2 x3 x4 x5 x6 x7 x8 x9 x10 x11 x12) (ix2 b r) + Ideal.ofBits .f32 0x322BCC77#32) * (val_main_v408 (F := Ideal) x0 x2 x3 x4 x5 x6 x7 x8 x9 x10) (ix3 b t d) := by
    pointwise [val_main_v442, val_main_v441, val_main_v440, val_main_v439, val_main_v437, val_main_v438, val_main_cst_116]
  rw [e]
  simp only [hot_at, cnt_at]
  exact pool_eq (fun b t => (val_main_v434 (F := Ideal) x0 x1 x2 x3 x4 x5 x6 x7 x8 x9 x10 x11 x12) (ix2 b t)) (fun b t d => (val_main_v408 (F := Ideal) x0 x2 x3 x4 x5 x6 x7 x8 x9 x10) (ix3 b t d)) hh b r d

/-- The projection. -/
theorem proj_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (x15 : (⟨S256x768, .f32⟩ : BufTy).Contents (Elt Ideal)) (x16 : (⟨S768, .f32⟩ : BufTy).Contents (Elt Ideal)) (b : Fin 8) (r : Fin 2048) (e : Fin 768) : (val_main_v446 (F := Ideal) x0 x1 x2 x3 x4 x5 x6 x7 x8 x9 x10 x11 x12 x15 x16) (ix3 b r e) = lin (fun b r d => (val_main_v442 (F := Ideal) x0 x1 x2 x3 x4 x5 x6 x7 x8 x9 x10 x11 x12) (ix3 b r d)) (fun k d => x15 (ix2 k d)) (fun d => x16 (ix1 d)) b r e := by
  unfold lin
  pointwise [val_main_v446, val_main_v443, val_main_v445, val_main_v444]
theorem mu_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (x15 : (⟨S256x768, .f32⟩ : BufTy).Contents (Elt Ideal)) (x16 : (⟨S768, .f32⟩ : BufTy).Contents (Elt Ideal)) (b : Fin 8) (r : Fin 2048) : (val_main_v450 (F := Ideal) x0 x1 x2 x3 x4 x5 x6 x7 x8 x9 x10 x11 x12 x15 x16) (ix3 b r 0) = Ideal.div (∑ k : Fin 768, (val_main_v446 (F := Ideal) x0 x1 x2 x3 x4 x5 x6 x7 x8 x9 x10 x11 x12 x15 x16) (ix3 b r k)) (Ideal.ofBits .f32 0x44400000#32) := by
  pointwise [val_main_v450, val_main_v448, val_main_v447, val_main_cst_117, val_main_v449, val_main_cst_118]
theorem mu'_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (x15 : (⟨S256x768, .f32⟩ : BufTy).Contents (Elt Ideal)) (x16 : (⟨S768, .f32⟩ : BufTy).Contents (Elt Ideal)) (b : Fin 8) (r : Fin 2048) : (val_main_call6_v3 (F := Ideal) x0 x1 x2 x3 x4 x5 x6 x7 x8 x9 x10 x11 x12 x15 x16) (ix3 b r 0) = Ideal.div (∑ k : Fin 768, (val_main_v446 (F := Ideal) x0 x1 x2 x3 x4 x5 x6 x7 x8 x9 x10 x11 x12 x15 x16) (ix3 b r k)) (Ideal.ofBits .f32 0x44400000#32) := by
  pointwise [val_main_call6_v3, val_main_call6_v1, val_main_call6_v0, val_main_call6_cst, val_main_call6_v2, val_main_call6_cst_0]
theorem dev_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (x15 : (⟨S256x768, .f32⟩ : BufTy).Contents (Elt Ideal)) (x16 : (⟨S768, .f32⟩ : BufTy).Contents (Elt Ideal)) (b : Fin 8) (r : Fin 2048) (e : Fin 768) : (val_main_v453 (F := Ideal) x0 x1 x2 x3 x4 x5 x6 x7 x8 x9 x10 x11 x12 x15 x16) (ix3 b r e) = dev (fun b r e => (val_main_v446 (F := Ideal) x0 x1 x2 x3 x4 x5 x6 x7 x8 x9 x10 x11 x12 x15 x16) (ix3 b r e)) b r e := by
  unfold dev
  rw [← mu_at]
  pointwise [val_main_v453, val_main_v452]
theorem dev'_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (x15 : (⟨S256x768, .f32⟩ : BufTy).Contents (Elt Ideal)) (x16 : (⟨S768, .f32⟩ : BufTy).Contents (Elt Ideal)) (b : Fin 8) (r : Fin 2048) (e : Fin 768) : (val_main_call6_v5 (F := Ideal) x0 x1 x2 x3 x4 x5 x6 x7 x8 x9 x10 x11 x12 x15 x16) (ix3 b r e) = dev (fun b r e => (val_main_v446 (F := Ideal) x0 x1 x2 x3 x4 x5 x6 x7 x8 x9 x10 x11 x12 x15 x16) (ix3 b r e)) b r e := by
  unfold dev
  rw [← mu'_at]
  pointwise [val_main_call6_v5, val_main_call6_v4]
theorem nC_at : (val_main_call6_v8 (F := Ideal)) ix0 = Ideal.ofBits .f32 0x44400000#32 := by
  pointwise [val_main_call6_v8, val_main_call6_cst_1, val_main_call6_v7, val_main_c_119]
  exact sub_int0 _
theorem posC_at : (val_main_call6_v13 (F := Ideal)) ix0 = 1#1 := by
  rw [val_main_call6_v13_apply, nC_at]
  exact gt_one _ c768 (by norm_num)
theorem lvar_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (x15 : (⟨S256x768, .f32⟩ : BufTy).Contents (Elt Ideal)) (x16 : (⟨S768, .f32⟩ : BufTy).Contents (Elt Ideal)) (b : Fin 8) (r : Fin 2048) : (val_main_v451 (F := Ideal) x0 x1 x2 x3 x4 x5 x6 x7 x8 x9 x10 x11 x12 x15 x16) (ix3 b r 0) = lvar (fun b r e => (val_main_v446 (F := Ideal) x0 x1 x2 x3 x4 x5 x6 x7 x8 x9 x10 x11 x12 x15 x16) (ix3 b r e)) b r := by
  unfold lvar
  simp only [← dev'_at]
  rw [← nC_at]
  pointwise [val_main_v451]
  rw [posC_at]
  refine (if_pos rfl).trans ?_
  pointwise [val_main_call6_v12, val_main_call6_v10, val_main_call6_v9, val_main_call6_v6, val_main_call6_cst_2, val_main_call6_v11]
/-- The layer norm. -/
theorem ln_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (x15 : (⟨S256x768, .f32⟩ : BufTy).Contents (Elt Ideal)) (x16 x17 x18 : (⟨S768, .f32⟩ : BufTy).Contents (Elt Ideal)) (b : Fin 8) (r : Fin 2048) (e : Fin 768) : (val_main_v464 (F := Ideal) x0 x1 x2 x3 x4 x5 x6 x7 x8 x9 x10 x11 x12 x15 x16 x17 x18) (ix3 b r e) = ln (fun b r e => (val_main_v446 (F := Ideal) x0 x1 x2 x3 x4 x5 x6 x7 x8 x9 x10 x11 x12 x15 x16) (ix3 b r e)) (fun e => x17 (ix1 e)) (fun e => x18 (ix1 e)) b r e := by
  rw [← ln_eq, ← dev_at, ← lvar_at]
  pointwise [val_main_v464, val_main_v461, val_main_v458, val_main_v457, val_main_v456, val_main_v455, val_main_v454, val_main_cst_120, val_main_v460, val_main_v459, val_main_v463, val_main_v462]

end Cert.ReferenceIdeal.Val

end
-- ==== Proof.V.R7.lean ====
module

public import Idealize.ShloMosaic.Lib.Pointwise
public import Idealize.ShloMosaic.Lib.ReduceAll
public import Idealize.ShloMosaic.Lib.Routing.OpsOne
public import proofs.«01_k».proof.Proof.V.Model
public import proofs.«01_k».proof.Proof.V.R1
public import proofs.«01_k».proof.Proof.V.R2
public import proofs.«01_k».proof.Proof.V.R2B
public import proofs.«01_k».proof.Proof.V.R4
public import proofs.«01_k».proof.Proof.V.R4B
public import proofs.«01_k».proof.Proof.V.R5
public import proofs.«01_k».proof.Proof.V.R6

@[expose] public section

set_option maxRecDepth 16384

noncomputable section

namespace Cert.ReferenceIdeal.Val

open Cert.ReferenceIdeal Cert.ReferenceIdeal.Gen Cert.ReferenceIdeal.Read
open Idealize.ShloMosaic Idealize.ShloMosaic.TcCoe Idealize.SL.Sem
open Cert.Spec
open scoped BigOperators

/-- The first layer's values. -/
theorem e1 (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 : (⟨S256, .f32⟩ : BufTy).Contents (Elt Ideal)) (hid : IdsOk x0) : (fun b t d => (val_main_v4 (F := Ideal) x0 x2 x3 x4) (ix3 b t d)) = m1 (fun b t => x0 (ix2 b t)) (fun k d => x2 (ix2 k d)) (fun k d => x3 (ix2 k d)) (fun d => x4 (ix1 d)) := by
  funext b t d
  exact h1_at x0 hid x2 x3 x4 b t d
/-- The second layer's values, from the first's. -/
theorem e2 (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 : (⟨S256, .f32⟩ : BufTy).Contents (Elt Ideal)) : (fun b t d => (val_main_v208 (F := Ideal) x0 x2 x3 x4 x5 x6 x7 x8) (ix3 b t d)) = m2 (fun b t d => (val_main_v4 (F := Ideal) x0 x2 x3 x4) (ix3 b t d)) (fun d => x5 (ix1 d)) (fun d => x6 (ix1 d)) (fun k d => x7 (ix2 k d)) (fun d => x8 (ix1 d)) := by
  have q : (fun b t d => (val_main_v22 (F := Ideal) x0 x2 x3 x4 x5 x6) (ix3 b t d)) = bn (fun b t d => (val_main_v4 (F := Ideal) x0 x2 x3 x4) (ix3 b t d)) (fun d => x5 (ix1 d)) (fun d => x6 (ix1 d)) := by
    funext b t d
    exact bnA_at x0 x2 x3 x4 x5 x6 b t d
  have p : (fun b t d => (val_main_v204 (F := Ideal) x0 x2 x3 x4 x5 x6) (ix3 b t d)) = spikes (fun b t d => (val_main_v22 (F := Ideal) x0 x2 x3 x4 x5 x6) (ix3 b t d)) := by
    funext b t d
    exact spkA_at x0 x2 x3 x4 x5 x6 b t d
  unfold m2
  rw [← q, ← p]
  funext b t d
  exact h2_at x0 x2 x3 x4 x5 x6 x7 x8 b t d
/-- The second spikes. -/
theorem e3 (x0 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) : (fun b t d => (val_main_v408 (F := Ideal) x0 x2 x3 x4 x5 x6 x7 x8 x9 x10) (ix3 b t d)) = m3 (fun b t d => (val_main_v208 (F := Ideal) x0 x2 x3 x4 x5 x6 x7 x8) (ix3 b t d)) (fun d => x9 (ix1 d)) (fun d => x10 (ix1 d)) := by
  have q : (fun b t d => (val_main_v226 (F := Ideal) x0 x2 x3 x4 x5 x6 x7 x8 x9 x10) (ix3 b t d)) = bn (fun b t d => (val_main_v208 (F := Ideal) x0 x2 x3 x4 x5 x6 x7 x8) (ix3 b t d)) (fun d => x9 (ix1 d)) (fun d => x10 (ix1 d)) := by
    funext b t d
    exact bnB_at x0 x2 x3 x4 x5 x6 x7 x8 x9 x10 b t d
  unfold m3
  rw [← q]
  funext b t d
  exact spkB_at x0 x2 x3 x4 x5 x6 x7 x8 x9 x10 b t d
/-- The tokens. -/
theorem e4 (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) : (fun b t => (val_main_v434 (F := Ideal) x0 x1 x2 x3 x4 x5 x6 x7 x8 x9 x10 x11 x12) (ix2 b t)) = m4 (fun b t d => (val_main_v408 (F := Ideal) x0 x2 x3 x4 x5 x6 x7 x8 x9 x10) (ix3 b t d)) (fun b t => x1 (ix2 b t)) (fun k d => x11 (ix2 k d)) (fun d => x12 (ix1 d)) := by
  funext b t
  exact tok_at x0 x1 x2 x3 x4 x5 x6 x7 x8 x9 x10 x11 x12 b t
/-- The result. -/
theorem e5 (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (x15 : (⟨S256x768, .f32⟩ : BufTy).Contents (Elt Ideal)) (x16 x17 x18 : (⟨S768, .f32⟩ : BufTy).Contents (Elt Ideal)) : (fun b t d => (val_main_v464 (F := Ideal) x0 x1 x2 x3 x4 x5 x6 x7 x8 x9 x10 x11 x12 x15 x16 x17 x18) (ix3 b t d)) = m5 (fun b t => (val_main_v434 (F := Ideal) x0 x1 x2 x3 x4 x5 x6 x7 x8 x9 x10 x11 x12) (ix2 b t)) (fun b t d => (val_main_v408 (F := Ideal) x0 x2 x3 x4 x5 x6 x7 x8 x9 x10) (ix3 b t d)) (fun k d => x15 (ix2 k d)) (fun d => x16 (ix1 d)) (fun d => x17 (ix1 d)) (fun d => x18 (ix1 d)) := by
  have hh : ∀ b t d, ∃ r : ℝ, (val_main_v408 (F := Ideal) x0 x2 x3 x4 x5 x6 x7 x8 x9 x10) (ix3 b t d) = (r : EReal) := fun b t d => by
    rw [spkB_at]
    exact spikes_real _ b t d
  have q : (fun b t d => (val_main_v442 (F := Ideal) x0 x1 x2 x3 x4 x5 x6 x7 x8 x9 x10 x11 x12) (ix3 b t d)) = Spec.pool (fun b t => (val_main_v434 (F := Ideal) x0 x1 x2 x3 x4 x5 x6 x7 x8 x9 x10 x11 x12) (ix2 b t)) (fun b t d => (val_main_v408 (F := Ideal) x0 x2 x3 x4 x5 x6 x7 x8 x9 x10) (ix3 b t d)) := by
    funext b t d
    exact pool_at x0 x1 x2 x3 x4 x5 x6 x7 x8 x9 x10 x11 x12 hh b t d
  have p : (fun b t d => (val_main_v446 (F := Ideal) x0 x1 x2 x3 x4 x5 x6 x7 x8 x9 x10 x11 x12 x15 x16) (ix3 b t d)) = lin (fun b t d => (val_main_v442 (F := Ideal) x0 x1 x2 x3 x4 x5 x6 x7 x8 x9 x10 x11 x12) (ix3 b t d)) (fun k d => x15 (ix2 k d)) (fun d => x16 (ix1 d)) := by
    funext b t d
    exact proj_at x0 x1 x2 x3 x4 x5 x6 x7 x8 x9 x10 x11 x12 x15 x16 b t d
  unfold m5
  rw [← q, ← p]
  funext b t d
  exact ln_at x0 x1 x2 x3 x4 x5 x6 x7 x8 x9 x10 x11 x12 x15 x16 x17 x18 b t d
/-- The reference's result is the whole computation. -/
theorem ref_model (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (x15 : (⟨S256x768, .f32⟩ : BufTy).Contents (Elt Ideal)) (x16 x17 x18 : (⟨S768, .f32⟩ : BufTy).Contents (Elt Ideal)) (hid : IdsOk x0) : (fun b t d => (val_main_v464 (F := Ideal) x0 x1 x2 x3 x4 x5 x6 x7 x8 x9 x10 x11 x12 x15 x16 x17 x18) (ix3 b t d)) = model (fun b t => x0 (ix2 b t)) (fun b t => x1 (ix2 b t)) (fun k d => x2 (ix2 k d)) (fun k d => x3 (ix2 k d)) (fun d => x4 (ix1 d)) (fun d => x5 (ix1 d)) (fun d => x6 (ix1 d)) (fun k d => x7 (ix2 k d)) (fun d => x8 (ix1 d)) (fun d => x9 (ix1 d)) (fun d => x10 (ix1 d)) (fun k d => x11 (ix2 k d)) (fun d => x12 (ix1 d)) (fun k d => x15 (ix2 k d)) (fun d => x16 (ix1 d)) (fun d => x17 (ix1 d)) (fun d => x18 (ix1 d)) := by
  unfold model
  rw [e5, e4, e3, e2, e1 x0 x2 x3 x4 hid]
/-- The same, at an index. -/
theorem ref_at (x0 x1 : (⟨S8x2048, .i32⟩ : BufTy).Contents (Elt Ideal)) (x2 : (⟨S256x128, .f32⟩ : BufTy).Contents (Elt Ideal)) (x3 : (⟨S128x256, .f32⟩ : BufTy).Contents (Elt Ideal)) (x4 x5 x6 : (⟨S256, .f32⟩ : BufTy).Contents (Elt Ideal)) (x7 : (⟨S256x256, .f32⟩ : BufTy).Contents (Elt Ideal)) (x8 x9 x10 : (⟨S256, .f32⟩ : BufTy).Contents (Elt Ideal)) (x11 : (⟨S256x1, .f32⟩ : BufTy).Contents (Elt Ideal)) (x12 : (⟨S1, .f32⟩ : BufTy).Contents (Elt Ideal)) (x15 : (⟨S256x768, .f32⟩ : BufTy).Contents (Elt Ideal)) (x16 x17 x18 : (⟨S768, .f32⟩ : BufTy).Contents (Elt Ideal)) (hid : IdsOk x0) : (val_main_v464 (F := Ideal) x0 x1 x2 x3 x4 x5 x6 x7 x8 x9 x10 x11 x12 x15 x16 x17 x18) = fun i : S8x2048x768.Idx => model (fun b t => x0 (ix2 b t)) (fun b t => x1 (ix2 b t)) (fun k d => x2 (ix2 k d)) (fun k d => x3 (ix2 k d)) (fun d => x4 (ix1 d)) (fun d => x5 (ix1 d)) (fun d => x6 (ix1 d)) (fun k d => x7 (ix2 k d)) (fun d => x8 (ix1 d)) (fun d => x9 (ix1 d)) (fun d => x10 (ix1 d)) (fun k d => x11 (ix2 k d)) (fun d => x12 (ix1 d)) (fun k d => x15 (ix2 k d)) (fun d => x16 (ix1 d)) (fun d => x17 (ix1 d)) (fun d => x18 (ix1 d)) (i 0) (i 1) (i 2) := by
  rw [← ref_model x0 x1 x2 x3 x4 x5 x6 x7 x8 x9 x10 x11 x12 x15 x16 x17 x18 hid]
  funext i
  exact congrArg (val_main_v464 (F := Ideal) x0 x1 x2 x3 x4 x5 x6 x7 x8 x9 x10 x11 x12 x15 x16 x17 x18) (ValueIdx.eq_ix3 i)

end Cert.ReferenceIdeal.Val

end
-- ==== Proof.V.KT.lean ====
module

public import Idealize.ShloMosaic.Lib.Pipeline.ValueKit
public import Idealize.ShloMosaic.Lib.Pointwise
public import proofs.«01_k».proof.Proof.SI.Tools
public import proofs.«01_k».proof.Proof.V.Spec

@[expose] public section

set_option maxRecDepth 16384

noncomputable section

namespace Cert.KernelIdeal.Val

open Cert.KernelIdeal.Gen Cert.KernelIdeal.Calls
open Idealize.ShloMosaic Idealize.ShloMosaic.TcCoe Idealize.SL.Sem
open Idealize.ShloMosaic.Pipeline (Dat)
open Cert.Spec
open scoped BigOperators

/-- A bit converted to a float. -/
theorem bit_f (p : Bool) : (FloatOps.sitofp (F := Ideal) .f32 (BitVec.setWidth 32 (BitVec.ofBool p)) : EReal) = if p = true then 1 else 0 := by
  cases p <;> simp [FloatOps.sitofp]
/-- A comparison's bit converted to a float. -/
theorem onehot (a b : BitVec 32) : (FloatOps.sitofp (F := Ideal) .f32 (BitVec.setWidth 32 (IntOp.cmpi .eq a b)) : EReal) = if a = b then 1 else 0 := by
  rw [show IntOp.cmpi .eq a b = BitVec.ofBool (a == b) from rfl, bit_f]
  by_cases h : a = b <;> simp [h]
/-- The spike, as the bit of the comparison with one. -/
theorem bit_fire (u : EReal) : (FloatOps.sitofp (F := Ideal) .f32 (BitVec.setWidth 32 (BitVec.ofBool (decide (1 ≤ u)))) : EReal) = fire u := by
  rw [bit_f]; unfold fire; by_cases h : 1 ≤ u <;> simp [h]
/-- Row 0 of the table with two rows replaced. -/
theorem rowsPut_0 (xs : Vec Ideal S8x256 .f32) (a b : Vec Ideal S1x256 .f32) (d : Fin 256) : rowsPut xs a b (ix2 0 d) = a (ix2 0 d) := by
  unfold rowsPut VecWindow.put
  rw [dif_neg (fun h => absurd (h 0) (by decide +revert)), dif_pos (fun a => match a with | ⟨0, _⟩ => ⟨by decide +revert, by decide +revert⟩ | ⟨1, _⟩ => ⟨Nat.zero_le _, by have := d.isLt; show d.val < 0 + 256; omega⟩)]
  congr 1
  funext a; match a with | ⟨0, _⟩ => rfl | ⟨1, _⟩ => rfl
/-- Row 1 of the table with two rows replaced. -/
theorem rowsPut_1 (xs : Vec Ideal S8x256 .f32) (a b : Vec Ideal S1x256 .f32) (d : Fin 256) : rowsPut xs a b (ix2 1 d) = b (ix2 0 d) := by
  unfold rowsPut VecWindow.put
  rw [dif_pos (fun a => match a with | ⟨0, _⟩ => ⟨Nat.le_refl 1, by show 1 < 1 + 1; omega⟩ | ⟨1, _⟩ => ⟨Nat.zero_le _, by have := d.isLt; show d.val < 0 + 256; omega⟩)]
  congr 1
  funext a; match a with | ⟨0, _⟩ => rfl | ⟨1, _⟩ => rfl
theorem rowAt0_at (xs : Vec Ideal S8x256 .f32) (d : Fin 256) : rowAt0 xs (ix2 0 d) = xs (ix2 0 d) := by
  unfold rowAt0 VecWindow.window; congr 1; funext a; match a with | ⟨0, _⟩ => rfl | ⟨1, _⟩ => exact Fin.ext (by show 0 + 1 * d.val = d.val; omega)
theorem rowAt1_at (xs : Vec Ideal S8x256 .f32) (d : Fin 256) : rowAt1 xs (ix2 0 d) = xs (ix2 1 d) := by
  unfold rowAt1 VecWindow.window; congr 1; funext a; match a with | ⟨0, _⟩ => rfl | ⟨1, _⟩ => exact Fin.ext (by show 0 + 1 * d.val = d.val; omega)
theorem fin8_val (b : Fin 8) : fin8 b.val = b := Fin.ext (Nat.mod_eq_of_lt b.isLt)
/-- The sum over the batches, taken batch by batch. -/
theorem sum_range8 (f : Fin 8 → EReal) : ∑ n ∈ Finset.range 8, f (fin8 n) = ∑ b, f b := by
  rw [← Fin.sum_univ_eq_sum_range (fun n => f (fin8 n)) 8]
  exact Finset.sum_congr rfl fun b _ => by rw [fin8_val]

end Cert.KernelIdeal.Val

end
-- ==== Proof.V.K0.lean ====
module

public import Idealize.ShloMosaic.Lib.Pipeline.ValueKit
public import Idealize.ShloMosaic.Lib.Pointwise
public import proofs.«01_k».proof.Proof.SI.R0
public import proofs.«01_k».proof.Proof.V.KT

@[expose] public section

set_option maxRecDepth 16384

noncomputable section

namespace Cert.KernelIdeal.Val

open Cert.KernelIdeal.Gen Cert.KernelIdeal.Calls
open Idealize.ShloMosaic Idealize.ShloMosaic.TcCoe Idealize.SL.Sem
open Idealize.ShloMosaic.Pipeline (Dat)
open Cert.Spec
open scoped BigOperators

theorem pay2_at (x0 : Vec Ideal S1x1x2048 .i32) (x1 : FVec Ideal S256x128 .f32) (x2 : FVec Ideal S128x256 .f32) (x3 : FVec Ideal S1x256 .f32) (t : Fin 2048) (d : Fin 256) : k0_pay2 (F := Ideal) x0 x1 x2 x3 (ix2 t d)
    = (∑ k : Fin 128, (∑ r : Fin 256, (if BitVec.ofNat 32 r.val = x0 (ix3 0 0 t) then 1 else 0) * x1 (ix2 r k)) * x2 (ix2 k d)) + x3 (ix2 0 d) := by
  pointwise [k0_pay2]
  simp only [onehot]
theorem pay3_at (x0 : Vec Ideal S1x1x2048 .i32) (x1 : FVec Ideal S256x128 .f32) (x2 : FVec Ideal S128x256 .f32) (x3 : FVec Ideal S1x256 .f32) (t : Fin 2048) (d : Fin 256) : act0 (F := Ideal) x0 x1 x2 x3 (ix3 0 t d) = k0_pay2 (F := Ideal) x0 x1 x2 x3 (ix2 t d) := by
  pointwise [act0, k0_pay3]
theorem pay5_at (xs : Vec Ideal S8x256 .f32) (x0 : Vec Ideal S1x1x2048 .i32) (x1 : FVec Ideal S256x128 .f32) (x2 : FVec Ideal S128x256 .f32) (x3 : FVec Ideal S1x256 .f32)
    (d : Fin 256) : k0_pay5 (F := Ideal) x0 x1 x2 x3 (rowAt0 xs) (ix2 0 d) = xs (ix2 0 d) + ∑ t : Fin 2048, k0_pay2 (F := Ideal) x0 x1 x2 x3 (ix2 t d) := by
  pointwise [k0_pay5]
  rw [rowAt0_at]
theorem pay1_at (xs : Vec Ideal S8x256 .f32) (x0 : Vec Ideal S1x1x2048 .i32) (x1 : FVec Ideal S256x128 .f32) (x2 : FVec Ideal S128x256 .f32) (x3 : FVec Ideal S1x256 .f32)
    (d : Fin 256) : k0_pay1 (F := Ideal) (rowAt1 xs) (k0_pay6 x0 x1 x2 x3) (ix2 0 d) = xs (ix2 1 d) + ∑ t : Fin 2048, k0_pay2 (F := Ideal) x0 x1 x2 x3 (ix2 t d) * k0_pay2 (F := Ideal) x0 x1 x2 x3 (ix2 t d) := by
  pointwise [k0_pay1, k0_pay6]
  rw [rowAt1_at]
theorem pay4_at (r : Fin 8) (d : Fin 256) : k0_pay4 (F := Ideal) (ix2 r d) = 0 := by
  pointwise [k0_pay4]

theorem ofNat_row (w : BitVec 32) (h0 : 0 ≤ w.toInt) (h1 : w.toInt < 256) (r : Fin 256) : BitVec.ofNat 32 r.val = w ↔ r = row w := by
  have hw : w.toNat < 256 := by
    have := BitVec.toInt_eq_toNat_cond w
    split at this <;> omega
  have hi : w.toInt = (w.toNat : ℤ) := by
    have := BitVec.toInt_eq_toNat_cond w
    split at this <;> omega
  constructor
  · intro h
    apply Fin.ext
    have e := congrArg BitVec.toNat h
    rw [BitVec.toNat_ofNat] at e
    have := r.isLt
    show r.val = min w.toInt.toNat 255
    rw [hi]; omega
  · rintro rfl
    apply BitVec.eq_of_toNat_eq
    rw [BitVec.toNat_ofNat]
    show min w.toInt.toNat 255 % 2 ^ 32 = w.toNat
    rw [hi]; omega
/-- A one-hot row times the table is the table's row. -/
theorem sum_onehot (w : BitVec 32) (h0 : 0 ≤ w.toInt) (h1 : w.toInt < 256) (f : Fin 256 → EReal) :
    (∑ r : Fin 256, (if BitVec.ofNat 32 r.val = w then 1 else 0) * f r) = f (row w) := by
  simp only [ofNat_row w h0 h1, ite_mul, one_mul, zero_mul, Finset.sum_ite_eq', Finset.mem_univ, if_true]

variable (V : Dev nD → Valuation τ sig (Elt Ideal)) (c : Dev nD)

/-- The ids are rows of the table. -/
def IdsOk (ids : S8x1x2048.Idx → BitVec 32) : Prop := ∀ (b : Fin 8) (j : Fin 2048), 0 ≤ (ids (ix3 b 0 j)).toInt ∧ (ids (ix3 b 0 j)).toInt < 256

/-- The first dense layer on the looked-up rows, from the arrays call 0 reads. -/
def H1 (ids : S8x1x2048.Idx → BitVec 32) (emb : S256x128.Idx → EReal) (W : S128x256.Idx → EReal) (b1 : S1x256.Idx → EReal) : Arr 256 :=
  lin (fun b t k => emb (ix2 (row (ids (ix3 b 0 t))) k)) (fun k d => W (ix2 k d)) (fun d => b1 (ix2 0 d))

/-- The same from the contents of the buffers. -/
def H1V : Arr 256 := H1 (V c (Proc.devRef .tc main_v0)) (V c (Proc.devRef .tc main_arg2)) (V c (Proc.devRef .tc main_arg3)) (V c (Proc.devRef .tc main_v1))

theorem idx0 : ∀ t : Fin cfg0.N, win0_0.index t = ![t.val, 0, 0] ∧ win0_1.index t = ![0, 0] ∧ win0_2.index t = ![0, 0]
    ∧ win0_3.index t = ![0, 0] ∧ win0_4.index t = ![t.val, 0, 0] ∧ win0_5.index t = ![0, 0] := (by decide +kernel : ∀ t : Fin grid0.N, _)
theorem blk0_0 (t : Fin cfg0.N) (b : Fin 8) (hb : b.val = t.val) (j : Fin 2048) : iblk0 V c 0 t (ix3 0 0 j) = V c (Proc.devRef .tc main_v0) (ix3 b 0 j) := by
  blk_ext [iblk0, idx0 t]
theorem blk0_1 (t : Fin cfg0.N) : iblk0 V c 1 t = V c (Proc.devRef .tc main_arg2) := by blk_ext! [iblk0, idx0 t]
theorem blk0_2 (t : Fin cfg0.N) : iblk0 V c 2 t = V c (Proc.devRef .tc main_arg3) := by blk_ext! [iblk0, idx0 t]
theorem blk0_3 (t : Fin cfg0.N) : iblk0 V c 3 t = V c (Proc.devRef .tc main_v1) := by blk_ext! [iblk0, idx0 t]

/-- The dense layer of a point. -/
theorem point0 (hid : IdsOk (V c (Proc.devRef .tc main_v0)))
    (t : Fin cfg0.N) (b : Fin 8) (hb : b.val = t.val) (j : Fin 2048) (d : Fin 256) :
    k0_pay2 (F := Ideal) (iblk0 V c 0 t) (iblk0 V c 1 t) (iblk0 V c 2 t) (iblk0 V c 3 t) (ix2 j d)
      = H1V V c b j d := by
  rw [pay2_at, blk0_1, blk0_2, blk0_3, blk0_0 V c t b hb]
  simp only [fun k => sum_onehot _ (hid b j).1 (hid b j).2 (fun r => (V c (Proc.devRef .tc main_arg2) : S256x128.Idx → EReal) (ix2 r k))]
  rfl

/-- The result of the first dense layer. -/
theorem arr0_4 (hid : IdsOk (V c (Proc.devRef .tc main_v0)))
    : (dat0 V c).arrAt 4 cfg0.N = (fun i : S8x2048x256.Idx => H1V V c (i 0) (i 1) (i 2) : S8x2048x256.Idx → EReal) := by
  have hp := fun (t : Fin cfg0.N) => point0 V c hid t (⟨t.val, t.isLt⟩ : Fin 8) rfl
  generalize H1V V c = G at hp ⊢
  refine (dat0 V c).arrAt_eq_of_covers 4 _ (by decide +kernel) fun t _ y => ?_
  blk_simp
  rw [after0_4]
  idx_vars y
  obtain rfl : y0 = 0 := Subsingleton.elim _ _
  have e : (win0_4.blk t).view.emb (ix3 0 y1 y2) = ix3 (⟨t.val, t.isLt⟩ : Fin 8) y1 y2 := by blk_ext [idx0 t]
  exact ((pay3_at _ _ _ _ y1 y2).trans (hp t y1 y2)).trans
    (congrArg (fun i : S8x2048x256.Idx => G (i 0) (i 1) (i 2)) e.symm)

/-- The table of sums after `n` points. -/
theorem st0_at (hid : IdsOk (V c (Proc.devRef .tc main_v0)))
    (d : Fin 256) (n : ℕ) (hn : n ≤ 8) :
    st0 V c n (ix2 0 d) = ∑ k ∈ Finset.range n, ∑ j, H1V V c (fin8 k) j d
    ∧ st0 V c n (ix2 1 d) = ∑ k ∈ Finset.range n, ∑ j, H1V V c (fin8 k) j d * H1V V c (fin8 k) j d := by
  induction n with
  | zero => rw [st0_zero]; simp only [Finset.range_zero, Finset.sum_empty]; exact ⟨pay4_at 0 d, pay4_at 1 d⟩
  | succ n ih =>
    obtain ⟨i0, i1⟩ := ih (by omega)
    have hs := st0_succ V c (⟨n, by show n < 8; omega⟩ : Fin cfg0.N)
    have hp := fun j => point0 V c hid (⟨n, by show n < 8; omega⟩ : Fin cfg0.N) (fin8 n) (Nat.mod_eq_of_lt (by omega)) j d
    rw [show st0 V c (n + 1) = _ from hs, Finset.sum_range_succ, Finset.sum_range_succ, ← i0, ← i1]
    simp only [nxt0_0, rowsPut_0, rowsPut_1]
    rw [pay5_at, pay1_at]
    simp only [hp]
    constructor <;> trivial

/-- The table of sums call 0 leaves is the one after the last point. -/
theorem arr0_5 : (dat0 V c).arrAt 5 cfg0.N = (st0 V c 8 : S8x256.Idx → EReal) := by
  refine (dat0 V c).arrAt_eq_of_covers 5 _ (by decide +kernel) fun t hf y => ?_
  have ht : t.val = 7 := ((by decide +kernel : ∀ t : Fin grid0.N, (cfg0.win 5).flush t = true → t.val = 7)) t hf
  blk_simp
  rw [after0_5, ← st0_succ, ht]
  congr 1
  idx_vars y
  symm
  blk_ext [idx0 t]

theorem arr0_5_row (hid : IdsOk (V c (Proc.devRef .tc main_v0)))
    (d : Fin 256) :
    (dat0 V c).arrAt 5 cfg0.N (ix2 0 d) = tot (H1V V c) d
    ∧ (dat0 V c).arrAt 5 cfg0.N (ix2 1 d) = tot (fun b t d => H1V V c b t d * H1V V c b t d) d := by
  obtain ⟨h0, h1⟩ := st0_at V c hid d 8 (by omega)
  rw [arr0_5]
  exact ⟨h0.trans (sum_range8 (fun b => ∑ j, H1V V c b j d)),
    h1.trans (sum_range8 (fun b => ∑ j, H1V V c b j d * H1V V c b j d))⟩

end Cert.KernelIdeal.Val

end
-- ==== Proof.V.K1.lean ====
module

public import Idealize.ShloMosaic.Lib.Pipeline.ValueKit
public import Idealize.ShloMosaic.Lib.Pointwise
public import proofs.«01_k».proof.Proof.SI.R1
public import proofs.«01_k».proof.Proof.V.KT

@[expose] public section

set_option maxRecDepth 16384

noncomputable section

namespace Cert.KernelIdeal.Val

open Cert.KernelIdeal.Gen Cert.KernelIdeal.Calls
open Idealize.ShloMosaic Idealize.ShloMosaic.TcCoe Idealize.SL.Sem
open Idealize.ShloMosaic.Pipeline (Dat)
open Cert.Spec
open scoped BigOperators

theorem pot1_at (v0 v4 v10 : Vec Ideal S1x256 .f32) (v16 : Vec Ideal S1x2048x256 .f32) (v20 : Vec Ideal S1x256 .f32) (v29 : Vec Ideal S2048x256 .f32) (t : Fin 2048) (d : Fin 256) :
    k1_pay8 (F := Ideal) v0 v4 v10 v16 v20 v29 (ix2 t d) = v29 (ix2 t d) + kbn (v0 (ix2 0 d)) (v4 (ix2 0 d)) (v10 (ix2 0 d)) (v20 (ix2 0 d)) (v16 (ix3 0 t d)) := by
  pointwise [k1_pay8, kbn]
theorem fire1_at (v0 v4 v10 : Vec Ideal S1x256 .f32) (v16 : Vec Ideal S1x2048x256 .f32) (v20 : Vec Ideal S1x256 .f32) (v29 : Vec Ideal S2048x256 .f32) (t : Fin 2048) (d : Fin 256) :
    k1_pay9 (F := Ideal) v0 v4 v10 v16 v20 v29 (ix2 t d) = fire (k1_pay8 (F := Ideal) v0 v4 v10 v16 v20 v29 (ix2 t d)) := by
  rw [← bit_fire]
  pointwise [k1_pay9]
theorem mem1_at (v0 v4 v10 : Vec Ideal S1x256 .f32) (v16 : Vec Ideal S1x2048x256 .f32) (v20 : Vec Ideal S1x256 .f32) (v29 : Vec Ideal S2048x256 .f32) (t : Fin 2048) (d : Fin 256) :
    k1_pay1 (F := Ideal) (k1_pay10 v0 v4 v10 v16 v20 v29) (ix2 t d) = k1_pay8 (F := Ideal) v0 v4 v10 v16 v20 v29 (ix2 t d) * (1 - fire (k1_pay8 (F := Ideal) v0 v4 v10 v16 v20 v29 (ix2 t d))) := by
  rw [← fire1_at]
  pointwise [k1_pay1, k1_pay10]
theorem spk1_at (x0 : Vec Ideal S1x2048x256 .f32) (x1 : Vec Ideal S8x256 .f32) (x2 x3 : Vec Ideal S1x256 .f32) (x4 : Vec Ideal S256x256 .f32) (x5 : Vec Ideal S1x256 .f32) (s0 : Vec Ideal S2048x256 .f32) (s1 : Vec Ideal S8x256 .f32) (t : Fin 2048) (d : Fin 256) :
    spk1 (F := Ideal) x0 x1 x2 x3 x4 x5 s0 s1 (ix2 t d) = fire (s0 (ix2 t d) + kbn (x1 (ix2 0 d)) (x1 (ix2 1 d)) (x2 (ix2 0 d)) (x3 (ix2 0 d)) (x0 (ix3 0 t d))) := by
  unfold spk1
  rw [fire1_at, pot1_at, rowAt0_at, rowAt1_at]
theorem nxt1_0_at (x0 : Vec Ideal S1x2048x256 .f32) (x1 : Vec Ideal S8x256 .f32) (x2 x3 : Vec Ideal S1x256 .f32) (x4 : Vec Ideal S256x256 .f32) (x5 : Vec Ideal S1x256 .f32) (s0 : Vec Ideal S2048x256 .f32) (s1 : Vec Ideal S8x256 .f32) (t : Fin 2048) (d : Fin 256) :
    nxt1_0 (F := Ideal) x0 x1 x2 x3 x4 x5 s0 s1 (ix2 t d) = (s0 (ix2 t d) + kbn (x1 (ix2 0 d)) (x1 (ix2 1 d)) (x2 (ix2 0 d)) (x3 (ix2 0 d)) (x0 (ix3 0 t d))) * (1 - fire (s0 (ix2 t d) + kbn (x1 (ix2 0 d)) (x1 (ix2 1 d)) (x2 (ix2 0 d)) (x3 (ix2 0 d)) (x0 (ix3 0 t d)))) := by
  unfold nxt1_0
  rw [mem1_at, pot1_at, rowAt0_at, rowAt1_at]
theorem zero1_at (t : Fin 2048) (d : Fin 256) : k1_pay6 (F := Ideal) (ix2 t d) = 0 := by
  pointwise [k1_pay6]

variable (V : Dev nD → Valuation τ sig (Elt Ideal)) (c : Dev nD)

/-- The normalized activations call 1 feeds its neurons. -/
def X1 : Arr 256 := fun b t d => kbn ((V c (Proc.devRef .tc main_v11_1) : S8x256.Idx → EReal) (ix2 0 d)) ((V c (Proc.devRef .tc main_v11_1) : S8x256.Idx → EReal) (ix2 1 d))
  ((V c (Proc.devRef .tc main_v2) : S1x256.Idx → EReal) (ix2 0 d)) ((V c (Proc.devRef .tc main_v3) : S1x256.Idx → EReal) (ix2 0 d)) ((V c (Proc.devRef .tc main_v11_0) : S8x2048x256.Idx → EReal) (ix3 b t d))
/-- The dense layer call 1 applies to its spikes. -/
def H1' : Arr 256 := lin (spikes (X1 V c)) (fun k d => (V c (Proc.devRef .tc main_arg7) : S256x256.Idx → EReal) (ix2 k d)) (fun d => (V c (Proc.devRef .tc main_v4) : S1x256.Idx → EReal) (ix2 0 d))

theorem idx1 : ∀ t : Fin cfg1.N, win1_0.index t = ![t.val, 0, 0] ∧ win1_1.index t = ![0, 0] ∧ win1_2.index t = ![0, 0]
    ∧ win1_3.index t = ![0, 0] ∧ win1_4.index t = ![0, 0] ∧ win1_5.index t = ![0, 0] ∧ win1_6.index t = ![t.val, 0, 0] ∧ win1_7.index t = ![0, 0] := (by decide +kernel : ∀ t : Fin grid1.N, _)
theorem blk1_0 (t : Fin cfg1.N) (b : Fin 8) (hb : b.val = t.val) (j : Fin 2048) (d : Fin 256) : iblk1 V c 0 t (ix3 0 j d) = V c (Proc.devRef .tc main_v11_0) (ix3 b j d) := by
  blk_ext [iblk1, idx1 t]
theorem blk1_1 (t : Fin cfg1.N) : iblk1 V c 1 t = V c (Proc.devRef .tc main_v11_1) := by blk_ext! [iblk1, idx1 t]
theorem blk1_2 (t : Fin cfg1.N) : iblk1 V c 2 t = V c (Proc.devRef .tc main_v2) := by blk_ext! [iblk1, idx1 t]
theorem blk1_3 (t : Fin cfg1.N) : iblk1 V c 3 t = V c (Proc.devRef .tc main_v3) := by blk_ext! [iblk1, idx1 t]
theorem blk1_4 (t : Fin cfg1.N) : iblk1 V c 4 t = V c (Proc.devRef .tc main_arg7) := by blk_ext! [iblk1, idx1 t]
theorem blk1_5 (t : Fin cfg1.N) : iblk1 V c 5 t = V c (Proc.devRef .tc main_v4) := by blk_ext! [iblk1, idx1 t]

/-- The input a point of call 1 adds to its membrane. -/
theorem in1 (t : Fin cfg1.N) (b : Fin 8) (hb : b.val = t.val) (j : Fin 2048) (d : Fin 256) :
    kbn (iblk1 V c 1 t (ix2 0 d)) (iblk1 V c 1 t (ix2 1 d)) (iblk1 V c 2 t (ix2 0 d)) (iblk1 V c 3 t (ix2 0 d)) (iblk1 V c 0 t (ix3 0 j d)) = X1 V c b j d := by
  rw [blk1_1, blk1_2, blk1_3, blk1_0 V c t b hb]
  rfl
/-- The membrane before point `n`. -/
theorem mem1 (j : Fin 2048) (d : Fin 256) (n : ℕ) (hn : n ≤ 8) : (st1 V c n).1 (ix2 j d) = mem (fun k => X1 V c (fin8 k) j d) n := by
  induction n with
  | zero => rw [st1_zero]; exact zero1_at j d
  | succ n ih =>
    have i0 := ih (by omega)
    have hs := st1_succ V c (⟨n, by show n < 8; omega⟩ : Fin cfg1.N)
    have hp := in1 V c (⟨n, by show n < 8; omega⟩ : Fin cfg1.N) (fin8 n) (Nat.mod_eq_of_lt (by omega)) j d
    refine (congrFun (congrArg Prod.fst hs) (ix2 j d)).trans ((nxt1_0_at (iblk1 V c 0 (⟨n, by show n < 8; omega⟩ : Fin cfg1.N)) (iblk1 V c 1 (⟨n, by show n < 8; omega⟩ : Fin cfg1.N)) (iblk1 V c 2 (⟨n, by show n < 8; omega⟩ : Fin cfg1.N)) (iblk1 V c 3 (⟨n, by show n < 8; omega⟩ : Fin cfg1.N)) (iblk1 V c 4 (⟨n, by show n < 8; omega⟩ : Fin cfg1.N)) (iblk1 V c 5 (⟨n, by show n < 8; omega⟩ : Fin cfg1.N)) (st1 V c n).1 (st1 V c n).2 j d).trans ?_)
    rw [hp]
    simp only [i0]
    rfl
/-- The spikes of a point. -/
theorem spk1_point (t : Fin cfg1.N) (b : Fin 8) (hb : b.val = t.val) (j : Fin 2048) (d : Fin 256) :
    spk1 (F := Ideal) (iblk1 V c 0 t) (iblk1 V c 1 t) (iblk1 V c 2 t) (iblk1 V c 3 t) (iblk1 V c 4 t) (iblk1 V c 5 t) (st1 V c t.val).1 (st1 V c t.val).2 (ix2 j d) = spikes (X1 V c) b j d := by
  refine (spk1_at _ _ _ _ _ _ _ _ j d).trans ?_
  rw [in1 V c t b hb, mem1 V c j d t.val (by have : t.val < 8 := t.isLt; omega)]
  unfold spikes
  rw [hb]

theorem lin1_at (s : FVec Ideal S2048x256 .f32) (x4 : Vec Ideal S256x256 .f32) (x5 : Vec Ideal S1x256 .f32) (t : Fin 2048) (d : Fin 256) :
    k1_pay2 (F := Ideal) s x4 x5 (ix2 t d) = (∑ k : Fin 256, s (ix2 t k) * x4 (ix2 k d)) + x5 (ix2 0 d) := by
  pointwise [k1_pay2]
theorem act1_at (s : FVec Ideal S2048x256 .f32) (x4 : Vec Ideal S256x256 .f32) (x5 : Vec Ideal S1x256 .f32) (t : Fin 2048) (d : Fin 256) :
    k1_pay3 (F := Ideal) s x4 x5 (ix3 0 t d) = k1_pay2 (F := Ideal) s x4 x5 (ix2 t d) := by
  pointwise [k1_pay3]
theorem sum1_at (s : FVec Ideal S2048x256 .f32) (x4 : Vec Ideal S256x256 .f32) (x5 : Vec Ideal S1x256 .f32) (xs : Vec Ideal S8x256 .f32) (d : Fin 256) :
    k1_pay4 (F := Ideal) s x4 x5 (rowAt0 xs) (ix2 0 d) = xs (ix2 0 d) + ∑ t : Fin 2048, k1_pay2 (F := Ideal) s x4 x5 (ix2 t d) := by
  pointwise [k1_pay4]
  rw [rowAt0_at]
theorem sqs1_at (s : FVec Ideal S2048x256 .f32) (x4 : Vec Ideal S256x256 .f32) (x5 : Vec Ideal S1x256 .f32) (xs : Vec Ideal S8x256 .f32) (d : Fin 256) :
    k1_pay5 (F := Ideal) s x4 x5 (rowAt1 xs) (ix2 0 d) = xs (ix2 1 d) + ∑ t : Fin 2048, k1_pay2 (F := Ideal) s x4 x5 (ix2 t d) * k1_pay2 (F := Ideal) s x4 x5 (ix2 t d) := by
  pointwise [k1_pay5]
  rw [rowAt1_at]
theorem zst1_at (r : Fin 8) (d : Fin 256) : k1_pay7 (F := Ideal) (ix2 r d) = 0 := by
  pointwise [k1_pay7]

/-- The dense layer of a point. -/
theorem point1 (t : Fin cfg1.N) (b : Fin 8) (hb : b.val = t.val) (j : Fin 2048) (d : Fin 256) :
    k1_pay2 (F := Ideal) (spk1 (F := Ideal) (iblk1 V c 0 t) (iblk1 V c 1 t) (iblk1 V c 2 t) (iblk1 V c 3 t) (iblk1 V c 4 t) (iblk1 V c 5 t) (st1 V c t.val).1 (st1 V c t.val).2) (iblk1 V c 4 t) (iblk1 V c 5 t) (ix2 j d) = H1' V c b j d := by
  rw [lin1_at]
  simp only [fun k => spk1_point V c t b hb j k]
  rw [blk1_4, blk1_5]
  rfl
/-- The result of the second dense layer. -/
theorem arr1_6 : (dat1 V c).arrAt 6 cfg1.N = (fun i : S8x2048x256.Idx => H1' V c (i 0) (i 1) (i 2) : S8x2048x256.Idx → EReal) := by
  have hp := fun (t : Fin cfg1.N) => point1 V c t (⟨t.val, t.isLt⟩ : Fin 8) rfl
  generalize H1' V c = G at hp ⊢
  refine (dat1 V c).arrAt_eq_of_covers 6 _ (by decide +kernel) fun t _ y => ?_
  blk_simp
  rw [after1_6]
  idx_vars y
  obtain rfl : y0 = 0 := Subsingleton.elim _ _
  have e : (win1_6.blk t).view.emb (ix3 0 y1 y2) = ix3 (⟨t.val, t.isLt⟩ : Fin 8) y1 y2 := by blk_ext [idx1 t]
  exact ((act1_at _ _ _ y1 y2).trans (hp t y1 y2)).trans
    (congrArg (fun i : S8x2048x256.Idx => G (i 0) (i 1) (i 2)) e.symm)
/-- The table of sums after `n` points. -/
theorem st1_at (d : Fin 256) (n : ℕ) (hn : n ≤ 8) :
    (st1 V c n).2 (ix2 0 d) = ∑ k ∈ Finset.range n, ∑ j, H1' V c (fin8 k) j d
    ∧ (st1 V c n).2 (ix2 1 d) = ∑ k ∈ Finset.range n, ∑ j, H1' V c (fin8 k) j d * H1' V c (fin8 k) j d := by
  induction n with
  | zero => rw [st1_zero]; simp only [Finset.range_zero, Finset.sum_empty]; exact ⟨zst1_at 0 d, zst1_at 1 d⟩
  | succ n ih =>
    obtain ⟨i0, i1⟩ := ih (by omega)
    have hs := st1_succ V c (⟨n, by show n < 8; omega⟩ : Fin cfg1.N)
    have hp := fun j => point1 V c (⟨n, by show n < 8; omega⟩ : Fin cfg1.N) (fin8 n) (Nat.mod_eq_of_lt (by omega)) j d
    rw [show st1 V c (n + 1) = _ from hs, Finset.sum_range_succ, Finset.sum_range_succ, ← i0, ← i1]
    simp only [nxt1_1, rowsPut_0, rowsPut_1]
    rw [sum1_at, sqs1_at]
    simp only [hp]
    constructor <;> trivial
/-- The table of sums call 1 leaves is the one after the last point. -/
theorem arr1_7 : (dat1 V c).arrAt 7 cfg1.N = ((st1 V c 8).2 : S8x256.Idx → EReal) := by
  refine (dat1 V c).arrAt_eq_of_covers 7 _ (by decide +kernel) fun t hf y => ?_
  have ht : t.val = 7 := ((by decide +kernel : ∀ t : Fin grid1.N, (cfg1.win 7).flush t = true → t.val = 7)) t hf
  blk_simp
  rw [after1_7, show nxt1_1 (F := Ideal) (iblk1 V c 0 t) (iblk1 V c 1 t) (iblk1 V c 2 t) (iblk1 V c 3 t) (iblk1 V c 4 t) (iblk1 V c 5 t) (st1 V c t.val).1 (st1 V c t.val).2 = (st1 V c (t.val + 1)).2 from (congrArg Prod.snd (st1_succ V c t)).symm, ht]
  congr 1
  idx_vars y
  symm
  blk_ext [idx1 t]
theorem arr1_7_row (d : Fin 256) :
    (dat1 V c).arrAt 7 cfg1.N (ix2 0 d) = tot (H1' V c) d
    ∧ (dat1 V c).arrAt 7 cfg1.N (ix2 1 d) = tot (fun b t d => H1' V c b t d * H1' V c b t d) d := by
  obtain ⟨h0, h1⟩ := st1_at V c d 8 (by omega)
  rw [arr1_7]
  exact ⟨h0.trans (sum_range8 (fun b => ∑ j, H1' V c b j d)), h1.trans (sum_range8 (fun b => ∑ j, H1' V c b j d * H1' V c b j d))⟩

end Cert.KernelIdeal.Val

end
-- ==== Proof.V.K2.lean ====
module

public import Idealize.ShloMosaic.Lib.Pipeline.ValueKit
public import Idealize.ShloMosaic.Lib.Pointwise
public import proofs.«01_k».proof.Proof.SI.R2
public import proofs.«01_k».proof.Proof.V.KT

@[expose] public section

set_option maxRecDepth 16384

noncomputable section

namespace Cert.KernelIdeal.Val

open Cert.KernelIdeal.Gen Cert.KernelIdeal.Calls
open Idealize.ShloMosaic Idealize.ShloMosaic.TcCoe Idealize.SL.Sem
open Idealize.ShloMosaic.Pipeline (Dat)
open Cert.Spec
open scoped BigOperators

theorem pot2_at (v0 v4 v10 : Vec Ideal S1x256 .f32) (v16 : Vec Ideal S1x2048x256 .f32) (v20 : Vec Ideal S1x256 .f32) (v29 : Vec Ideal S2048x256 .f32) (t : Fin 2048) (d : Fin 256) :
    k2_pay5 (F := Ideal) v0 v4 v10 v16 v20 v29 (ix2 t d) = v29 (ix2 t d) + kbn (v0 (ix2 0 d)) (v4 (ix2 0 d)) (v10 (ix2 0 d)) (v20 (ix2 0 d)) (v16 (ix3 0 t d)) := by
  pointwise [k2_pay5, kbn]
theorem fire2_at (v0 v4 v10 : Vec Ideal S1x256 .f32) (v16 : Vec Ideal S1x2048x256 .f32) (v20 : Vec Ideal S1x256 .f32) (v29 : Vec Ideal S2048x256 .f32) (t : Fin 2048) (d : Fin 256) :
    k2_pay6 (F := Ideal) v0 v4 v10 v16 v20 v29 (ix2 t d) = fire (k2_pay5 (F := Ideal) v0 v4 v10 v16 v20 v29 (ix2 t d)) := by
  rw [← bit_fire]
  pointwise [k2_pay6]
theorem mem2_at (v0 v4 v10 : Vec Ideal S1x256 .f32) (v16 : Vec Ideal S1x2048x256 .f32) (v20 : Vec Ideal S1x256 .f32) (v29 : Vec Ideal S2048x256 .f32) (t : Fin 2048) (d : Fin 256) :
    k2_pay1 (F := Ideal) (k2_pay7 v0 v4 v10 v16 v20 v29) (ix2 t d) = k2_pay5 (F := Ideal) v0 v4 v10 v16 v20 v29 (ix2 t d) * (1 - fire (k2_pay5 (F := Ideal) v0 v4 v10 v16 v20 v29 (ix2 t d))) := by
  rw [← fire2_at]
  pointwise [k2_pay1, k2_pay7]
theorem spk2_at (x0 : Vec Ideal S1x2048x256 .f32) (x1 : Vec Ideal S8x256 .f32) (x2 x3 : Vec Ideal S1x256 .f32) (x4 : Vec Ideal S256x1 .f32) (x5 : Vec Ideal S1x1 .f32) (s0 : Vec Ideal S2048x256 .f32) (t : Fin 2048) (d : Fin 256) :
    spk2 (F := Ideal) x0 x1 x2 x3 x4 x5 s0 (ix2 t d) = fire (s0 (ix2 t d) + kbn (x1 (ix2 0 d)) (x1 (ix2 1 d)) (x2 (ix2 0 d)) (x3 (ix2 0 d)) (x0 (ix3 0 t d))) := by
  unfold spk2
  rw [fire2_at, pot2_at, rowAt0_at, rowAt1_at]
theorem nxt2_0_at (x0 : Vec Ideal S1x2048x256 .f32) (x1 : Vec Ideal S8x256 .f32) (x2 x3 : Vec Ideal S1x256 .f32) (x4 : Vec Ideal S256x1 .f32) (x5 : Vec Ideal S1x1 .f32) (s0 : Vec Ideal S2048x256 .f32) (t : Fin 2048) (d : Fin 256) :
    nxt2_0 (F := Ideal) x0 x1 x2 x3 x4 x5 s0 (ix2 t d) = (s0 (ix2 t d) + kbn (x1 (ix2 0 d)) (x1 (ix2 1 d)) (x2 (ix2 0 d)) (x3 (ix2 0 d)) (x0 (ix3 0 t d))) * (1 - fire (s0 (ix2 t d) + kbn (x1 (ix2 0 d)) (x1 (ix2 1 d)) (x2 (ix2 0 d)) (x3 (ix2 0 d)) (x0 (ix3 0 t d)))) := by
  unfold nxt2_0
  rw [mem2_at, pot2_at, rowAt0_at, rowAt1_at]
theorem zero2_at (t : Fin 2048) (d : Fin 256) : k2_pay4 (F := Ideal) (ix2 t d) = 0 := by
  pointwise [k2_pay4]

variable (V : Dev nD → Valuation τ sig (Elt Ideal)) (c : Dev nD)

/-- The normalized activations call 2 feeds its neurons. -/
def X2 : Arr 256 := fun b t d => kbn ((V c (Proc.devRef .tc main_v12_1) : S8x256.Idx → EReal) (ix2 0 d)) ((V c (Proc.devRef .tc main_v12_1) : S8x256.Idx → EReal) (ix2 1 d))
  ((V c (Proc.devRef .tc main_v5) : S1x256.Idx → EReal) (ix2 0 d)) ((V c (Proc.devRef .tc main_v6) : S1x256.Idx → EReal) (ix2 0 d)) ((V c (Proc.devRef .tc main_v12_0) : S8x2048x256.Idx → EReal) (ix3 b t d))
/-- The dense layer call 2 applies to its spikes. -/
def H2' : Arr 1 := lin (spikes (X2 V c)) (fun k d => (V c (Proc.devRef .tc main_arg11) : S256x1.Idx → EReal) (ix2 k d)) (fun d => (V c (Proc.devRef .tc main_v7) : S1x1.Idx → EReal) (ix2 0 d))

theorem idx2 : ∀ t : Fin cfg2.N, win2_0.index t = ![t.val, 0, 0] ∧ win2_1.index t = ![0, 0] ∧ win2_2.index t = ![0, 0]
    ∧ win2_3.index t = ![0, 0] ∧ win2_4.index t = ![0, 0] ∧ win2_5.index t = ![0, 0] ∧ win2_6.index t = ![t.val, 0, 0] ∧ win2_7.index t = ![t.val, 0, 0] := (by decide +kernel : ∀ t : Fin grid2.N, _)
theorem blk2_0 (t : Fin cfg2.N) (b : Fin 8) (hb : b.val = t.val) (j : Fin 2048) (d : Fin 256) : iblk2 V c 0 t (ix3 0 j d) = V c (Proc.devRef .tc main_v12_0) (ix3 b j d) := by
  blk_ext [iblk2, idx2 t]
theorem blk2_1 (t : Fin cfg2.N) : iblk2 V c 1 t = V c (Proc.devRef .tc main_v12_1) := by blk_ext! [iblk2, idx2 t]
theorem blk2_2 (t : Fin cfg2.N) : iblk2 V c 2 t = V c (Proc.devRef .tc main_v5) := by blk_ext! [iblk2, idx2 t]
theorem blk2_3 (t : Fin cfg2.N) : iblk2 V c 3 t = V c (Proc.devRef .tc main_v6) := by blk_ext! [iblk2, idx2 t]
theorem blk2_4 (t : Fin cfg2.N) : iblk2 V c 4 t = V c (Proc.devRef .tc main_arg11) := by blk_ext! [iblk2, idx2 t]
theorem blk2_5 (t : Fin cfg2.N) : iblk2 V c 5 t = V c (Proc.devRef .tc main_v7) := by blk_ext! [iblk2, idx2 t]

/-- The input a point of call 2 adds to its membrane. -/
theorem in2 (t : Fin cfg2.N) (b : Fin 8) (hb : b.val = t.val) (j : Fin 2048) (d : Fin 256) :
    kbn (iblk2 V c 1 t (ix2 0 d)) (iblk2 V c 1 t (ix2 1 d)) (iblk2 V c 2 t (ix2 0 d)) (iblk2 V c 3 t (ix2 0 d)) (iblk2 V c 0 t (ix3 0 j d)) = X2 V c b j d := by
  rw [blk2_1, blk2_2, blk2_3, blk2_0 V c t b hb]
  rfl
/-- The membrane before point `n`. -/
theorem mem2 (j : Fin 2048) (d : Fin 256) (n : ℕ) (hn : n ≤ 8) : (st2 V c n) (ix2 j d) = mem (fun k => X2 V c (fin8 k) j d) n := by
  induction n with
  | zero => rw [st2_zero]; exact zero2_at j d
  | succ n ih =>
    have i0 := ih (by omega)
    have hs := st2_succ V c (⟨n, by show n < 8; omega⟩ : Fin cfg2.N)
    have hp := in2 V c (⟨n, by show n < 8; omega⟩ : Fin cfg2.N) (fin8 n) (Nat.mod_eq_of_lt (by omega)) j d
    refine (congrFun ( hs) (ix2 j d)).trans ((nxt2_0_at (iblk2 V c 0 (⟨n, by show n < 8; omega⟩ : Fin cfg2.N)) (iblk2 V c 1 (⟨n, by show n < 8; omega⟩ : Fin cfg2.N)) (iblk2 V c 2 (⟨n, by show n < 8; omega⟩ : Fin cfg2.N)) (iblk2 V c 3 (⟨n, by show n < 8; omega⟩ : Fin cfg2.N)) (iblk2 V c 4 (⟨n, by show n < 8; omega⟩ : Fin cfg2.N)) (iblk2 V c 5 (⟨n, by show n < 8; omega⟩ : Fin cfg2.N)) (st2 V c n) j d).trans ?_)
    rw [hp]
    simp only [i0]
    rfl
/-- The spikes of a point. -/
theorem spk2_point (t : Fin cfg2.N) (b : Fin 8) (hb : b.val = t.val) (j : Fin 2048) (d : Fin 256) :
    spk2 (F := Ideal) (iblk2 V c 0 t) (iblk2 V c 1 t) (iblk2 V c 2 t) (iblk2 V c 3 t) (iblk2 V c 4 t) (iblk2 V c 5 t) (st2 V c t.val) (ix2 j d) = spikes (X2 V c) b j d := by
  refine (spk2_at _ _ _ _ _ _ _  j d).trans ?_
  rw [in2 V c t b hb, mem2 V c j d t.val (by have : t.val < 8 := t.isLt; omega)]
  unfold spikes
  rw [hb]

theorem hid2_at (s : FVec Ideal S2048x256 .f32) (t : Fin 2048) (d : Fin 256) : k2_pay2 (F := Ideal) s (ix3 0 t d) = s (ix2 t d) := by
  pointwise [k2_pay2]
theorem log2_at (s : FVec Ideal S2048x256 .f32) (x4 : Vec Ideal S256x1 .f32) (x5 : Vec Ideal S1x1 .f32) (t : Fin 2048) :
    k2_pay3 (F := Ideal) s x4 x5 (ix3 0 t 0) = (∑ k : Fin 256, s (ix2 t k) * x4 (ix2 k 0)) + x5 (ix2 0 0) := by
  pointwise [k2_pay3]
/-- The hidden spikes. -/
theorem arr2_6 : (dat2 V c).arrAt 6 cfg2.N = (fun i : S8x2048x256.Idx => spikes (X2 V c) (i 0) (i 1) (i 2) : S8x2048x256.Idx → EReal) := by
  refine (dat2 V c).arrAt_eq_of_covers 6 _ (by decide +kernel) fun t _ y => ?_
  blk_simp
  rw [after2_6]
  idx_vars y
  obtain rfl : y0 = 0 := Subsingleton.elim _ _
  have e : (win2_6.blk t).view.emb (ix3 0 y1 y2) = ix3 (⟨t.val, t.isLt⟩ : Fin 8) y1 y2 := by blk_ext [idx2 t]
  exact ((hid2_at _ y1 y2).trans (spk2_point V c t (⟨t.val, t.isLt⟩ : Fin 8) rfl y1 y2)).trans
    (congrArg (fun i : S8x2048x256.Idx => spikes (X2 V c) (i 0) (i 1) (i 2)) e.symm)
/-- The boundary logits. -/
theorem arr2_7 : (dat2 V c).arrAt 7 cfg2.N = (fun i : S8x2048x1.Idx => H2' V c (i 0) (i 1) (i 2) : S8x2048x1.Idx → EReal) := by
  have hp : ∀ (t : Fin cfg2.N) (j : Fin 2048), (∑ k : Fin 256, spk2 (F := Ideal) (iblk2 V c 0 t) (iblk2 V c 1 t) (iblk2 V c 2 t) (iblk2 V c 3 t) (iblk2 V c 4 t) (iblk2 V c 5 t) (st2 V c t.val) (ix2 j k) * (iblk2 V c 4 t : S256x1.Idx → EReal) (ix2 k 0)) + (iblk2 V c 5 t : S1x1.Idx → EReal) (ix2 0 0) = H2' V c (⟨t.val, t.isLt⟩ : Fin 8) j 0 := by
    intro t j
    simp only [fun k => spk2_point V c t (⟨t.val, t.isLt⟩ : Fin 8) rfl j k]
    rw [blk2_4, blk2_5]
    rfl
  generalize H2' V c = G at hp ⊢
  refine (dat2 V c).arrAt_eq_of_covers 7 _ (by decide +kernel) fun t _ y => ?_
  blk_simp
  rw [after2_7]
  idx_vars y
  obtain rfl : y0 = 0 := Subsingleton.elim _ _
  obtain rfl : y2 = 0 := Subsingleton.elim _ _
  have e : (win2_7.blk t).view.emb (ix3 0 y1 0) = ix3 (⟨t.val, t.isLt⟩ : Fin 8) y1 0 := by blk_ext [idx2 t]
  exact ((log2_at _ _ _ y1).trans (hp t y1)).trans (congrArg (fun i : S8x2048x1.Idx => G (i 0) (i 1) (i 2)) e.symm)

end Cert.KernelIdeal.Val

end
-- ==== Proof.V.K3.lean ====
module

public import Idealize.ShloMosaic.Lib.Pipeline.ValueKit
public import Idealize.ShloMosaic.Lib.Pointwise
public import proofs.«01_k».proof.Proof.SI.R3
public import proofs.«01_k».proof.Proof.V.KT

@[expose] public section

set_option maxRecDepth 16384

noncomputable section

namespace Cert.KernelIdeal.Val

open Cert.KernelIdeal.Gen Cert.KernelIdeal.Calls
open Idealize.ShloMosaic Idealize.ShloMosaic.TcCoe Idealize.SL.Sem
open Idealize.ShloMosaic.Pipeline (Dat)
open Cert.Spec
open scoped BigOperators

/-- One step of the running sum: a row plus itself moved right by `n`, a window of length `n` becoming one of length `2 n`. -/
theorem win_step (f : Fin 2048 → EReal) (n : ℕ) (u v : Fin 2048 → EReal) (hu : ∀ t, u t = win (ext f) n t.val)
    (hv : ∀ t : Fin 2048, v t = u t + (if h : t.val < n then 0 else u ⟨t.val - n, by omega⟩)) (t : Fin 2048) : v t = win (ext f) (n + n) t.val := by
  rw [hv, hu, win_double]
  by_cases h : t.val < n
  · simp [h]
  · simp only [h, dif_neg, if_neg, not_false_eq_true, hu]

/-- The row moved right by 1 and added. -/
def sh1 (v : FVec Ideal S8x2048 .f32) : FVec Ideal S8x2048 .f32 :=
  addf v (concatenate S8x2048 1 [⟨S8x1, broadcast S8x1 (Scalar.ofBits .f32 0x00000000#32)⟩, ⟨S8x2047, extractStridedSlice S8x2047 ![0, 0] v slices_S8x2048_o0_0_S8x2047⟩] concatenates_S8x1_S8x2047_S8x2048_d1)
theorem sh1_at (v : FVec Ideal S8x2048 .f32) (b : Fin 8) (t : Fin 2048) :
    sh1 v (ix2 b t) = v (ix2 b t) + (if h : t.val < 1 then 0 else v (ix2 b ⟨t.val - 1, by omega⟩)) := by
  pointwise [sh1]

/-- The row moved right by 2 and added. -/
def sh2 (v : FVec Ideal S8x2048 .f32) : FVec Ideal S8x2048 .f32 :=
  addf v (concatenate S8x2048 1 [⟨S8x2, broadcast S8x2 (Scalar.ofBits .f32 0x00000000#32)⟩, ⟨S8x2046, extractStridedSlice S8x2046 ![0, 0] v slices_S8x2048_o0_0_S8x2046⟩] concatenates_S8x2_S8x2046_S8x2048_d1)
theorem sh2_at (v : FVec Ideal S8x2048 .f32) (b : Fin 8) (t : Fin 2048) :
    sh2 v (ix2 b t) = v (ix2 b t) + (if h : t.val < 2 then 0 else v (ix2 b ⟨t.val - 2, by omega⟩)) := by
  pointwise [sh2]

/-- The row moved right by 4 and added. -/
def sh4 (v : FVec Ideal S8x2048 .f32) : FVec Ideal S8x2048 .f32 :=
  addf v (concatenate S8x2048 1 [⟨S8x4, broadcast S8x4 (Scalar.ofBits .f32 0x00000000#32)⟩, ⟨S8x2044, extractStridedSlice S8x2044 ![0, 0] v slices_S8x2048_o0_0_S8x2044⟩] concatenates_S8x4_S8x2044_S8x2048_d1)
theorem sh4_at (v : FVec Ideal S8x2048 .f32) (b : Fin 8) (t : Fin 2048) :
    sh4 v (ix2 b t) = v (ix2 b t) + (if h : t.val < 4 then 0 else v (ix2 b ⟨t.val - 4, by omega⟩)) := by
  pointwise [sh4]

/-- The row moved right by 8 and added. -/
def sh8 (v : FVec Ideal S8x2048 .f32) : FVec Ideal S8x2048 .f32 :=
  addf v (concatenate S8x2048 1 [⟨S8x8, broadcast S8x8 (Scalar.ofBits .f32 0x00000000#32)⟩, ⟨S8x2040, extractStridedSlice S8x2040 ![0, 0] v slices_S8x2048_o0_0_S8x2040⟩] concatenates_S8x8_S8x2040_S8x2048_d1)
theorem sh8_at (v : FVec Ideal S8x2048 .f32) (b : Fin 8) (t : Fin 2048) :
    sh8 v (ix2 b t) = v (ix2 b t) + (if h : t.val < 8 then 0 else v (ix2 b ⟨t.val - 8, by omega⟩)) := by
  pointwise [sh8]

/-- The row moved right by 16 and added. -/
def sh16 (v : FVec Ideal S8x2048 .f32) : FVec Ideal S8x2048 .f32 :=
  addf v (concatenate S8x2048 1 [⟨S8x16, broadcast S8x16 (Scalar.ofBits .f32 0x00000000#32)⟩, ⟨S8x2032, extractStridedSlice S8x2032 ![0, 0] v slices_S8x2048_o0_0_S8x2032⟩] concatenates_S8x16_S8x2032_S8x2048_d1)
theorem sh16_at (v : FVec Ideal S8x2048 .f32) (b : Fin 8) (t : Fin 2048) :
    sh16 v (ix2 b t) = v (ix2 b t) + (if h : t.val < 16 then 0 else v (ix2 b ⟨t.val - 16, by omega⟩)) := by
  pointwise [sh16]

/-- The row moved right by 32 and added. -/
def sh32 (v : FVec Ideal S8x2048 .f32) : FVec Ideal S8x2048 .f32 :=
  addf v (concatenate S8x2048 1 [⟨S8x32, broadcast S8x32 (Scalar.ofBits .f32 0x00000000#32)⟩, ⟨S8x2016, extractStridedSlice S8x2016 ![0, 0] v slices_S8x2048_o0_0_S8x2016⟩] concatenates_S8x32_S8x2016_S8x2048_d1)
theorem sh32_at (v : FVec Ideal S8x2048 .f32) (b : Fin 8) (t : Fin 2048) :
    sh32 v (ix2 b t) = v (ix2 b t) + (if h : t.val < 32 then 0 else v (ix2 b ⟨t.val - 32, by omega⟩)) := by
  pointwise [sh32]

/-- The row moved right by 64 and added. -/
def sh64 (v : FVec Ideal S8x2048 .f32) : FVec Ideal S8x2048 .f32 :=
  addf v (concatenate S8x2048 1 [⟨S8x64, broadcast S8x64 (Scalar.ofBits .f32 0x00000000#32)⟩, ⟨S8x1984, extractStridedSlice S8x1984 ![0, 0] v slices_S8x2048_o0_0_S8x1984⟩] concatenates_S8x64_S8x1984_S8x2048_d1)
theorem sh64_at (v : FVec Ideal S8x2048 .f32) (b : Fin 8) (t : Fin 2048) :
    sh64 v (ix2 b t) = v (ix2 b t) + (if h : t.val < 64 then 0 else v (ix2 b ⟨t.val - 64, by omega⟩)) := by
  pointwise [sh64]

/-- The row moved right by 128 and added. -/
def sh128 (v : FVec Ideal S8x2048 .f32) : FVec Ideal S8x2048 .f32 :=
  addf v (concatenate S8x2048 1 [⟨S8x128, broadcast S8x128 (Scalar.ofBits .f32 0x00000000#32)⟩, ⟨S8x1920, extractStridedSlice S8x1920 ![0, 0] v slices_S8x2048_o0_0_S8x1920⟩] concatenates_S8x128_S8x1920_S8x2048_d1)
theorem sh128_at (v : FVec Ideal S8x2048 .f32) (b : Fin 8) (t : Fin 2048) :
    sh128 v (ix2 b t) = v (ix2 b t) + (if h : t.val < 128 then 0 else v (ix2 b ⟨t.val - 128, by omega⟩)) := by
  pointwise [sh128]

/-- The row moved right by 256 and added. -/
def sh256 (v : FVec Ideal S8x2048 .f32) : FVec Ideal S8x2048 .f32 :=
  addf v (concatenate S8x2048 1 [⟨S8x256, broadcast S8x256 (Scalar.ofBits .f32 0x00000000#32)⟩, ⟨S8x1792, extractStridedSlice S8x1792 ![0, 0] v slices_S8x2048_o0_0_S8x1792⟩] concatenates_S8x256_S8x1792_S8x2048_d1)
theorem sh256_at (v : FVec Ideal S8x2048 .f32) (b : Fin 8) (t : Fin 2048) :
    sh256 v (ix2 b t) = v (ix2 b t) + (if h : t.val < 256 then 0 else v (ix2 b ⟨t.val - 256, by omega⟩)) := by
  pointwise [sh256]

/-- The row moved right by 512 and added. -/
def sh512 (v : FVec Ideal S8x2048 .f32) : FVec Ideal S8x2048 .f32 :=
  addf v (concatenate S8x2048 1 [⟨S8x512, broadcast S8x512 (Scalar.ofBits .f32 0x00000000#32)⟩, ⟨S8x1536, extractStridedSlice S8x1536 ![0, 0] v slices_S8x2048_o0_0_S8x1536⟩] concatenates_S8x512_S8x1536_S8x2048_d1)
theorem sh512_at (v : FVec Ideal S8x2048 .f32) (b : Fin 8) (t : Fin 2048) :
    sh512 v (ix2 b t) = v (ix2 b t) + (if h : t.val < 512 then 0 else v (ix2 b ⟨t.val - 512, by omega⟩)) := by
  pointwise [sh512]

/-- The row moved right by 1024 and added. -/
def sh1024 (v : FVec Ideal S8x2048 .f32) : FVec Ideal S8x2048 .f32 :=
  addf v (concatenate S8x2048 1 [⟨S8x1024, broadcast S8x1024 (Scalar.ofBits .f32 0x00000000#32)⟩, ⟨S8x1024, extractStridedSlice S8x1024 ![0, 0] v slices_S8x2048_o0_0_S8x1024⟩] concatenates_S8x1024_S8x1024_S8x2048_d1)
theorem sh1024_at (v : FVec Ideal S8x2048 .f32) (b : Fin 8) (t : Fin 2048) :
    sh1024 v (ix2 b t) = v (ix2 b t) + (if h : t.val < 1024 then 0 else v (ix2 b ⟨t.val - 1024, by omega⟩)) := by
  pointwise [sh1024]

/-- The boundary weights. -/
def bnds (x0 : Vec Ideal S8x2048 .f32) (x1 : Vec Ideal S8x2048 .i32) : FVec Ideal S8x2048 .f32 :=
  select (cmpi .eq (iota .tc S8x2048 32 [1] iota_S8x2048_d1_w32) (broadcast S8x2048 0#32)) (broadcast S8x2048 (Scalar.ofBits .f32 0x3F800000#32))
    (subf (mulf (logistic (shapeCast S8x2048 x0 shapeCasts_S8x2048_S8x2048)) (sitofp .f32 x1)) (mulf (broadcast S8x2048 (Scalar.ofBits .f32 0x461C4000#32)) (subf (broadcast S8x2048 (Scalar.ofBits .f32 0x3F800000#32)) (sitofp .f32 x1))))
theorem bnds_at (x0 : Vec Ideal S8x2048 .f32) (x1 : Vec Ideal S8x2048 .i32) (b : Fin 8) (t : Fin 2048) :
    bnds x0 x1 (ix2 b t) = bnd (fun b t => x0 (ix2 b t)) (fun b t => x1 (ix2 b t)) b t := by
  pointwise [bnds, bnd]
  have hc : (BitVec.ofNat 32 t.val = 0#32) ↔ t.val = 0 := by
    constructor
    · intro h
      have := congrArg BitVec.toNat h
      rw [BitVec.toNat_ofNat] at this
      have h2 : (0#32 : BitVec 32).toNat = 0 := rfl
      omega
    · intro h; rw [h]
  by_cases h : t.val = 0
  · rw [if_pos h, hc.mpr h]; rfl
  · rw [if_neg h, show IntOp.cmpi .eq (BitVec.ofNat 32 t.val) 0#32 = 0#1 from by
      show BitVec.ofBool (BitVec.ofNat 32 t.val == 0#32) = 0#1
      rw [beq_eq_false_iff_ne.mpr (fun e => h (hc.mp e))]; rfl]
    rfl
theorem k3_pay2_eq (x0 : Vec Ideal S8x2048 .f32) (x1 : Vec Ideal S8x2048 .i32) : k3_pay2 (F := Ideal) x0 x1 = sh64 (sh32 (sh16 (sh8 (sh4 (sh2 (sh1 (bnds x0 x1))))))) := rfl
theorem k3_pay1_at (v : FVec Ideal S8x2048 .f32) (b : Fin 8) (t : Fin 2048) : k3_pay1 (F := Ideal) v (Scalar.ofBits .f32 0x00000000#32) (ix2 b t)
    = IntOp.minsi 2047#32 (IntOp.maxsi 0#32 (Ideal.fptosi 32 (sh1024 (sh512 (sh256 (sh128 v))) (ix2 b t) - 1))) := by
  rw [show k3_pay1 (F := Ideal) v (Scalar.ofBits .f32 0x00000000#32) = minsi (broadcast S8x2048 2047#32) (maxsi (broadcast S8x2048 0#32) (fptosi 32 (subf (sh1024 (sh512 (sh256 (sh128 v)))) (broadcast S8x2048 (Scalar.ofBits .f32 0x3F800000#32))))) from rfl]
  generalize sh1024 (sh512 (sh256 (sh128 v))) = w
  pointwise []
  rfl
/-- The token ids the boundary kernel computes. -/
theorem tok3_at (x0 : Vec Ideal S8x2048 .f32) (x1 : Vec Ideal S8x2048 .i32) (b : Fin 8) (t : Fin 2048) :
    tok3 (F := Ideal) x0 x1 (ix2 b t) = tok (fun t => bnd (fun b t => x0 (ix2 b t)) (fun b t => x1 (ix2 b t)) b t) t := by
  unfold tok3 tok
  rw [k3_pay1_at, k3_pay2_eq]
  have h0 : ∀ t : Fin 2048, bnds x0 x1 (ix2 b t) = win (ext (fun t => bnd (fun b t => x0 (ix2 b t)) (fun b t => x1 (ix2 b t)) b t)) 1 t.val := by
    intro t
    rw [bnds_at, win_one]
    unfold ext
    rw [dif_pos t.isLt]
  generalize (fun t => bnd (fun b t => x0 (ix2 b t)) (fun b t => x1 (ix2 b t)) b t) = f at h0 ⊢
  generalize bnds x0 x1 = v at h0 ⊢
  have h1 : ∀ t : Fin 2048, sh1 (v) (ix2 b t) = win (ext f) 2 t.val := win_step f 1 _ _ h0 (sh1_at _ b)
  have h2 : ∀ t : Fin 2048, sh2 (sh1 (v)) (ix2 b t) = win (ext f) 4 t.val := win_step f 2 _ _ h1 (sh2_at _ b)
  have h4 : ∀ t : Fin 2048, sh4 (sh2 (sh1 (v))) (ix2 b t) = win (ext f) 8 t.val := win_step f 4 _ _ h2 (sh4_at _ b)
  have h8 : ∀ t : Fin 2048, sh8 (sh4 (sh2 (sh1 (v)))) (ix2 b t) = win (ext f) 16 t.val := win_step f 8 _ _ h4 (sh8_at _ b)
  have h16 : ∀ t : Fin 2048, sh16 (sh8 (sh4 (sh2 (sh1 (v))))) (ix2 b t) = win (ext f) 32 t.val := win_step f 16 _ _ h8 (sh16_at _ b)
  have h32 : ∀ t : Fin 2048, sh32 (sh16 (sh8 (sh4 (sh2 (sh1 (v)))))) (ix2 b t) = win (ext f) 64 t.val := win_step f 32 _ _ h16 (sh32_at _ b)
  have h64 : ∀ t : Fin 2048, sh64 (sh32 (sh16 (sh8 (sh4 (sh2 (sh1 (v))))))) (ix2 b t) = win (ext f) 128 t.val := win_step f 64 _ _ h32 (sh64_at _ b)
  have h128 : ∀ t : Fin 2048, sh128 (sh64 (sh32 (sh16 (sh8 (sh4 (sh2 (sh1 (v)))))))) (ix2 b t) = win (ext f) 256 t.val := win_step f 128 _ _ h64 (sh128_at _ b)
  have h256 : ∀ t : Fin 2048, sh256 (sh128 (sh64 (sh32 (sh16 (sh8 (sh4 (sh2 (sh1 (v))))))))) (ix2 b t) = win (ext f) 512 t.val := win_step f 256 _ _ h128 (sh256_at _ b)
  have h512 : ∀ t : Fin 2048, sh512 (sh256 (sh128 (sh64 (sh32 (sh16 (sh8 (sh4 (sh2 (sh1 (v)))))))))) (ix2 b t) = win (ext f) 1024 t.val := win_step f 512 _ _ h256 (sh512_at _ b)
  have h1024 : ∀ t : Fin 2048, sh1024 (sh512 (sh256 (sh128 (sh64 (sh32 (sh16 (sh8 (sh4 (sh2 (sh1 (v))))))))))) (ix2 b t) = win (ext f) 2048 t.val := win_step f 1024 _ _ h512 (sh1024_at _ b)
  rw [h1024]

variable (V : Dev nD → Valuation τ sig (Elt Ideal)) (c : Dev nD)

theorem idx3 : ∀ t : Fin cfg3.N, win3_0.index t = ![0, 0] ∧ win3_1.index t = ![0, 0] ∧ win3_2.index t = ![0, 0] := (by decide +kernel : ∀ t : Fin grid3.N, _)
theorem blk3_0 (t : Fin cfg3.N) : iblk3 V c 0 t = V c (Proc.devRef .tc main_v14) := by blk_ext! [iblk3, idx3 t]
theorem blk3_1 (t : Fin cfg3.N) : iblk3 V c 1 t = V c (Proc.devRef .tc main_arg1) := by blk_ext! [iblk3, idx3 t]
/-- The token ids call 3 leaves. -/
def T3 : Fin 8 → Fin 2048 → BitVec 32 := fun b => tok (fun t => bnd (fun b t => (V c (Proc.devRef .tc main_v14) : S8x2048.Idx → EReal) (ix2 b t)) (fun b t => (V c (Proc.devRef .tc main_arg1) : S8x2048.Idx → BitVec 32) (ix2 b t)) b t)
theorem arr3_2 : (dat3 V c).arrAt 2 cfg3.N = (fun i : S8x2048.Idx => T3 V c (i 0) (i 1) : S8x2048.Idx → BitVec 32) := by
  have hp : ∀ (t : Fin cfg3.N) (b : Fin 8) (j : Fin 2048), tok3 (F := Ideal) (iblk3 V c 0 t) (iblk3 V c 1 t) (ix2 b j) = T3 V c b j := by
    intro t b j
    rw [tok3_at, blk3_0, blk3_1]
    rfl
  generalize T3 V c = G at hp ⊢
  refine (dat3 V c).arrAt_eq_of_covers 2 _ (by decide +kernel) fun t _ y => ?_
  blk_simp
  rw [after3_2]
  idx_vars y
  have e : (win3_2.blk t).view.emb (ix2 y0 y1) = ix2 y0 y1 := by blk_ext [idx3 t]
  exact (hp t y0 y1).trans (congrArg (fun i : S8x2048.Idx => G (i 0) (i 1)) e.symm)

end Cert.KernelIdeal.Val

end
-- ==== Proof.V.K4.lean ====
module

public import Idealize.ShloMosaic.Lib.Pipeline.ValueKit
public import Idealize.ShloMosaic.Lib.Pointwise
public import proofs.«01_k».proof.Proof.SI.R4
public import proofs.«01_k».proof.Proof.V.KT

@[expose] public section

set_option maxRecDepth 16384

noncomputable section

namespace Cert.KernelIdeal.Val

open Cert.KernelIdeal.Gen Cert.KernelIdeal.Calls
open Idealize.ShloMosaic Idealize.ShloMosaic.TcCoe Idealize.SL.Sem
open Idealize.ShloMosaic.Pipeline (Dat)
open Cert.Spec
open scoped BigOperators

/-- A row of a tile of tokens, pooled and projected. -/
def proj (i : grid4.Coords) (x0 : Vec Ideal S1x2048x256 .f32) (x1 : Vec Ideal S1x1x2048 .i32) (x2 : Vec Ideal S256x768 .f32) (x3 : Vec Ideal S1x768 .f32) (r : Fin 256) (e : Fin 768) : EReal :=
  (∑ d : Fin 256, Ideal.div (∑ t : Fin 2048, (if BitVec.ofNat 32 r.val + Scalar.muli (BitVec.ofNat 32 (i 1).val) 256#32 = x1 (ix3 0 0 t) then 1 else 0) * x0 (ix3 0 t d))
    ((∑ t : Fin 2048, (if BitVec.ofNat 32 r.val + Scalar.muli (BitVec.ofNat 32 (i 1).val) 256#32 = x1 (ix3 0 0 t) then 1 else 0)) + Ideal.ofBits .f32 0x322BCC77#32) * x2 (ix2 d e)) + x3 (ix2 0 e)
theorem pay42_at (i : grid4.Coords) (x0 : Vec Ideal S1x2048x256 .f32) (x1 : Vec Ideal S1x1x2048 .i32) (x2 : Vec Ideal S256x768 .f32) (x3 : Vec Ideal S1x768 .f32) (r : Fin 256) (e : Fin 768) :
    k4_pay2 (F := Ideal) i x0 x1 x2 x3 (ix2 r e) = proj i x0 x1 x2 x3 r e - Ideal.div (∑ k : Fin 768, proj i x0 x1 x2 x3 r k) (Ideal.ofBits .f32 0x44400000#32) := by
  unfold proj
  simp only [← onehot]
  pointwise [k4_pay2]
  rfl
theorem pay43_at (i : grid4.Coords) (x0 : Vec Ideal S1x2048x256 .f32) (x1 : Vec Ideal S1x1x2048 .i32) (x2 : Vec Ideal S256x768 .f32) (x3 : Vec Ideal S1x768 .f32) (r : Fin 256) :
    k4_pay3 (F := Ideal) i x0 x1 x2 x3 (ix2 r 0) = Ideal.div (∑ k : Fin 768, k4_pay2 (F := Ideal) i x0 x1 x2 x3 (ix2 r k) * k4_pay2 (F := Ideal) i x0 x1 x2 x3 (ix2 r k)) (Ideal.ofBits .f32 0x44400000#32) + Ideal.ofBits .f32 0x3727C5AC#32 := by
  pointwise [k4_pay3]
theorem pay41_at (a : FVec Ideal S256x768 .f32) (v : FVec Ideal S256x1 .f32) (x4 x5 : Vec Ideal S1x768 .f32) (r : Fin 256) (e : Fin 768) :
    k4_pay1 (F := Ideal) a v x4 x5 (ix3 0 r e) = a (ix2 r e) * Ideal.rsqrt (v (ix2 r 0)) * x4 (ix2 0 e) + x5 (ix2 0 e) := by
  pointwise [k4_pay1]

variable (V : Dev nD → Valuation τ sig (Elt Ideal)) (c : Dev nD)

theorem idx4 : ∀ t : Fin cfg4.N, win4_0.index t = ![(grid4.coords t 0).val, 0, 0] ∧ win4_1.index t = ![(grid4.coords t 0).val, 0, 0] ∧ win4_2.index t = ![0, 0]
    ∧ win4_3.index t = ![0, 0] ∧ win4_4.index t = ![0, 0] ∧ win4_5.index t = ![0, 0] ∧ win4_6.index t = ![(grid4.coords t 0).val, (grid4.coords t 1).val, 0] := (by decide +kernel : ∀ t : Fin grid4.N, _)
theorem blk4_0 (t : Fin cfg4.N) (b : Fin 8) (hb : b.val = (grid4.coords t 0).val) (j : Fin 2048) (d : Fin 256) : iblk4 V c 0 t (ix3 0 j d) = V c (Proc.devRef .tc main_v13_0) (ix3 b j d) := by
  blk_ext [iblk4, idx4 t]
theorem blk4_1 (t : Fin cfg4.N) (b : Fin 8) (hb : b.val = (grid4.coords t 0).val) (j : Fin 2048) : iblk4 V c 1 t (ix3 0 0 j) = V c (Proc.devRef .tc main_v16) (ix3 b 0 j) := by
  blk_ext [iblk4, idx4 t]
theorem blk4_2 (t : Fin cfg4.N) : iblk4 V c 2 t = V c (Proc.devRef .tc main_arg15) := by blk_ext! [iblk4, idx4 t]
theorem blk4_3 (t : Fin cfg4.N) : iblk4 V c 3 t = V c (Proc.devRef .tc main_v8) := by blk_ext! [iblk4, idx4 t]
theorem blk4_4 (t : Fin cfg4.N) : iblk4 V c 4 t = V c (Proc.devRef .tc main_v9) := by blk_ext! [iblk4, idx4 t]
theorem blk4_5 (t : Fin cfg4.N) : iblk4 V c 5 t = V c (Proc.devRef .tc main_v10) := by blk_ext! [iblk4, idx4 t]

/-- The pooled and projected rows, from the arrays call 4 reads. -/
def P4 : Arr 768 := lin (pool (fun b t => (V c (Proc.devRef .tc main_v16) : S8x1x2048.Idx → BitVec 32) (ix3 b 0 t)) (fun b t d => (V c (Proc.devRef .tc main_v13_0) : S8x2048x256.Idx → EReal) (ix3 b t d)))
  (fun d e => (V c (Proc.devRef .tc main_arg15) : S256x768.Idx → EReal) (ix2 d e)) (fun e => (V c (Proc.devRef .tc main_v8) : S1x768.Idx → EReal) (ix2 0 e))
/-- The result of call 4. -/
def Y4 : Arr 768 := ln (P4 V c) (fun e => (V c (Proc.devRef .tc main_v9) : S1x768.Idx → EReal) (ix2 0 e)) (fun e => (V c (Proc.devRef .tc main_v10) : S1x768.Idx → EReal) (ix2 0 e))

theorem rowId (i : grid4.Coords) (r : Fin 256) (R : Fin 2048) (hR : R.val = (i 1).val * 256 + r.val) : BitVec.ofNat 32 r.val + Scalar.muli (BitVec.ofNat 32 (i 1).val) 256#32 = BitVec.ofNat 32 R.val := by
  have h1 : (i 1).val < 8 := (i 1).isLt
  have := r.isLt
  apply BitVec.eq_of_toNat_eq
  show (BitVec.ofNat 32 r.val + BitVec.ofNat 32 (i 1).val * 256#32).toNat = _
  simp only [BitVec.toNat_add, BitVec.toNat_mul, BitVec.toNat_ofNat]
  omega
theorem proj_point (t : Fin cfg4.N) (b : Fin 8) (hb : b.val = (grid4.coords t 0).val) (r : Fin 256) (R : Fin 2048) (hR : R.val = (grid4.coords t 1).val * 256 + r.val) (e : Fin 768) :
    proj (grid4.coords t) (iblk4 V c 0 t) (iblk4 V c 1 t) (iblk4 V c 2 t) (iblk4 V c 3 t) r e = P4 V c b R e := by
  unfold proj
  rw [rowId _ r R hR, blk4_2, blk4_3]
  simp only [blk4_0 V c t b hb, blk4_1 V c t b hb]
  rfl
theorem point4 (t : Fin cfg4.N) (b : Fin 8) (hb : b.val = (grid4.coords t 0).val) (r : Fin 256) (R : Fin 2048) (hR : R.val = (grid4.coords t 1).val * 256 + r.val) (e : Fin 768) :
    row4 (F := Ideal) (grid4.coords t) (iblk4 V c 0 t) (iblk4 V c 1 t) (iblk4 V c 2 t) (iblk4 V c 3 t) (iblk4 V c 4 t) (iblk4 V c 5 t) (ix3 0 r e) = Y4 V c b R e := by
  unfold row4
  rw [pay41_at, pay43_at]
  simp only [pay42_at, fun k => proj_point V c t b hb r R hR k]
  rw [blk4_4, blk4_5]
  rfl
theorem arr4_6 : (dat4 V c).arrAt 6 cfg4.N = (fun i : S8x2048x768.Idx => Y4 V c (i 0) (i 1) (i 2) : S8x2048x768.Idx → EReal) := by
  have hp := point4 V c
  generalize Y4 V c = G at hp ⊢
  refine (dat4 V c).arrAt_eq_of_covers 6 _ (by decide +kernel) fun t _ y => ?_
  blk_simp
  rw [after4_6]
  idx_vars y
  obtain rfl : y0 = 0 := Subsingleton.elim _ _
  have h1 : (grid4.coords t 1).val < 8 := (grid4.coords t 1).isLt
  have e : (win4_6.blk t).view.emb (ix3 0 y1 y2) = ix3 (⟨(grid4.coords t 0).val, (grid4.coords t 0).isLt⟩ : Fin 8) (⟨(grid4.coords t 1).val * 256 + y1.val, by omega⟩ : Fin 2048) y2 := by blk_ext [idx4 t]
  exact (hp t (⟨(grid4.coords t 0).val, (grid4.coords t 0).isLt⟩ : Fin 8) rfl y1 (⟨(grid4.coords t 1).val * 256 + y1.val, by omega⟩ : Fin 2048) rfl y2).trans
    (congrArg (fun i : S8x2048x768.Idx => G (i 0) (i 1) (i 2)) e.symm)

end Cert.KernelIdeal.Val

end
-- ==== Proof.V.KAll.lean ====
module

public import Idealize.ShloMosaic.Lib.Claim
public import Idealize.ShloMosaic.Lib.StableHlo.ReadAt
public import proofs.«01_k».proof.Proof.V.Model
public import proofs.«01_k».proof.Proof.SI.Run
public import proofs.«01_k».proof.Proof.V.K0
public import proofs.«01_k».proof.Proof.V.K1
public import proofs.«01_k».proof.Proof.V.K2
public import proofs.«01_k».proof.Proof.V.K3
public import proofs.«01_k».proof.Proof.V.K4

@[expose] public section

set_option maxRecDepth 16384

noncomputable section

namespace Cert.KernelIdeal.Val

open Cert.KernelIdeal.Gen Cert.KernelIdeal.Calls
open Idealize.ShloMosaic Idealize.ShloMosaic.TcCoe Idealize.SL.Sem
open Cert.Spec
open scoped BigOperators

theorem lin_congr {K D : ℕ} {X X' : Arr K} {W W' : Fin K → Fin D → EReal} {e e' : Fin D → EReal} (hX : X = X') (hW : W = W') (he : e = e') :
    lin X W e = lin X' W' e' := by rw [hX, hW, he]
theorem ln_congr {X X' : Arr 768} {e e' f f' : Fin 768 → EReal} (hX : X = X') (he : e = e') (hf : f = f') : ln X e f = ln X' e' f' := by rw [hX, he, hf]

variable (m : (ℓ : Loc nD τ sig) → Buf (Elt Ideal) ℓ) (c : Dev nD)

theorem W1_v0_at (b : Fin 8) (t : Fin 2048) : (W1 m c (Proc.devRef .tc main_v0) : S8x1x2048.Idx → BitVec 32) (ix3 b 0 t) = (m ((c.tc : Thread nD τ).loc main_arg0) : S8x2048.Idx → BitVec 32) (ix2 b t) := by
  unfold W1
  after_reads_at
  rfl
theorem W1_v1_at (d : Fin 256) : (W1 m c (Proc.devRef .tc main_v1) : S1x256.Idx → EReal) (ix2 0 d) = (m ((c.tc : Thread nD τ).loc main_arg4) : S256.Idx → EReal) (ix1 d) := by
  unfold W1
  after_reads_at
  rfl
theorem W1_v2_at (d : Fin 256) : (W1 m c (Proc.devRef .tc main_v2) : S1x256.Idx → EReal) (ix2 0 d) = (m ((c.tc : Thread nD τ).loc main_arg5) : S256.Idx → EReal) (ix1 d) := by
  unfold W1
  after_reads_at
  rfl
theorem W2_v2_at (d : Fin 256) : (W2 m c (Proc.devRef .tc main_v2) : S1x256.Idx → EReal) (ix2 0 d) = (m ((c.tc : Thread nD τ).loc main_arg5) : S256.Idx → EReal) (ix1 d) :=
  (congrFun ((W2_of m c main_v2 (by decide))) (ix2 0 d)).trans (W1_v2_at m c d)
theorem W1_v3_at (d : Fin 256) : (W1 m c (Proc.devRef .tc main_v3) : S1x256.Idx → EReal) (ix2 0 d) = (m ((c.tc : Thread nD τ).loc main_arg6) : S256.Idx → EReal) (ix1 d) := by
  unfold W1
  after_reads_at
  rfl
theorem W2_v3_at (d : Fin 256) : (W2 m c (Proc.devRef .tc main_v3) : S1x256.Idx → EReal) (ix2 0 d) = (m ((c.tc : Thread nD τ).loc main_arg6) : S256.Idx → EReal) (ix1 d) :=
  (congrFun ((W2_of m c main_v3 (by decide))) (ix2 0 d)).trans (W1_v3_at m c d)
theorem W1_v4_at (d : Fin 256) : (W1 m c (Proc.devRef .tc main_v4) : S1x256.Idx → EReal) (ix2 0 d) = (m ((c.tc : Thread nD τ).loc main_arg8) : S256.Idx → EReal) (ix1 d) := by
  unfold W1
  after_reads_at
  rfl
theorem W2_v4_at (d : Fin 256) : (W2 m c (Proc.devRef .tc main_v4) : S1x256.Idx → EReal) (ix2 0 d) = (m ((c.tc : Thread nD τ).loc main_arg8) : S256.Idx → EReal) (ix1 d) :=
  (congrFun ((W2_of m c main_v4 (by decide))) (ix2 0 d)).trans (W1_v4_at m c d)
theorem W1_v5_at (d : Fin 256) : (W1 m c (Proc.devRef .tc main_v5) : S1x256.Idx → EReal) (ix2 0 d) = (m ((c.tc : Thread nD τ).loc main_arg9) : S256.Idx → EReal) (ix1 d) := by
  unfold W1
  after_reads_at
  rfl
theorem W3_v5_at (d : Fin 256) : (W3 m c (Proc.devRef .tc main_v5) : S1x256.Idx → EReal) (ix2 0 d) = (m ((c.tc : Thread nD τ).loc main_arg9) : S256.Idx → EReal) (ix1 d) :=
  (congrFun ((W3_of m c main_v5 (by decide)).trans ((W2_of m c main_v5 (by decide)))) (ix2 0 d)).trans (W1_v5_at m c d)
theorem W1_v6_at (d : Fin 256) : (W1 m c (Proc.devRef .tc main_v6) : S1x256.Idx → EReal) (ix2 0 d) = (m ((c.tc : Thread nD τ).loc main_arg10) : S256.Idx → EReal) (ix1 d) := by
  unfold W1
  after_reads_at
  rfl
theorem W3_v6_at (d : Fin 256) : (W3 m c (Proc.devRef .tc main_v6) : S1x256.Idx → EReal) (ix2 0 d) = (m ((c.tc : Thread nD τ).loc main_arg10) : S256.Idx → EReal) (ix1 d) :=
  (congrFun ((W3_of m c main_v6 (by decide)).trans ((W2_of m c main_v6 (by decide)))) (ix2 0 d)).trans (W1_v6_at m c d)
theorem W1_v7_at (d : Fin 1) : (W1 m c (Proc.devRef .tc main_v7) : S1x1.Idx → EReal) (ix2 0 d) = (m ((c.tc : Thread nD τ).loc main_arg12) : S1.Idx → EReal) (ix1 d) := by
  obtain rfl : d = 0 := Subsingleton.elim _ _
  unfold W1
  after_reads_at
  rfl
theorem W3_v7_at (d : Fin 1) : (W3 m c (Proc.devRef .tc main_v7) : S1x1.Idx → EReal) (ix2 0 d) = (m ((c.tc : Thread nD τ).loc main_arg12) : S1.Idx → EReal) (ix1 d) :=
  (congrFun ((W3_of m c main_v7 (by decide)).trans ((W2_of m c main_v7 (by decide)))) (ix2 0 d)).trans (W1_v7_at m c d)
theorem W1_v8_at (d : Fin 768) : (W1 m c (Proc.devRef .tc main_v8) : S1x768.Idx → EReal) (ix2 0 d) = (m ((c.tc : Thread nD τ).loc main_arg16) : S768.Idx → EReal) (ix1 d) := by
  unfold W1
  after_reads_at
  rfl
theorem W7_v8_at (d : Fin 768) : (W7 m c (Proc.devRef .tc main_v8) : S1x768.Idx → EReal) (ix2 0 d) = (m ((c.tc : Thread nD τ).loc main_arg16) : S768.Idx → EReal) (ix1 d) :=
  (congrFun ((W7_of m c main_v8 (by decide)).trans ((W6_of m c main_v8 (by decide)).trans ((W5_of m c main_v8 (by decide)).trans ((W4_of m c main_v8 (by decide)).trans ((W3_of m c main_v8 (by decide)).trans ((W2_of m c main_v8 (by decide)))))))) (ix2 0 d)).trans (W1_v8_at m c d)
theorem W1_v9_at (d : Fin 768) : (W1 m c (Proc.devRef .tc main_v9) : S1x768.Idx → EReal) (ix2 0 d) = (m ((c.tc : Thread nD τ).loc main_arg17) : S768.Idx → EReal) (ix1 d) := by
  unfold W1
  after_reads_at
  rfl
theorem W7_v9_at (d : Fin 768) : (W7 m c (Proc.devRef .tc main_v9) : S1x768.Idx → EReal) (ix2 0 d) = (m ((c.tc : Thread nD τ).loc main_arg17) : S768.Idx → EReal) (ix1 d) :=
  (congrFun ((W7_of m c main_v9 (by decide)).trans ((W6_of m c main_v9 (by decide)).trans ((W5_of m c main_v9 (by decide)).trans ((W4_of m c main_v9 (by decide)).trans ((W3_of m c main_v9 (by decide)).trans ((W2_of m c main_v9 (by decide)))))))) (ix2 0 d)).trans (W1_v9_at m c d)
theorem W1_v10_at (d : Fin 768) : (W1 m c (Proc.devRef .tc main_v10) : S1x768.Idx → EReal) (ix2 0 d) = (m ((c.tc : Thread nD τ).loc main_arg18) : S768.Idx → EReal) (ix1 d) := by
  unfold W1
  after_reads_at
  rfl
theorem W7_v10_at (d : Fin 768) : (W7 m c (Proc.devRef .tc main_v10) : S1x768.Idx → EReal) (ix2 0 d) = (m ((c.tc : Thread nD τ).loc main_arg18) : S768.Idx → EReal) (ix1 d) :=
  (congrFun ((W7_of m c main_v10 (by decide)).trans ((W6_of m c main_v10 (by decide)).trans ((W5_of m c main_v10 (by decide)).trans ((W4_of m c main_v10 (by decide)).trans ((W3_of m c main_v10 (by decide)).trans ((W2_of m c main_v10 (by decide)))))))) (ix2 0 d)).trans (W1_v10_at m c d)
theorem W1_arg2 : W1 m c (Proc.devRef .tc main_arg2) = m ((c.tc : Thread nD τ).loc main_arg2) := (W1_of m c main_arg2 (by decide)).trans (rfl)
theorem W1_arg3 : W1 m c (Proc.devRef .tc main_arg3) = m ((c.tc : Thread nD τ).loc main_arg3) := (W1_of m c main_arg3 (by decide)).trans (rfl)
theorem W2_arg7 : W2 m c (Proc.devRef .tc main_arg7) = m ((c.tc : Thread nD τ).loc main_arg7) := (W2_of m c main_arg7 (by decide)).trans ((W1_of m c main_arg7 (by decide)).trans (rfl))
theorem W3_arg11 : W3 m c (Proc.devRef .tc main_arg11) = m ((c.tc : Thread nD τ).loc main_arg11) := (W3_of m c main_arg11 (by decide)).trans ((W2_of m c main_arg11 (by decide)).trans ((W1_of m c main_arg11 (by decide)).trans (rfl)))
theorem W5_arg1 : W5 m c (Proc.devRef .tc main_arg1) = m ((c.tc : Thread nD τ).loc main_arg1) := (W5_of m c main_arg1 (by decide)).trans ((W4_of m c main_arg1 (by decide)).trans ((W3_of m c main_arg1 (by decide)).trans ((W2_of m c main_arg1 (by decide)).trans ((W1_of m c main_arg1 (by decide)).trans (rfl)))))
theorem W7_arg15 : W7 m c (Proc.devRef .tc main_arg15) = m ((c.tc : Thread nD τ).loc main_arg15) := (W7_of m c main_arg15 (by decide)).trans ((W6_of m c main_arg15 (by decide)).trans ((W5_of m c main_arg15 (by decide)).trans ((W4_of m c main_arg15 (by decide)).trans ((W3_of m c main_arg15 (by decide)).trans ((W2_of m c main_arg15 (by decide)).trans ((W1_of m c main_arg15 (by decide)).trans (rfl)))))))

/-- What call 1 leaves, reshaped for call 3. -/
theorem W5_v14_at (b : Fin 8) (t : Fin 2048) : (W5 m c (Proc.devRef .tc main_v14) : S8x2048.Idx → EReal) (ix2 b t) = (W4 m c (Proc.devRef .tc main_v13_1) : S8x2048x1.Idx → EReal) (ix3 b t 0) := by
  unfold W5
  after_reads_at
theorem W7_v16_at (b : Fin 8) (t : Fin 2048) : (W7 m c (Proc.devRef .tc main_v16) : S8x1x2048.Idx → BitVec 32) (ix3 b 0 t) = (W6 m c (Proc.devRef .tc main_v15) : S8x2048.Idx → BitVec 32) (ix2 b t) := by
  unfold W7
  after_reads_at

/-- The launched ids are rows of the table. -/
def IdsA : Prop := ∀ (b : Fin 8) (t : Fin 2048), 0 ≤ ((m ((c.tc : Thread nD τ).loc main_arg0) : S8x2048.Idx → BitVec 32) (ix2 b t)).toInt ∧ ((m ((c.tc : Thread nD τ).loc main_arg0) : S8x2048.Idx → BitVec 32) (ix2 b t)).toInt < 256

/-- The layers, from the launched arguments. -/
def L1 : Arr 256 := m1 (fun b t => (m ((c.tc : Thread nD τ).loc main_arg0) : S8x2048.Idx → BitVec 32) (ix2 b t)) (fun k d => (m ((c.tc : Thread nD τ).loc main_arg2) : S256x128.Idx → EReal) (ix2 k d)) (fun k d => (m ((c.tc : Thread nD τ).loc main_arg3) : S128x256.Idx → EReal) (ix2 k d)) (fun d => (m ((c.tc : Thread nD τ).loc main_arg4) : S256.Idx → EReal) (ix1 d))
def L2 : Arr 256 := m2 (L1 m c) (fun d => (m ((c.tc : Thread nD τ).loc main_arg5) : S256.Idx → EReal) (ix1 d)) (fun d => (m ((c.tc : Thread nD τ).loc main_arg6) : S256.Idx → EReal) (ix1 d)) (fun k d => (m ((c.tc : Thread nD τ).loc main_arg7) : S256x256.Idx → EReal) (ix2 k d)) (fun d => (m ((c.tc : Thread nD τ).loc main_arg8) : S256.Idx → EReal) (ix1 d))
def L3 : Arr 256 := m3 (L2 m c) (fun d => (m ((c.tc : Thread nD τ).loc main_arg9) : S256.Idx → EReal) (ix1 d)) (fun d => (m ((c.tc : Thread nD τ).loc main_arg10) : S256.Idx → EReal) (ix1 d))
def L4 : Fin 8 → Fin 2048 → BitVec 32 := m4 (L3 m c) (fun b t => (m ((c.tc : Thread nD τ).loc main_arg1) : S8x2048.Idx → BitVec 32) (ix2 b t)) (fun k d => (m ((c.tc : Thread nD τ).loc main_arg11) : S256x1.Idx → EReal) (ix2 k d)) (fun d => (m ((c.tc : Thread nD τ).loc main_arg12) : S1.Idx → EReal) (ix1 d))
def L5 : Arr 768 := m5 (L4 m c) (L3 m c) (fun k d => (m ((c.tc : Thread nD τ).loc main_arg15) : S256x768.Idx → EReal) (ix2 k d)) (fun d => (m ((c.tc : Thread nD τ).loc main_arg16) : S768.Idx → EReal) (ix1 d)) (fun d => (m ((c.tc : Thread nD τ).loc main_arg17) : S768.Idx → EReal) (ix1 d)) (fun d => (m ((c.tc : Thread nD τ).loc main_arg18) : S768.Idx → EReal) (ix1 d))

theorem ids1 (hid : IdsA m c) : IdsOk (W1 m c (Proc.devRef .tc main_v0)) := fun b j => by
  rw [W1_v0_at]; exact hid b j
theorem H1V_eq : H1V (W1 m) c = L1 m c := by
  unfold H1V H1 L1 m1
  rw [W1_arg2, W1_arg3]
  exact lin_congr (funext fun b => funext fun t => funext fun k =>
    congrArg (fun e => (m ((c.tc : Thread nD τ).loc main_arg2) : S256x128.Idx → EReal) (ix2 (row e) k)) (W1_v0_at m c b t)) rfl (funext (W1_v1_at m c))
theorem W2_h (hid : IdsA m c) (b : Fin 8) (t : Fin 2048) (d : Fin 256) : (W2 m c (Proc.devRef .tc main_v11_0) : S8x2048x256.Idx → EReal) (ix3 b t d) = L1 m c b t d := by
  rw [← H1V_eq]
  exact congrFun ((W2_main_v11_0 m c).trans (arr0_4 (W1 m) c (ids1 m c hid))) (ix3 b t d)
theorem W2_s (hid : IdsA m c) (d : Fin 256) : (W2 m c (Proc.devRef .tc main_v11_1) : S8x256.Idx → EReal) (ix2 0 d) = tot (L1 m c) d := by
  rw [← H1V_eq]
  exact (congrFun (W2_main_v11_1 m c) (ix2 0 d)).trans (arr0_5_row (W1 m) c (ids1 m c hid) d).1
theorem W2_q (hid : IdsA m c) (d : Fin 256) : (W2 m c (Proc.devRef .tc main_v11_1) : S8x256.Idx → EReal) (ix2 1 d) = tot (fun b t d => L1 m c b t d * L1 m c b t d) d := by
  rw [← H1V_eq]
  exact (congrFun (W2_main_v11_1 m c) (ix2 1 d)).trans (arr0_5_row (W1 m) c (ids1 m c hid) d).2
theorem L1_real (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (b : Fin 8) (t : Fin 2048) (d : Fin 256) : ∃ r : ℝ, L1 m c b t d = r := by
  unfold L1 m1
  exact lin_real _ _ _ (fun b t k => h2 _) (fun k d => h3 _) (fun d => h4 _) b t d
/-- Call 1's normalized activations. -/
theorem X1_eq (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) : X1 (W2 m) c = bn (L1 m c) (fun d => (m ((c.tc : Thread nD τ).loc main_arg5) : S256.Idx → EReal) (ix1 d)) (fun d => (m ((c.tc : Thread nD τ).loc main_arg6) : S256.Idx → EReal) (ix1 d)) := by
  funext b t d
  unfold X1
  rw [W2_s m c hid, W2_q m c hid, W2_h m c hid, W2_v2_at, W2_v3_at]
  exact kbn_eq (L1 m c) (fun d => (m ((c.tc : Thread nD τ).loc main_arg5) : S256.Idx → EReal) (ix1 d)) (fun d => (m ((c.tc : Thread nD τ).loc main_arg6) : S256.Idx → EReal) (ix1 d)) (L1_real m c h2 h3 h4) (fun d => h5 _) b t d
theorem H1'_eq (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) : H1' (W2 m) c = L2 m c := by
  unfold H1' L2 m2
  rw [X1_eq m c hid h2 h3 h4 h5, W2_arg7]
  exact lin_congr rfl rfl (funext (W2_v4_at m c))
theorem W3_h (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) (b : Fin 8) (t : Fin 2048) (d : Fin 256) : (W3 m c (Proc.devRef .tc main_v12_0) : S8x2048x256.Idx → EReal) (ix3 b t d) = L2 m c b t d := by
  rw [← H1'_eq m c hid h2 h3 h4 h5]
  exact congrFun ((W3_main_v12_0 m c).trans (arr1_6 (W2 m) c)) (ix3 b t d)
theorem W3_s (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) (d : Fin 256) : (W3 m c (Proc.devRef .tc main_v12_1) : S8x256.Idx → EReal) (ix2 0 d) = tot (L2 m c) d := by
  rw [← H1'_eq m c hid h2 h3 h4 h5]
  exact (congrFun (W3_main_v12_1 m c) (ix2 0 d)).trans (arr1_7_row (W2 m) c d).1
theorem W3_q (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) (d : Fin 256) : (W3 m c (Proc.devRef .tc main_v12_1) : S8x256.Idx → EReal) (ix2 1 d) = tot (fun b t d => L2 m c b t d * L2 m c b t d) d := by
  rw [← H1'_eq m c hid h2 h3 h4 h5]
  exact (congrFun (W3_main_v12_1 m c) (ix2 1 d)).trans (arr1_7_row (W2 m) c d).2
theorem L2_real (h7 : ∀ i, ∃ r : ℝ, (m ((c.tc : Thread nD τ).loc main_arg7) : S256x256.Idx → EReal) i = (r : EReal)) (h8 : ∀ i, ∃ r : ℝ, (m ((c.tc : Thread nD τ).loc main_arg8) : S256.Idx → EReal) i = (r : EReal)) (b : Fin 8) (t : Fin 2048) (d : Fin 256) : ∃ r : ℝ, L2 m c b t d = r := by
  unfold L2 m2
  generalize bn (L1 m c) (fun d => (m ((c.tc : Thread nD τ).loc main_arg5) : S256.Idx → EReal) (ix1 d)) (fun d => (m ((c.tc : Thread nD τ).loc main_arg6) : S256.Idx → EReal) (ix1 d)) = G
  exact lin_real _ _ _ (fun b t k => spikes_real G b t k) (fun k d => h7 _) (fun d => h8 _) b t d
/-- Call 2's normalized activations. -/
theorem X2_eq (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) (h7 : ∀ i, ∃ r : ℝ, (m ((c.tc : Thread nD τ).loc main_arg7) : S256x256.Idx → EReal) i = (r : EReal)) (h8 : ∀ i, ∃ r : ℝ, (m ((c.tc : Thread nD τ).loc main_arg8) : S256.Idx → EReal) i = (r : EReal)) (h9 : ∀ i, ∃ r : ℝ, (m ((c.tc : Thread nD τ).loc main_arg9) : S256.Idx → EReal) i = (r : EReal)) : X2 (W3 m) c = bn (L2 m c) (fun d => (m ((c.tc : Thread nD τ).loc main_arg9) : S256.Idx → EReal) (ix1 d)) (fun d => (m ((c.tc : Thread nD τ).loc main_arg10) : S256.Idx → EReal) (ix1 d)) := by
  funext b t d
  unfold X2
  rw [W3_s m c hid h2 h3 h4 h5, W3_q m c hid h2 h3 h4 h5, W3_h m c hid h2 h3 h4 h5, W3_v5_at, W3_v6_at]
  exact kbn_eq (L2 m c) (fun d => (m ((c.tc : Thread nD τ).loc main_arg9) : S256.Idx → EReal) (ix1 d)) (fun d => (m ((c.tc : Thread nD τ).loc main_arg10) : S256.Idx → EReal) (ix1 d)) (L2_real m c h7 h8) (fun d => h9 _) b t d
theorem W7_spk (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) (h7 : ∀ i, ∃ r : ℝ, (m ((c.tc : Thread nD τ).loc main_arg7) : S256x256.Idx → EReal) i = (r : EReal)) (h8 : ∀ i, ∃ r : ℝ, (m ((c.tc : Thread nD τ).loc main_arg8) : S256.Idx → EReal) i = (r : EReal)) (h9 : ∀ i, ∃ r : ℝ, (m ((c.tc : Thread nD τ).loc main_arg9) : S256.Idx → EReal) i = (r : EReal)) (b : Fin 8) (t : Fin 2048) (d : Fin 256) : (W7 m c (Proc.devRef .tc main_v13_0) : S8x2048x256.Idx → EReal) (ix3 b t d) = L3 m c b t d := by
  unfold L3 m3
  rw [← X2_eq m c hid h2 h3 h4 h5 h7 h8 h9]
  exact congrFun ((W7_of m c main_v13_0 (by decide)).trans ((W6_of m c main_v13_0 (by decide)).trans ((W5_of m c main_v13_0 (by decide)).trans
    ((W4_main_v13_0 m c).trans (arr2_6 (W3 m) c))))) (ix3 b t d)
theorem H2'_eq (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) (h7 : ∀ i, ∃ r : ℝ, (m ((c.tc : Thread nD τ).loc main_arg7) : S256x256.Idx → EReal) i = (r : EReal)) (h8 : ∀ i, ∃ r : ℝ, (m ((c.tc : Thread nD τ).loc main_arg8) : S256.Idx → EReal) i = (r : EReal)) (h9 : ∀ i, ∃ r : ℝ, (m ((c.tc : Thread nD τ).loc main_arg9) : S256.Idx → EReal) i = (r : EReal)) : H2' (W3 m) c = lin (L3 m c) (fun k d => (m ((c.tc : Thread nD τ).loc main_arg11) : S256x1.Idx → EReal) (ix2 k d)) (fun d => (m ((c.tc : Thread nD τ).loc main_arg12) : S1.Idx → EReal) (ix1 d)) := by
  unfold H2' L3 m3
  rw [X2_eq m c hid h2 h3 h4 h5 h7 h8 h9, W3_arg11]
  exact lin_congr rfl rfl (funext (W3_v7_at m c))
theorem W5_logit (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) (h7 : ∀ i, ∃ r : ℝ, (m ((c.tc : Thread nD τ).loc main_arg7) : S256x256.Idx → EReal) i = (r : EReal)) (h8 : ∀ i, ∃ r : ℝ, (m ((c.tc : Thread nD τ).loc main_arg8) : S256.Idx → EReal) i = (r : EReal)) (h9 : ∀ i, ∃ r : ℝ, (m ((c.tc : Thread nD τ).loc main_arg9) : S256.Idx → EReal) i = (r : EReal)) (b : Fin 8) (t : Fin 2048) : (W5 m c (Proc.devRef .tc main_v14) : S8x2048.Idx → EReal) (ix2 b t) = lin (L3 m c) (fun k d => (m ((c.tc : Thread nD τ).loc main_arg11) : S256x1.Idx → EReal) (ix2 k d)) (fun d => (m ((c.tc : Thread nD τ).loc main_arg12) : S1.Idx → EReal) (ix1 d)) b t 0 := by
  rw [W5_v14_at, ← H2'_eq m c hid h2 h3 h4 h5 h7 h8 h9]
  exact congrFun ((W4_main_v13_1 m c).trans (arr2_7 (W3 m) c)) (ix3 b t 0)
theorem T3_eq (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) (h7 : ∀ i, ∃ r : ℝ, (m ((c.tc : Thread nD τ).loc main_arg7) : S256x256.Idx → EReal) i = (r : EReal)) (h8 : ∀ i, ∃ r : ℝ, (m ((c.tc : Thread nD τ).loc main_arg8) : S256.Idx → EReal) i = (r : EReal)) (h9 : ∀ i, ∃ r : ℝ, (m ((c.tc : Thread nD τ).loc main_arg9) : S256.Idx → EReal) i = (r : EReal)) : T3 (W5 m) c = L4 m c := by
  unfold T3 L4 m4
  rw [W5_arg1]
  simp only [W5_logit m c hid h2 h3 h4 h5 h7 h8 h9]
theorem W7_tid (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) (h7 : ∀ i, ∃ r : ℝ, (m ((c.tc : Thread nD τ).loc main_arg7) : S256x256.Idx → EReal) i = (r : EReal)) (h8 : ∀ i, ∃ r : ℝ, (m ((c.tc : Thread nD τ).loc main_arg8) : S256.Idx → EReal) i = (r : EReal)) (h9 : ∀ i, ∃ r : ℝ, (m ((c.tc : Thread nD τ).loc main_arg9) : S256.Idx → EReal) i = (r : EReal)) (b : Fin 8) (t : Fin 2048) : (W7 m c (Proc.devRef .tc main_v16) : S8x1x2048.Idx → BitVec 32) (ix3 b 0 t) = L4 m c b t := by
  rw [W7_v16_at, ← T3_eq m c hid h2 h3 h4 h5 h7 h8 h9]
  exact congrFun ((W6_main_v15 m c).trans (arr3_2 (W5 m) c)) (ix2 b t)
theorem Y4_eq (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) (h7 : ∀ i, ∃ r : ℝ, (m ((c.tc : Thread nD τ).loc main_arg7) : S256x256.Idx → EReal) i = (r : EReal)) (h8 : ∀ i, ∃ r : ℝ, (m ((c.tc : Thread nD τ).loc main_arg8) : S256.Idx → EReal) i = (r : EReal)) (h9 : ∀ i, ∃ r : ℝ, (m ((c.tc : Thread nD τ).loc main_arg9) : S256.Idx → EReal) i = (r : EReal)) : Y4 (W7 m) c = L5 m c := by
  unfold Y4 P4 L5 m5
  rw [W7_arg15]
  exact ln_congr (lin_congr (congrArg₂ Spec.pool (funext fun b => funext fun t => W7_tid m c hid h2 h3 h4 h5 h7 h8 h9 b t)
    (funext fun b => funext fun t => funext fun d => W7_spk m c hid h2 h3 h4 h5 h7 h8 h9 b t d)) rfl (funext (W7_v8_at m c)))
    (funext (W7_v9_at m c)) (funext (W7_v10_at m c))
/-- What the kernel leaves in its result. -/
theorem kernel_at (hid : IdsA m c) (h2 : ∀ i, ∃ r : ℝ, (m ((c.tc : Thread nD τ).loc main_arg2) : S256x128.Idx → EReal) i = (r : EReal)) (h3 : ∀ i, ∃ r : ℝ, (m ((c.tc : Thread nD τ).loc main_arg3) : S128x256.Idx → EReal) i = (r : EReal)) (h4 : ∀ i, ∃ r : ℝ, (m ((c.tc : Thread nD τ).loc main_arg4) : S256.Idx → EReal) i = (r : EReal)) (h5 : ∀ i, ∃ r : ℝ, (m ((c.tc : Thread nD τ).loc main_arg5) : S256.Idx → EReal) i = (r : EReal)) (h7 : ∀ i, ∃ r : ℝ, (m ((c.tc : Thread nD τ).loc main_arg7) : S256x256.Idx → EReal) i = (r : EReal)) (h8 : ∀ i, ∃ r : ℝ, (m ((c.tc : Thread nD τ).loc main_arg8) : S256.Idx → EReal) i = (r : EReal)) (h9 : ∀ i, ∃ r : ℝ, (m ((c.tc : Thread nD τ).loc main_arg9) : S256.Idx → EReal) i = (r : EReal)) : (W8 m c (Proc.devRef .tc main_v17) : S8x2048x768.Idx → EReal) = fun i => L5 m c (i 0) (i 1) (i 2) := by
  rw [← Y4_eq m c hid h2 h3 h4 h5 h7 h8 h9]
  exact (W8_main_v17 m c).trans (arr4_6 (W7 m) c)

end Cert.KernelIdeal.Val

end
-- ==== Proof.V.Alg.lean ====
module

public import Idealize.ShloMosaic.Lib.Claim
public import proofs.«01_k».proof.Proof.V.Pre
public import proofs.«01_k».proof.Proof.V.R7
public import proofs.«01_k».proof.Proof.V.KAll

@[expose] public section

set_option maxRecDepth 16384

noncomputable section

namespace Cert.Proof

open Idealize.ShloMosaic Idealize.ShloMosaic.TcCoe Idealize.SL.Sem

section
variable (m : (ℓ : Loc Cert.KernelIdeal.nD Cert.KernelIdeal.τ Cert.KernelIdeal.sig) → Buf (Elt Ideal) ℓ) (c : Dev Cert.KernelIdeal.nD)

/-- The reference's term over the kernel's arguments is what the kernel leaves. -/
theorem values_meet (h : Cert.Pre_KernelIdeal_tame m) :
    Cert.ReferenceIdeal.Read.val_main_v464 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))
      = Cert.KernelIdeal.Calls.W8 m c (Proc.devRef .tc Cert.KernelIdeal.main_v17) := by
  obtain ⟨hi, h2, h3, h4, h5, h7, h8, h9⟩ := tame_of _ _ _ _ _ _ _ _ _ _ _ _ _ _ _ _ _ _ _ (h c)
  refine (Cert.ReferenceIdeal.Val.ref_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) hi).trans (Eq.trans ?_ (Cert.KernelIdeal.Val.kernel_at m c hi h2 h3 h4 h5 h7 h8 h9).symm)
  funext i
  rfl
end

/-- From launched arguments that agree, the kernel and the reference end with one result. -/
theorem algebraic : Cert.algebraic_KernelIdeal_ReferenceIdeal_pre_tame := by
  intro m g m' g' hpre hagree
  refine ⟨fun c => Cert.KernelIdeal.Calls.W8 m c (Proc.devRef .tc Cert.KernelIdeal.main_v17),
    (θ_run Cert.KernelIdeal.defs _ _).mono (fun r h => h.1) (Cert.KernelIdeal.Calls.run_main (F := Ideal) m g),
    (θ_run Cert.ReferenceIdeal.defs _ _).mono (fun r h c => ⟨(h c).1.trans ?_, (h c).2⟩) (Cert.ReferenceIdeal.Value.run (F := Ideal) m' g')⟩
  refine (Cert.ReferenceIdeal.Read.val_main_v464_eq (F := Ideal) (StableHlo.launchContents m' c)).trans (Eq.trans ?_ (values_meet m c hpre))
  obtain ⟨q0, q1, q2, q3, q4, q5, q6, q7, q8, q9, q10, q11, q12, q13, q14, q15, q16, q17, q18⟩ := hagree c
  have key : Cert.ReferenceIdeal.Read.val_main_v464 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) = Cert.ReferenceIdeal.Read.val_main_v464 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) := by
    rw [q0, q1, q2, q3, q4, q5, q6, q7, q8, q9, q10, q11, q12, q15, q16, q17, q18]
  exact key

end Cert.Proof

end
-- ==== Proof.lean ====
module

public import proofs.«01_k».proof.Defs
public import proofs.«01_k».proof.Proof.Frames
public import proofs.«01_k».proof.Proof.Gen.ReferenceIdeal.Read
public import proofs.«01_k».proof.Proof.V.Alg

@[expose] public section

noncomputable section

namespace Cert.Proof

open Idealize.ShloMosaic Idealize.SL.Sem

/-- All claims about the kernel and its reference. -/
theorem claim : Cert.Claim :=
  ⟨Cert.Kernel.Gen.facts, Cert.KernelIdeal.Gen.facts, Cert.ReferenceIdeal.Gen.facts, tameFacts,
    frame_kernel, frame_kernel_ideal, fun m g _ => frame_kernel_ideal m g trivial,
    frame_reference_ideal, fun m g _ => frame_reference_ideal m g trivial, trivial, algebraic⟩

end Cert.Proof

end
